-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_plan_valid : Cert.Pre_plan_valid.Facts] (m : (ℓ : Loc Cert.Kernel2.nD Cert.Kernel2.τ Cert.Kernel2.sig) → Buf (Elt Bits) ℓ) : Prop :=
  ∀ c : Dev Cert.Kernel2.nD,
    (Cert.Pre_plan_valid.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_plan_valid : Cert.Pre_plan_valid.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan_valid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_plan_valid [hPre_plan_valid : Cert.Pre_plan_valid.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan_valid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_plan_valid : Cert.Pre_plan_valid.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_plan_valid : Cert.Pre_plan_valid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_plan_valid [hReference2Ideal : Cert.Reference2Ideal.Facts] [hPre_plan_valid : Cert.Pre_plan_valid.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_plan_valid m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_plan_valid : Cert.Pre_plan_valid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "inv_alpha" .f32 0x3F3504F3#32 (((Real.sqrt 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts) (hPre_plan_valid : Cert.Pre_plan_valid.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_plan_valid := hPre_plan_valid)
    ∧ quiescent_Kernel2Ideal (hKernel2Ideal := hKernel2Ideal) (hPre_plan_valid := hPre_plan_valid)
    ∧ quiescent_Reference2Ideal (hReference2Ideal := hReference2Ideal)
    ∧ quiescent_Reference2Ideal_pre_plan_valid (hReference2Ideal := hReference2Ideal) (hPre_plan_valid := hPre_plan_valid)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_plan_valid := hPre_plan_valid)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_plan_valid.lean ====
abbrev S160 : Shape := ⟨1, ![160]⟩
abbrev S1 : Shape := ⟨1, ![1]⟩
abbrev S327680x128 : Shape := ⟨2, ![327680, 128]⟩
abbrev S4x8x1024x512 : Shape := ⟨4, ![4, 8, 1024, 512]⟩
abbrev S4x8x256x1024 : Shape := ⟨4, ![4, 8, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S327680x128 .f32) (main_arg3 : FVec F S4x8x1024x512 .f32) (main_arg4 : FVec F S4x8x256x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_scores_finite.lean ====
abbrev S16384x1536 : Shape := ⟨2, ![16384, 1536]⟩
abbrev S16 : Shape := ⟨1, ![16]⟩
abbrev S16384x1280 : Shape := ⟨2, ![16384, 1280]⟩
abbrev S_ : Shape := ⟨0, ![]⟩

class Facts : Prop where
  slices_S16384x1536_S16384x1280_0_0 : S16384x1536.Slices ![0, 0] S16384x1280
  bitsLt_bf16_f32 : FTy.bits .bf16 < FTy.bits .f32
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x1536 .bf16) (main_arg1 : FVec F S16 .f32) : IVec S_ 1 :=
  let main_v0 : FVec F S16384x1280 .bf16 := (extractStridedSlice S16384x1280 ![0, 0] · slices_S16384x1536_S16384x1280_0_0) main_arg0
  let main_v1 : FVec F S16384x1280 .f32 := (extf .f32 · bitsLt_bf16_f32) main_v0
  let main_v2 : FVec F S16384x1280 .f32 := Host.absf main_v1
  let main_cst : FVec F S_ .f32 := constant S_ .f32 0x7F800000#32
  let main_v3 : FVec F S16384x1280 .f32 := broadcastInDim S16384x1280 ![] bcast_S_S16384x1280 main_cst
  let main_v4 : IVec S16384x1280 1 := cmpf .olt main_v2 main_v3
  let main_c : IVec S_ 1 := constantI S_ 1 1#1
  let main_v5 : IVec S_ 1 := (fun x v => Host.reduce IntOp.andi x v reducesTo_S16384x1280_S_d0_1 h_S_) main_v4 main_c
  let main_cst_0 : FVec F S_ .f32 := constant S_ .f32 0x7F800000#32
  let main_v6 : FVec F S16 .f32 := broadcastInDim S16 ![] bcast_S_S16 main_cst_0
  let main_v7 : IVec S16 1 := cmpf .olt main_arg1 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v5 main_v8
  main_v9
-- ==== Kernel.lean ====
abbrev S16384x1536 : Shape := ⟨2, ![16384, 1536]⟩
abbrev S16 : Shape := ⟨1, ![16]⟩
abbrev S16384x1024 : Shape := ⟨2, ![16384, 1024]⟩
abbrev S1024x1024 : Shape := ⟨2, ![1024, 1024]⟩
abbrev S1024x512 : Shape := ⟨2, ![1024, 512]⟩
abbrev S2x8x128x128 : Shape := ⟨4, ![2, 8, 128, 128]⟩
abbrev S2x4x128x256 : Shape := ⟨4, ![2, 4, 128, 256]⟩
abbrev S16x128x256 : Shape := ⟨3, ![16, 128, 256]⟩
abbrev S8x128x128 : Shape := ⟨3, ![8, 128, 128]⟩
abbrev S1x8x128x128 : Shape := ⟨4, ![1, 8, 128, 128]⟩
abbrev S4x128x128 : Shape := ⟨3, ![4, 128, 128]⟩
abbrev S4x128x256 : Shape := ⟨3, ![4, 128, 256]⟩
abbrev S1x4x128x256 : Shape := ⟨4, ![1, 4, 128, 256]⟩
abbrev S128x512 : Shape := ⟨2, ![128, 512]⟩
abbrev S128x128 : Shape := ⟨2, ![128, 128]⟩
abbrev S1x1x128x128 : Shape := ⟨4, ![1, 1, 128, 128]⟩
abbrev S128x256 : Shape := ⟨2, ![128, 256]⟩
abbrev S1x1x128x256 : Shape := ⟨4, ![1, 1, 128, 256]⟩
abbrev S128x1024 : Shape := ⟨2, ![128, 1024]⟩
abbrev S256x128 : Shape := ⟨2, ![256, 128]⟩
abbrev S256x256 : Shape := ⟨2, ![256, 256]⟩
abbrev S1x128x256 : Shape := ⟨3, ![1, 128, 256]⟩
abbrev S1x256 : Shape := ⟨2, ![1, 256]⟩
abbrev S1 : Shape := ⟨1, ![1]⟩
abbrev S128 : Shape := ⟨1, ![128]⟩
abbrev S128x1 : Shape := ⟨2, ![128, 1]⟩
abbrev S16x256 : Shape := ⟨2, ![16, 256]⟩
abbrev S112x256 : Shape := ⟨2, ![112, 256]⟩
abbrev S512x256 : Shape := ⟨2, ![512, 256]⟩

abbrev nBuf : Space → Nat
  | .hbm => 3
  | .vmem => 10
  | .smem => 1
  | _ => 0

abbrev bufTy : (tb : Table) → Fin (tcTables nBuf tb) → BufTy
  | .hbm, ⟨0, _⟩ => ⟨S16384x1536, .bf16⟩
  | .hbm, ⟨1, _⟩ => ⟨S16, .f32⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2x8x128x128, .bf16⟩
  | .local _ .vmem, ⟨7, _⟩ => ⟨S2x4x128x256, .bf16⟩
  | .local _ .vmem, ⟨8, _⟩ => ⟨S16x128x256, .f32⟩
  | .local _ .vmem, ⟨9, _⟩ => ⟨S16x128x256, .bf16⟩
  | .local _ .smem, ⟨0, _⟩ => ⟨S16, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x1536 : Shape := ⟨2, ![16384, 1536]⟩
abbrev S16 : Shape := ⟨1, ![16]⟩
abbrev S2x8192x1536 : Shape := ⟨3, ![2, 8192, 1536]⟩
abbrev S2x8192x1024 : Shape := ⟨3, ![2, 8192, 1024]⟩
abbrev S2x8192x256 : Shape := ⟨3, ![2, 8192, 256]⟩
abbrev S2x8192x16x64 : Shape := ⟨4, ![2, 8192, 16, 64]⟩
abbrev S2x8192x4x64 : Shape := ⟨4, ![2, 8192, 4, 64]⟩
abbrev S2x64x128x4x4x64 : Shape := ⟨6, ![2, 64, 128, 4, 4, 64]⟩
abbrev S2x64x128x4x64 : Shape := ⟨5, ![2, 64, 128, 4, 64]⟩
abbrev S_ : Shape := ⟨0, ![]⟩
abbrev S2x65x128x4x64 : Shape := ⟨5, ![2, 65, 128, 4, 64]⟩
abbrev S2x64x256x4x64 : Shape := ⟨5, ![2, 64, 256, 4, 64]⟩
abbrev S2x64x4x256x128x4 : Shape := ⟨6, ![2, 64, 4, 256, 128, 4]⟩
abbrev S2x64x4x4x128x256 : Shape := ⟨6, ![2, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x4x4x1x1 : Shape := ⟨6, ![1, 1, 4, 4, 1, 1]⟩
abbrev S2x64x4x4x128 : Shape := ⟨5, ![2, 64, 4, 4, 128]⟩
abbrev S2x64x4x4x128x1 : Shape := ⟨6, ![2, 64, 4, 4, 128, 1]⟩
abbrev S2x64x4x64x4x128 : Shape := ⟨6, ![2, 64, 4, 64, 4, 128]⟩
abbrev S16384x1024 : Shape := ⟨2, ![16384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16, .f32⟩
  | .hbm, ⟨2, _⟩ => ⟨S16384x1536, .f32⟩
  | .hbm, ⟨3, _⟩ => ⟨S2x8192x1536, .f32⟩
  | .hbm, ⟨4, _⟩ => ⟨S2x8192x1024, .f32⟩
  | .hbm, ⟨5, _⟩ => ⟨S2x8192x256, .f32⟩
  | .hbm, ⟨6, _⟩ => ⟨S2x8192x256, .f32⟩
  | .hbm, ⟨7, _⟩ => ⟨S2x8192x16x64, .f32⟩
  | .hbm, ⟨8, _⟩ => ⟨S2x8192x4x64, .f32⟩
  | .hbm, ⟨9, _⟩ => ⟨S2x8192x4x64, .f32⟩
  | .hbm, ⟨10, _⟩ => ⟨S2x64x128x4x4x64, .f32⟩
  | .hbm, ⟨11, _⟩ => ⟨S2x64x128x4x64, .f32⟩
  | .hbm, ⟨12, _⟩ => ⟨S_, .i32⟩
  | .hbm, ⟨13, _⟩ => ⟨S_, .f32⟩
  | .hbm, ⟨14, _⟩ => ⟨S2x65x128x4x64, .f32⟩
  | .hbm, ⟨15, _⟩ => ⟨S2x64x128x4x64, .f32⟩
  | .hbm, ⟨16, _⟩ => ⟨S2x64x256x4x64, .f32⟩
  | .hbm, ⟨17, _⟩ => ⟨S2x64x128x4x64, .f32⟩
  | .hbm, ⟨18, _⟩ => ⟨S_, .i32⟩
  | .hbm, ⟨19, _⟩ => ⟨S_, .f32⟩
  | .hbm, ⟨20, _⟩ => ⟨S2x65x128x4x64, .f32⟩
  | .hbm, ⟨21, _⟩ => ⟨S2x64x128x4x64, .f32⟩
  | .hbm, ⟨22, _⟩ => ⟨S2x64x256x4x64, .f32⟩
  | .hbm, ⟨23, _⟩ => ⟨S2x64x4x256x128x4, .f32⟩
  | .hbm, ⟨24, _⟩ => ⟨S2x64x4x4x128x256, .f32⟩
  | .hbm, ⟨25, _⟩ => ⟨S128, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S1x128x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S1x64x1x1x128x256, .i1⟩
  | .hbm, ⟨59, _⟩ => ⟨S_, .f32⟩
  | .hbm, ⟨60, _⟩ => ⟨S_, .f32⟩
  | .hbm, ⟨61, _⟩ => ⟨S2x64x4x4x128x256, .i1⟩
  | .hbm, ⟨62, _⟩ => ⟨S2x64x4x4x128x256, .f32⟩
  | .hbm, ⟨63, _⟩ => ⟨S2x64x4x4x128x256, .f32⟩
  | .hbm, ⟨64, _⟩ => ⟨S1x1x4x4x1x1, .f32⟩
  | .hbm, ⟨65, _⟩ => ⟨S_, .f32⟩
  | .hbm, ⟨66, _⟩ => ⟨S2x64x4x4x128, .f32⟩
  | .hbm, ⟨67, _⟩ => ⟨S2x64x4x4x128x1, .f32⟩
  | .hbm, ⟨68, _⟩ => ⟨S2x64x4x4x128x1, .f32⟩
  | .hbm, ⟨69, _⟩ => ⟨S2x64x4x4x128x1, .f32⟩
  | .hbm, ⟨70, _⟩ => ⟨S2x64x4x4x128x256, .f32⟩
  | .hbm, ⟨71, _⟩ => ⟨S2x64x4x4x128x256, .f32⟩
  | .hbm, ⟨72, _⟩ => ⟨S2x64x4x4x128x256, .f32⟩
  | .hbm, ⟨73, _⟩ => ⟨S_, .f32⟩
  | .hbm, ⟨74, _⟩ => ⟨S2x64x4x4x128, .f32⟩
  | .hbm, ⟨75, _⟩ => ⟨S2x64x4x4x128x1, .f32⟩
  | .hbm, ⟨76, _⟩ => ⟨S2x64x4x4x128x1, .f32⟩
  | .hbm, ⟨77, _⟩ => ⟨S2x64x4x4x128x1, .f32⟩
  | .hbm, ⟨78, _⟩ => ⟨S2x64x4x4x128x1, .f32⟩
  | .hbm, ⟨79, _⟩ => ⟨S2x64x4x4x128x1, .f32⟩
  | .hbm, ⟨80, _⟩ => ⟨S2x64x4x4x128x256, .f32⟩
  | .hbm, ⟨81, _⟩ => ⟨S2x64x4x4x128x256, .f32⟩
  | .hbm, ⟨82, _⟩ => ⟨S2x64x4x64x4x128, .f32⟩
  | .hbm, ⟨83, _⟩ => ⟨S2x64x128x4x4x64, .f32⟩
  | .hbm, ⟨84, _⟩ => ⟨S16384x1024, .f32⟩
  | .hbm, ⟨85, _⟩ => ⟨S16384x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S327680x128 : Shape := ⟨2, ![327680, 128]⟩
abbrev S4x8x1024x512 : Shape := ⟨4, ![4, 8, 1024, 512]⟩
abbrev S4x8x256x1024 : Shape := ⟨4, ![4, 8, 256, 1024]⟩
abbrev S32x1024x512 : Shape := ⟨3, ![32, 1024, 512]⟩
abbrev S32x256x1024 : Shape := ⟨3, ![32, 256, 1024]⟩
abbrev S2048x128 : Shape := ⟨2, ![2048, 128]⟩
abbrev S1x1024x512 : Shape := ⟨3, ![1, 1024, 512]⟩
abbrev S1x256x1024 : Shape := ⟨3, ![1, 256, 1024]⟩
abbrev S1024x512 : Shape := ⟨2, ![1024, 512]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩

abbrev nBuf : Space → Nat
  | .hbm => 6
  | .vmem => 10
  | .smem => 2
  | _ => 0

abbrev bufTy : (tb : Table) → Fin (tcTables nBuf tb) → BufTy
  | .hbm, ⟨0, _⟩ => ⟨S327680x128, .f32⟩
  | .hbm, ⟨1, _⟩ => ⟨S4x8x1024x512, .f32⟩
  | .hbm, ⟨2, _⟩ => ⟨S4x8x256x1024, .f32⟩
  | .hbm, ⟨3, _⟩ => ⟨S32x1024x512, .f32⟩
  | .hbm, ⟨4, _⟩ => ⟨S32x256x1024, .f32⟩
  | .hbm, ⟨5, _⟩ => ⟨S327680x128, .f32⟩
  | .local _ .vmem, ⟨0, _⟩ => ⟨S2048x128, .f32⟩
  | .local _ .vmem, ⟨1, _⟩ => ⟨S2048x128, .f32⟩
  | .local _ .vmem, ⟨2, _⟩ => ⟨S1x1024x512, .f32⟩
  | .local _ .vmem, ⟨3, _⟩ => ⟨S1x1024x512, .f32⟩
  | .local _ .vmem, ⟨4, _⟩ => ⟨S1x256x1024, .f32⟩
  | .local _ .vmem, ⟨5, _⟩ => ⟨S1x256x1024, .f32⟩
  | .local _ .vmem, ⟨6, _⟩ => ⟨S2048x128, .f32⟩
  | .local _ .vmem, ⟨7, _⟩ => ⟨S2048x128, .f32⟩
  | .local _ .vmem, ⟨8, _⟩ => ⟨S1024x512, .bf16⟩
  | .local _ .vmem, ⟨9, _⟩ => ⟨S256x1024, .bf16⟩
  | .local _ .smem, ⟨0, _⟩ => ⟨S160, .i32⟩
  | .local _ .smem, ⟨1, _⟩ => ⟨S1, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S160 : Shape := ⟨1, ![160]⟩
abbrev S1 : Shape := ⟨1, ![1]⟩
abbrev S327680x128 : Shape := ⟨2, ![327680, 128]⟩
abbrev S4x8x1024x512 : Shape := ⟨4, ![4, 8, 1024, 512]⟩
abbrev S4x8x256x1024 : Shape := ⟨4, ![4, 8, 256, 1024]⟩
abbrev S40960x1024 : Shape := ⟨2, ![40960, 1024]⟩
abbrev S160x1 : Shape := ⟨2, ![160, 1]⟩
abbrev S160x256 : Shape := ⟨2, ![160, 256]⟩
abbrev S40960 : Shape := ⟨1, ![40960]⟩
abbrev S40960x1 : Shape := ⟨2, ![40960, 1]⟩
abbrev S32 : Shape := ⟨1, ![32]⟩
abbrev S1x32 : Shape := ⟨2, ![1, 32]⟩
abbrev S40960x32 : Shape := ⟨2, ![40960, 32]⟩
abbrev S32x1024x512 : Shape := ⟨3, ![32, 1024, 512]⟩
abbrev S40960x32x512 : Shape := ⟨3, ![40960, 32, 512]⟩
abbrev S40960x32x256 : Shape := ⟨3, ![40960, 32, 256]⟩
abbrev S_ : Shape := ⟨0, ![]⟩
abbrev S40960x32x1 : Shape := ⟨3, ![40960, 32, 1]⟩
abbrev S32x256x1024 : Shape := ⟨3, ![32, 256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S327680x128, .f32⟩
  | .hbm, ⟨3, _⟩ => ⟨S4x8x1024x512, .f32⟩
  | .hbm, ⟨4, _⟩ => ⟨S4x8x256x1024, .f32⟩
  | .hbm, ⟨5, _⟩ => ⟨S40960x1024, .f32⟩
  | .hbm, ⟨6, _⟩ => ⟨S160x1, .i32⟩
  | .hbm, ⟨7, _⟩ => ⟨S160x256, .i32⟩
  | .hbm, ⟨8, _⟩ => ⟨S40960, .i32⟩
  | .hbm, ⟨9, _⟩ => ⟨S160, .i32⟩
  | .hbm, ⟨10, _⟩ => ⟨S160, .i32⟩
  | .hbm, ⟨11, _⟩ => ⟨S160, .i1⟩
  | .hbm, ⟨12, _⟩ => ⟨S160x1, .i1⟩
  | .hbm, ⟨13, _⟩ => ⟨S160x256, .i1⟩
  | .hbm, ⟨14, _⟩ => ⟨S40960, .i1⟩
  | .hbm, ⟨15, _⟩ => ⟨S40960x1, .i32⟩
  | .hbm, ⟨16, _⟩ => ⟨S32, .i32⟩
  | .hbm, ⟨17, _⟩ => ⟨S1x32, .i32⟩
  | .hbm, ⟨18, _⟩ => ⟨S40960x32, .i32⟩
  | .hbm, ⟨19, _⟩ => ⟨S40960x32, .i32⟩
  | .hbm, ⟨20, _⟩ => ⟨S40960x32, .i1⟩
  | .hbm, ⟨21, _⟩ => ⟨S40960x1, .i1⟩
  | .hbm, ⟨22, _⟩ => ⟨S40960x32, .i1⟩
  | .hbm, ⟨23, _⟩ => ⟨S40960x32, .i1⟩
  | .hbm, ⟨24, _⟩ => ⟨S40960x32, .f32⟩
  | .hbm, ⟨25, _⟩ => ⟨S32x1024x512, .f32⟩
  | .hbm, ⟨26, _⟩ => ⟨S40960x32x512, .f32⟩
  | .hbm, ⟨27, _⟩ => ⟨S40960x32x256, .f32⟩
  | .hbm, ⟨28, _⟩ => ⟨S40960x32x256, .f32⟩
  | .hbm, ⟨29, _⟩ => ⟨S40960x32x256, .f32⟩
  | .hbm, ⟨30, _⟩ => ⟨S40960x32x256, .f32⟩
  | .hbm, ⟨31, _⟩ => ⟨S_, .f32⟩
  | .hbm, ⟨32, _⟩ => ⟨S40960x32x256, .f32⟩
  | .hbm, ⟨33, _⟩ => ⟨S40960x32x256, .f32⟩
  | .hbm, ⟨34, _⟩ => ⟨S_, .f32⟩
  | .hbm, ⟨35, _⟩ => ⟨S40960x32x256, .f32⟩
  | .hbm, ⟨36, _⟩ => ⟨S40960x32x256, .f32⟩
  | .hbm, ⟨37, _⟩ => ⟨S40960x32x256, .f32⟩
  | .hbm, ⟨38, _⟩ => ⟨S40960x32x256, .f32⟩
  | .hbm, ⟨39, _⟩ => ⟨S40960x32x1, .f32⟩
  | .hbm, ⟨40, _⟩ => ⟨S40960x32x256, .f32⟩
  | .hbm, ⟨41, _⟩ => ⟨S40960x32x256, .f32⟩
  | .hbm, ⟨42, _⟩ => ⟨S32x256x1024, .f32⟩
  | .hbm, ⟨43, _⟩ => ⟨S40960x1024, .f32⟩
  | .hbm, ⟨44, _⟩ => ⟨S327680x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2x16384 : Shape := ⟨2, ![2, 16384]⟩
abbrev S16384x1024 : Shape := ⟨2, ![16384, 1024]⟩
abbrev S2x1x6144 : Shape := ⟨3, ![2, 1, 6144]⟩
abbrev S1024 : Shape := ⟨1, ![1024]⟩
abbrev S131072x128 : Shape := ⟨2, ![131072, 128]⟩
abbrev S1x1024 : Shape := ⟨2, ![1, 1024]⟩
abbrev S2x1024 : Shape := ⟨2, ![2, 1024]⟩
abbrev S1024x1024 : Shape := ⟨2, ![1024, 1024]⟩
abbrev S1x1x6144 : Shape := ⟨3, ![1, 1, 6144]⟩
abbrev S4096x128 : Shape := ⟨2, ![4096, 128]⟩
abbrev S1x256 : Shape := ⟨2, ![1, 256]⟩
abbrev S128x256 : Shape := ⟨2, ![128, 256]⟩
abbrev S256x128 : Shape := ⟨2, ![256, 128]⟩
abbrev S256x1024 : Shape := ⟨2, ![256, 1024]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x16384, .f32⟩
  | .hbm, ⟨1, _⟩ => ⟨S16384x1024, .f32⟩
  | .hbm, ⟨2, _⟩ => ⟨S2x1x6144, .f32⟩
  | .hbm, ⟨3, _⟩ => ⟨S1024, .f32⟩
  | .hbm, ⟨4, _⟩ => ⟨S1024, .f32⟩
  | .hbm, ⟨5, _⟩ => ⟨S131072x128, .i32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S2x1024, .f32⟩
  | .local _ .vmem, ⟨1, _⟩ => ⟨S2x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1x1024, .f32⟩
  | .local _ .vmem, ⟨8, _⟩ => ⟨S4096x128, .i32⟩
  | .local _ .vmem, ⟨9, _⟩ => ⟨S4096x128, .i32⟩
  | .local _ .vmem, ⟨10, _⟩ => ⟨S4096x128, .i32⟩
  | .local _ .vmem, ⟨11, _⟩ => ⟨S4096x128, .i32⟩
  | .local _ .vmem, ⟨12, _⟩ => ⟨S1024x1024, .f32⟩
  | .local _ .vmem, ⟨13, _⟩ => ⟨S1024x1024, .f32⟩
  | _, _ => ⟨S2x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "inv_alpha" => some (((Real.sqrt 2)⁻¹ : ℝ) : EReal)
  | _ => none
-- ==== Reference3Ideal.lean ====
abbrev S2x16384 : Shape := ⟨2, ![2, 16384]⟩
abbrev S16384x1024 : Shape := ⟨2, ![16384, 1024]⟩
abbrev S2x1x6144 : Shape := ⟨3, ![2, 1, 6144]⟩
abbrev S1024 : Shape := ⟨1, ![1024]⟩
abbrev S131072x128 : Shape := ⟨2, ![131072, 128]⟩
abbrev S2x16384x512 : Shape := ⟨3, ![2, 16384, 512]⟩
abbrev S_ : Shape := ⟨0, ![]⟩
abbrev S2x16384x1024 : Shape := ⟨3, ![2, 16384, 1024]⟩
abbrev S1x16384 : Shape := ⟨2, ![1, 16384]⟩
abbrev S16384 : Shape := ⟨1, ![16384]⟩
abbrev S16384x1 : Shape := ⟨2, ![16384, 1]⟩
abbrev S1x16384x1024 : Shape := ⟨3, ![1, 16384, 1024]⟩
abbrev S2x8192x1024 : Shape := ⟨3, ![2, 8192, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x16384, .f32⟩
  | .hbm, ⟨1, _⟩ => ⟨S16384x1024, .f32⟩
  | .hbm, ⟨2, _⟩ => ⟨S2x1x6144, .f32⟩
  | .hbm, ⟨3, _⟩ => ⟨S1024, .f32⟩
  | .hbm, ⟨4, _⟩ => ⟨S1024, .f32⟩
  | .hbm, ⟨5, _⟩ => ⟨S131072x128, .i32⟩
  | .hbm, ⟨6, _⟩ => ⟨S2x16384x512, .i32⟩
  | .hbm, ⟨7, _⟩ => ⟨S_, .i32⟩
  | .hbm, ⟨8, _⟩ => ⟨S2x16384x512, .i32⟩
  | .hbm, ⟨9, _⟩ => ⟨S2x16384x512, .i32⟩
  | .hbm, ⟨10, _⟩ => ⟨S2x16384x512, .f32⟩
  | .hbm, ⟨11, _⟩ => ⟨S_, .i32⟩
  | .hbm, ⟨12, _⟩ => ⟨S2x16384x512, .i32⟩
  | .hbm, ⟨13, _⟩ => ⟨S2x16384x512, .i32⟩
  | .hbm, ⟨14, _⟩ => ⟨S2x16384x512, .f32⟩
  | .hbm, ⟨15, _⟩ => ⟨S2x16384x1024, .f32⟩
  | .hbm, ⟨16, _⟩ => ⟨S1x16384, .f32⟩
  | .hbm, ⟨17, _⟩ => ⟨S16384, .f32⟩
  | .hbm, ⟨18, _⟩ => ⟨S16384x1, .f32⟩
  | .hbm, ⟨19, _⟩ => ⟨S1x16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1x16384, .f32⟩
  | .hbm, ⟨24, _⟩ => ⟨S16384, .f32⟩
  | .hbm, ⟨25, _⟩ => ⟨S16384x1, .f32⟩
  | .hbm, ⟨26, _⟩ => ⟨S1x16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S2x8192x1024, .f32⟩
  | .hbm, ⟨32, _⟩ => ⟨S2x1x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | _, _ => ⟨S2x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel4.lean ====
abbrev S16384x1024 : Shape := ⟨2, ![16384, 1024]⟩
abbrev S2x1x6144 : Shape := ⟨3, ![2, 1, 6144]⟩
abbrev S2x8192 : Shape := ⟨2, ![2, 8192]⟩
abbrev S1024x1536 : Shape := ⟨2, ![1024, 1536]⟩
abbrev S1536 : Shape := ⟨1, ![1536]⟩
abbrev S32 : Shape := ⟨1, ![32]⟩
abbrev S_ : Shape := ⟨0, ![]⟩
abbrev S16x1x1024 : Shape := ⟨3, ![16, 1, 1024]⟩
abbrev S1x1536 : Shape := ⟨2, ![1, 1536]⟩
abbrev S32x1 : Shape := ⟨2, ![32, 1]⟩
abbrev S16384x1536 : Shape := ⟨2, ![16384, 1536]⟩
abbrev S1024x1024 : Shape := ⟨2, ![1024, 1024]⟩
abbrev S1x1x6144 : Shape := ⟨3, ![1, 1, 6144]⟩
abbrev S1x1x1024 : Shape := ⟨3, ![1, 1, 1024]⟩
abbrev S1x1024 : Shape := ⟨2, ![1, 1024]⟩
abbrev S32x1024 : Shape := ⟨2, ![32, 1024]⟩
abbrev S128x1024 : Shape := ⟨2, ![128, 1024]⟩
abbrev S1024x128 : Shape := ⟨2, ![1024, 128]⟩
abbrev S1024x256 : Shape := ⟨2, ![1024, 256]⟩

abbrev nBuf : Space → Nat
  | .hbm => 23
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S2x8192, .i32⟩
  | .hbm, ⟨3, _⟩ => ⟨S1024x1536, .f32⟩
  | .hbm, ⟨4, _⟩ => ⟨S1536, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S16x1x1024, .i32⟩
  | .hbm, ⟨20, _⟩ => ⟨S1x1536, .f32⟩
  | .hbm, ⟨21, _⟩ => ⟨S32x1, .f32⟩
  | .hbm, ⟨22, _⟩ => ⟨S16384x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x1024, .i32⟩
  | .local _ .vmem, ⟨5, _⟩ => ⟨S1x1x1024, .i32⟩
  | .local _ .vmem, ⟨6, _⟩ => ⟨S1024x1536, .f32⟩
  | .local _ .vmem, ⟨7, _⟩ => ⟨S1x1536, .f32⟩
  | .local _ .vmem, ⟨8, _⟩ => ⟨S32x1, .f32⟩
  | .local _ .vmem, ⟨9, _⟩ => ⟨S1024x1536, .bf16⟩
  | .local _ .vmem, ⟨10, _⟩ => ⟨S1024x1536, .bf16⟩
  | .local _ .vmem, ⟨11, _⟩ => ⟨S1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S2x1x6144 : Shape := ⟨3, ![2, 1, 6144]⟩
abbrev S2x8192 : Shape := ⟨2, ![2, 8192]⟩
abbrev S1024x1536 : Shape := ⟨2, ![1024, 1536]⟩
abbrev S1536 : Shape := ⟨1, ![1536]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x1x32 : Shape := ⟨4, ![2, 8192, 1, 32]⟩
abbrev S2x8192x1024 : Shape := ⟨3, ![2, 8192, 1024]⟩
abbrev S2x1x1024 : Shape := ⟨3, ![2, 1, 1024]⟩
abbrev S2x8192x1536 : Shape := ⟨3, ![2, 8192, 1536]⟩
abbrev S1x1x1536 : Shape := ⟨3, ![1, 1, 1536]⟩
abbrev S2x8192x256 : Shape := ⟨3, ![2, 8192, 256]⟩
abbrev S2x8192x16x64 : Shape := ⟨4, ![2, 8192, 16, 64]⟩
abbrev S2x8192x16x32 : Shape := ⟨4, ![2, 8192, 16, 32]⟩
abbrev S2x8192x4x64 : Shape := ⟨4, ![2, 8192, 4, 64]⟩
abbrev S2x8192x4x32 : Shape := ⟨4, ![2, 8192, 4, 32]⟩
abbrev S16384x1536 : Shape := ⟨2, ![16384, 1536]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S2x8192, .i32⟩
  | .hbm, ⟨3, _⟩ => ⟨S1024x1536, .f32⟩
  | .hbm, ⟨4, _⟩ => ⟨S1536, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x8192, .f32⟩
  | .hbm, ⟨20, _⟩ => ⟨S2x8192x1, .f32⟩
  | .hbm, ⟨21, _⟩ => ⟨S1x1x32, .f32⟩
  | .hbm, ⟨22, _⟩ => ⟨S2x8192x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x1x32, .f32⟩
  | .hbm, ⟨27, _⟩ => ⟨S2x8192x32, .f32⟩
  | .hbm, ⟨28, _⟩ => ⟨S2x8192x1x32, .f32⟩
  | .hbm, ⟨29, _⟩ => ⟨S2x8192x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1536, .f32⟩
  | .hbm, ⟨40, _⟩ => ⟨S1x1x1536, .f32⟩
  | .hbm, ⟨41, _⟩ => ⟨S2x8192x1536, .f32⟩
  | .hbm, ⟨42, _⟩ => ⟨S2x8192x1536, .f32⟩
  | .hbm, ⟨43, _⟩ => ⟨S2x8192x1024, .f32⟩
  | .hbm, ⟨44, _⟩ => ⟨S2x8192x256, .f32⟩
  | .hbm, ⟨45, _⟩ => ⟨S2x8192x256, .f32⟩
  | .hbm, ⟨46, _⟩ => ⟨S2x8192x16x64, .f32⟩
  | .hbm, ⟨47, _⟩ => ⟨S2x8192x16x32, .f32⟩
  | .hbm, ⟨48, _⟩ => ⟨S2x8192x16x32, .f32⟩
  | .hbm, ⟨49, _⟩ => ⟨S2x8192x16x32, .f32⟩
  | .hbm, ⟨50, _⟩ => ⟨S2x8192x16x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S2x8192x16x32, .f32⟩
  | .hbm, ⟨55, _⟩ => ⟨S2x8192x16x32, .f32⟩
  | .hbm, ⟨56, _⟩ => ⟨S2x8192x16x32, .f32⟩
  | .hbm, ⟨57, _⟩ => ⟨S2x8192x16x32, .f32⟩
  | .hbm, ⟨58, _⟩ => ⟨S2x8192x16x32, .f32⟩
  | .hbm, ⟨59, _⟩ => ⟨S2x8192x16x64, .f32⟩
  | .hbm, ⟨60, _⟩ => ⟨S_, .f32⟩
  | .hbm, ⟨61, _⟩ => ⟨S2x8192x16x64, .f32⟩
  | .hbm, ⟨62, _⟩ => ⟨S2x8192x16x64, .f32⟩
  | .hbm, ⟨63, _⟩ => ⟨S2x8192x4x64, .f32⟩
  | .hbm, ⟨64, _⟩ => ⟨S2x8192x4x32, .f32⟩
  | .hbm, ⟨65, _⟩ => ⟨S2x8192x4x32, .f32⟩
  | .hbm, ⟨66, _⟩ => ⟨S2x8192x4x32, .f32⟩
  | .hbm, ⟨67, _⟩ => ⟨S2x8192x4x32, .f32⟩
  | .hbm, ⟨68, _⟩ => ⟨S2x8192x4x32, .f32⟩
  | .hbm, ⟨69, _⟩ => ⟨S2x8192x4x32, .f32⟩
  | .hbm, ⟨70, _⟩ => ⟨S2x8192x4x32, .f32⟩
  | .hbm, ⟨71, _⟩ => ⟨S2x8192x4x32, .f32⟩
  | .hbm, ⟨72, _⟩ => ⟨S2x8192x4x32, .f32⟩
  | .hbm, ⟨73, _⟩ => ⟨S2x8192x4x32, .f32⟩
  | .hbm, ⟨74, _⟩ => ⟨S2x8192x4x32, .f32⟩
  | .hbm, ⟨75, _⟩ => ⟨S2x8192x4x32, .f32⟩
  | .hbm, ⟨76, _⟩ => ⟨S2x8192x4x64, .f32⟩
  | .hbm, ⟨77, _⟩ => ⟨S2x8192x1024, .f32⟩
  | .hbm, ⟨78, _⟩ => ⟨S2x8192x256, .f32⟩
  | .hbm, ⟨79, _⟩ => ⟨S2x8192x1536, .f32⟩
  | .hbm, ⟨80, _⟩ => ⟨S16384x1536, .f32⟩
  | .hbm, ⟨81, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Kernel5.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S2x1x6144 : Shape := ⟨3, ![2, 1, 6144]⟩
abbrev S1x1024x1536 : Shape := ⟨3, ![1, 1024, 1536]⟩
abbrev S1x1x1536 : Shape := ⟨3, ![1, 1, 1536]⟩
abbrev S2x1x1536 : Shape := ⟨3, ![2, 1, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 8
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S2x1x6144, .f32⟩
  | .hbm, ⟨7, _⟩ => ⟨S2x1x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S2x1x1536, .f32⟩
  | .local _ .vmem, ⟨6, _⟩ => ⟨S2x1x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S2x1x6144 : Shape := ⟨3, ![2, 1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024x6144, .f32⟩
  | .hbm, ⟨13, _⟩ => ⟨S1024x6144, .f32⟩
  | .hbm, ⟨14, _⟩ => ⟨S2x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S2x1x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Block.lean ====
/-
  WHAT ONE BLOCK OF 128 QUERY ROWS COMPUTES, over any floating-point operations `F`: the kernel's own operations under
  short names. The body does the same eight times per grid point — it pads the block's keys and values into one of two
  slots, forms the scores of the sixteen heads, turns them into weights, and divides the weighted sums by the weights'
  sums — storing every intermediate into a scratch and loading it again. A `step…` below is what one of those four passes
  stores, on top of the stores made before it.
-/
module

public import proofs.«01_k».proof.Proof.Gen.KernelIdeal.Value

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-! ## One block's keys and values, padded -/

/-- Is the lane one of the low 64? -/
def low : IVec S128x128 1 :=
  cmpi .slt (iota .tc S128x128 32 [1] iota_S128x128_d1_w32) (broadcast S128x128 64#32)

/-- The zero tile. -/
def zeros : FVec F S128x128 .f32 := broadcast S128x128 (Scalar.ofBits .f32 0x00000000#32)
/-- The tile of ones. -/
def ones : FVec F S128x128 .f32 := broadcast S128x128 (Scalar.ofBits .f32 0x3F800000#32)

/-- The block's four tiles of 128 columns: two of keys, two of values. -/
def tile0 (kv : Vec F S128x512 .bf16) : FVec F S128x128 .f32 :=
  extractStridedSlice S128x128 ![0, 0] (extf .f32 kv bitsLt_bf16_f32) slices_S128x512_o0_0_S128x128
def tile1 (kv : Vec F S128x512 .bf16) : FVec F S128x128 .f32 :=
  extractStridedSlice S128x128 ![0, 128] (extf .f32 kv bitsLt_bf16_f32) slices_S128x512_o0_128_S128x128
def tile2 (kv : Vec F S128x512 .bf16) : FVec F S128x128 .f32 :=
  extractStridedSlice S128x128 ![0, 256] (extf .f32 kv bitsLt_bf16_f32) slices_S128x512_o0_256_S128x128
def tile3 (kv : Vec F S128x512 .bf16) : FVec F S128x128 .f32 :=
  extractStridedSlice S128x128 ![0, 384] (extf .f32 kv bitsLt_bf16_f32) slices_S128x512_o0_384_S128x128

/-- The tile with its two halves of lanes exchanged. -/
def swap (x : FVec F S128x128 .f32) : FVec F S128x128 .f32 := dynamicRotate 1 64#32 none x rotates_S128x128_d1

/-- A key tile with its high lanes zeroed, and one with its low lanes zeroed. -/
def keepLow (x : FVec F S128x128 .f32) : FVec F S128x128 .bf16 := truncf .bf16 (select low x zeros) bitsLt_bf16_f32
def keepHigh (x : FVec F S128x128 .f32) : FVec F S128x128 .bf16 := truncf .bf16 (select low zeros x) bitsLt_bf16_f32

/-- The eight padded key tiles of a block: of each of four key heads, the head in the low lanes and in the high lanes. -/
def keyT (kv : Vec F S128x512 .bf16) : Fin 8 → FVec F S128x128 .bf16 :=
  ![keepLow (tile0 kv), keepHigh (swap (tile0 kv)), keepLow (swap (tile0 kv)), keepHigh (tile0 kv),
    keepLow (tile1 kv), keepHigh (swap (tile1 kv)), keepLow (swap (tile1 kv)), keepHigh (tile1 kv)]

/-- A value head twice over, beside 128 lanes of ones. -/
def besideOnes (x y : FVec F S128x128 .f32) : FVec F S128x256 .bf16 :=
  truncf .bf16 (concatenate S128x256 1 [⟨S128x128, select low x y⟩, ⟨S128x128, ones⟩]
    concatenates_S128x128_S128x128_S128x256_d1) bitsLt_bf16_f32

/-- The four value heads of a block. -/
def valT (kv : Vec F S128x512 .bf16) : Fin 4 → FVec F S128x256 .bf16 :=
  ![besideOnes (tile2 kv) (swap (tile2 kv)), besideOnes (swap (tile2 kv)) (tile2 kv),
    besideOnes (tile3 kv) (swap (tile3 kv)), besideOnes (swap (tile3 kv)) (tile3 kv)]

/-! ## Stores, as pieces -/

theorem inbK (s : Fin 2) (h : Fin 8) : ∀ a, (![s.val, h.val, 0, 0] : Fin 4 → ℕ) a + S1x1x128x128.size a ≤ S2x8x128x128.size a := by
  revert s h; decide
theorem inbV (s : Fin 2) (g : Fin 4) : ∀ a, (![s.val, g.val, 0, 0] : Fin 4 → ℕ) a + S1x1x128x256.size a ≤ S2x4x128x256.size a := by
  revert s g; decide
theorem inbS (h : Fin 16) : ∀ a, (![h.val, 0, 0] : Fin 3 → ℕ) a + S1x128x256.size a ≤ S16x128x256.size a := by
  revert h; decide
theorem inbP (g : Fin 4) : ∀ a, (![4 * g.val, 0, 0] : Fin 3 → ℕ) a + S4x128x256.size a ≤ S16x128x256.size a := by
  revert g; decide

/-- Slot `s`, key tile `h`, of the key scratch; and the like of the others. -/
abbrev rK (s : Fin 2) (h : Fin 8) : Rect S2x8x128x128 := Rect.unit ![s.val, h.val, 0, 0] S1x1x128x128.size (inbK s h)
abbrev rV (s : Fin 2) (g : Fin 4) : Rect S2x4x128x256 := Rect.unit ![s.val, g.val, 0, 0] S1x1x128x256.size (inbV s g)
abbrev rS (h : Fin 16) : Rect S16x128x256 := Rect.unit ![h.val, 0, 0] S1x128x256.size (inbS h)
abbrev rP (g : Fin 4) : Rect S16x128x256 := Rect.unit ![4 * g.val, 0, 0] S4x128x256.size (inbP g)

abbrev PieceK (F : FTy → Type) := View.Piece (Elt F) S2x8x128x128 .bf16
abbrev PieceV (F : FTy → Type) := View.Piece (Elt F) S2x4x128x256 .bf16
abbrev PieceS (F : FTy → Type) := View.Piece (Elt F) S16x128x256 .f32
abbrev PieceP (F : FTy → Type) := View.Piece (Elt F) S16x128x256 .bf16

def pK (s : Fin 2) (h : Fin 8) (w : FVec F S128x128 .bf16) : PieceK F :=
  ⟨rK s h, shapeCast S1x1x128x128 w shapeCasts_S128x128_S1x1x128x128⟩
def pV (s : Fin 2) (g : Fin 4) (w : FVec F S128x256 .bf16) : PieceV F :=
  ⟨rV s g, shapeCast S1x1x128x256 w shapeCasts_S128x256_S1x1x128x256⟩
def pS (h : Fin 16) (w : FVec F S128x256 .f32) : PieceS F :=
  ⟨rS h, shapeCast S1x128x256 w shapeCasts_S128x256_S1x128x256⟩
def pP (h : Fin 16) (w : FVec F S128x256 .bf16) : PieceP F :=
  ⟨rS h, shapeCast S1x128x256 w shapeCasts_S128x256_S1x128x256⟩

/-- The stores of a block's eight key tiles into slot `s`. -/
def stepK (s : Fin 2) (w : Fin 8 → FVec F S128x128 .bf16) (L : List (PieceK F)) : List (PieceK F) :=
  pK s 7 (w 7) :: pK s 6 (w 6) :: pK s 5 (w 5) :: pK s 4 (w 4) :: pK s 3 (w 3) :: pK s 2 (w 2) :: pK s 1 (w 1) ::
    pK s 0 (w 0) :: L

/-- The stores of a block's four value heads into slot `s`. -/
def stepV (s : Fin 2) (w : Fin 4 → FVec F S128x256 .bf16) (L : List (PieceV F)) : List (PieceV F) :=
  pV s 3 (w 3) :: pV s 2 (w 2) :: pV s 1 (w 1) :: pV s 0 (w 0) :: L

/-! ## Scores, weights, weighted means -/

/-- The queries of key head `g`'s four query heads: two tiles of 128 columns (two heads each), one under the other. -/
def qPair (q : Vec F S128x1024 .bf16) : Fin 4 → FVec F S256x128 .bf16 :=
  ![concatenate S256x128 0 [⟨S128x128, extractStridedSlice S128x128 ![0, 0] q slices_S128x1024_o0_0_S128x128⟩,
      ⟨S128x128, extractStridedSlice S128x128 ![0, 128] q slices_S128x1024_o0_128_S128x128⟩] concatenates_S128x128_S128x128_S256x128_d0,
    concatenate S256x128 0 [⟨S128x128, extractStridedSlice S128x128 ![0, 256] q slices_S128x1024_o0_256_S128x128⟩,
      ⟨S128x128, extractStridedSlice S128x128 ![0, 384] q slices_S128x1024_o0_384_S128x128⟩] concatenates_S128x128_S128x128_S256x128_d0,
    concatenate S256x128 0 [⟨S128x128, extractStridedSlice S128x128 ![0, 512] q slices_S128x1024_o0_512_S128x128⟩,
      ⟨S128x128, extractStridedSlice S128x128 ![0, 640] q slices_S128x1024_o0_640_S128x128⟩] concatenates_S128x128_S128x128_S256x128_d0,
    concatenate S256x128 0 [⟨S128x128, extractStridedSlice S128x128 ![0, 768] q slices_S128x1024_o0_768_S128x128⟩,
      ⟨S128x128, extractStridedSlice S128x128 ![0, 896] q slices_S128x1024_o0_896_S128x128⟩] concatenates_S128x128_S128x128_S256x128_d0]

/-- The scores of a pair of query tiles against the keys of the block before (`kp`) and of this block (`kc`). -/
def score (q : FVec F S256x128 .bf16) (kp kc : Vec F S1x1x128x128 .bf16) : FVec F S256x256 .f32 :=
  matmul dot_S256x128_S256x128_S256x256_1_1_0_0_n_n none q
    (concatenate S256x128 0 [⟨S128x128, shapeCast S128x128 kp shapeCasts_S1x1x128x128_S128x128⟩,
      ⟨S128x128, shapeCast S128x128 kc shapeCasts_S1x1x128x128_S128x128⟩] concatenates_S128x128_S128x128_S256x128_d0)
    (constant S256x256 .f32 0x00000000#32)

/-- Its two halves: the upper query tile's head and the lower one's. -/
def upper (s : FVec F S256x256 .f32) : FVec F S128x256 .f32 := extractStridedSlice S128x256 ![0, 0] s slices_S256x256_o0_0_S128x256
def lower (s : FVec F S256x256 .f32) : FVec F S128x256 .f32 := extractStridedSlice S128x256 ![128, 0] s slices_S256x256_o128_0_S128x256

/-- The stores of the sixteen heads' scores, in the order the body makes them. -/
def stepS (q : Vec F S128x1024 .bf16) (kp kc : Fin 8 → Vec F S1x1x128x128 .bf16) (L : List (PieceS F)) : List (PieceS F) :=
  pS 15 (lower (score (qPair q 3) (kp 7) (kc 7))) :: pS 13 (upper (score (qPair q 3) (kp 7) (kc 7))) ::
  pS 14 (lower (score (qPair q 3) (kp 6) (kc 6))) :: pS 12 (upper (score (qPair q 3) (kp 6) (kc 6))) ::
  pS 11 (lower (score (qPair q 2) (kp 5) (kc 5))) :: pS 9 (upper (score (qPair q 2) (kp 5) (kc 5))) ::
  pS 10 (lower (score (qPair q 2) (kp 4) (kc 4))) :: pS 8 (upper (score (qPair q 2) (kp 4) (kc 4))) ::
  pS 7 (lower (score (qPair q 1) (kp 3) (kc 3))) :: pS 5 (upper (score (qPair q 1) (kp 3) (kc 3))) ::
  pS 6 (lower (score (qPair q 1) (kp 2) (kc 2))) :: pS 4 (upper (score (qPair q 1) (kp 2) (kc 2))) ::
  pS 3 (lower (score (qPair q 0) (kp 1) (kc 1))) :: pS 1 (upper (score (qPair q 0) (kp 1) (kc 1))) ::
  pS 2 (lower (score (qPair q 0) (kp 0) (kc 0))) :: pS 0 (upper (score (qPair q 0) (kp 0) (kc 0))) :: L

/-- Which of the 256 keys a query row sees: the 128 that end at its own, none of the block before when `first` is true. -/
def mask (first : BitVec 1) : IVec S128x256 1 :=
  andi (andi (cmpi .sle (iota .tc S128x256 32 [1] iota_S128x256_d1_w32)
        (addi (iota .tc S128x256 32 [0] iota_S128x256_d0_w32) (broadcast S128x256 128#32)))
      (cmpi .sgt (iota .tc S128x256 32 [1] iota_S128x256_d1_w32)
        (subi (addi (iota .tc S128x256 32 [0] iota_S128x256_d0_w32) (broadcast S128x256 128#32)) (broadcast S128x256 128#32))))
    (ori (cmpi .sge (iota .tc S128x256 32 [1] iota_S128x256_d1_w32) (broadcast S128x256 128#32))
      (broadcast S128x256 (Scalar.xori first 1#1)))

/-- Is the key the first of the 256, whose place the sink takes? -/
def key0 : IVec S1x256 1 := cmpi .eq (iota .tc S1x256 32 [1] iota_S1x256_d1_w32) (broadcast S1x256 0#32)

/-- The masked scores of a head, the sink's score at the first key. -/
def masked (first : BitVec 1) (s : Vec F S1x128x256 .f32) (sink : Elt F .f32) : FVec F S128x256 .f32 :=
  select (mask first) (shapeCast S128x256 s shapeCasts_S1x128x256_S128x256)
    (broadcastTo S128x256 (shapeCast S1x256 (select key0 (broadcast S1x256 sink)
      (broadcast S1x256 (Scalar.ofBits .f32 0xFF800000#32))) shapeCasts_S1x256_S1x256) broadcasts_S1x256_S128x256)

/-- The head's weights: the exponentials of what the masked scores fall short of their row's largest. -/
def weight (first : BitVec 1) (s : Vec F S1x128x256 .f32) (sink : Elt F .f32) : FVec F S128x256 .bf16 :=
  truncf .bf16 (exp (subf (masked first s sink)
    (broadcastTo S128x256 (shapeCast S128x1 (multiReduction .maximumf [1] S128 (masked first s sink) 0xFF800000#32
      reduces_S128x256_S128 (.inl rfl) rfl) shapeCasts_S128_S128x1) broadcasts_S128x1_S128x256))) bitsLt_bf16_f32

/-- The stores of the sixteen heads' weights. -/
def stepP (first : BitVec 1) (s : Fin 16 → Vec F S1x128x256 .f32) (k : Fin 16 → Elt F .f32) (L : List (PieceP F)) : List (PieceP F) :=
  pP 15 (weight first (s 15) (k 15)) :: pP 14 (weight first (s 14) (k 14)) :: pP 13 (weight first (s 13) (k 13)) ::
  pP 12 (weight first (s 12) (k 12)) :: pP 11 (weight first (s 11) (k 11)) :: pP 10 (weight first (s 10) (k 10)) ::
  pP 9 (weight first (s 9) (k 9)) :: pP 8 (weight first (s 8) (k 8)) :: pP 7 (weight first (s 7) (k 7)) ::
  pP 6 (weight first (s 6) (k 6)) :: pP 5 (weight first (s 5) (k 5)) :: pP 4 (weight first (s 4) (k 4)) ::
  pP 3 (weight first (s 3) (k 3)) :: pP 2 (weight first (s 2) (k 2)) :: pP 1 (weight first (s 1) (k 1)) ::
  pP 0 (weight first (s 0) (k 0)) :: L

/-- The value lanes of the first row of the block before: the sink's place. -/
def sinkRow : IVec S16x256 1 :=
  andi (cmpi .eq (iota .tc S16x256 32 [0] iota_S16x256_d0_w32) (broadcast S16x256 0#32))
    (cmpi .slt (iota .tc S16x256 32 [1] iota_S16x256_d1_w32) (broadcast S16x256 128#32))

/-- The weighted sums of a key head's four query heads: values in the low lanes, the weights' sums in the high lanes. -/
def sums (p : Vec F S4x128x256 .bf16) (vp vc : Vec F S1x1x128x256 .bf16) : FVec F S512x256 .f32 :=
  matmul dot_S512x256_S256x256_S512x256_1_0_0_1_n_n none (shapeCast S512x256 p shapeCasts_S4x128x256_S512x256)
    (concatenate S256x256 0
      [⟨S16x256, truncf .bf16 (select sinkRow (broadcast S16x256 (Scalar.ofBits .f32 0x00000000#32))
          (extf .f32 (extractStridedSlice S16x256 ![0, 0] (shapeCast S128x256 vp shapeCasts_S1x1x128x256_S128x256)
            slices_S128x256_o0_0_S16x256) bitsLt_bf16_f32)) bitsLt_bf16_f32⟩,
       ⟨S112x256, extractStridedSlice S112x256 ![16, 0] (shapeCast S128x256 vp shapeCasts_S1x1x128x256_S128x256) slices_S128x256_o16_0_S112x256⟩,
       ⟨S128x256, shapeCast S128x256 vc shapeCasts_S1x1x128x256_S128x256⟩] concatenates_S16x256_S112x256_S128x256_S256x256_d0)
    (constant S512x256 .f32 0x00000000#32)

/-- A head's quotients, off its 128 rows. -/
def quot (o : FVec F S128x256 .f32) : FVec F S128x128 .f32 :=
  divf (extractStridedSlice S128x128 ![0, 0] o slices_S128x256_o0_0_S128x128)
    (extractStridedSlice S128x128 ![0, 128] o slices_S128x256_o0_128_S128x128)

/-- A key head's two output tiles: two heads each, one in each half of the lanes. -/
def outA (o : FVec F S512x256 .f32) : FVec F S128x128 .f32 :=
  select low (quot (extractStridedSlice S128x256 ![0, 0] o slices_S512x256_o0_0_S128x256))
    (quot (extractStridedSlice S128x256 ![128, 0] o slices_S512x256_o128_0_S128x256))
def outB (o : FVec F S512x256 .f32) : FVec F S128x128 .f32 :=
  select low (quot (extractStridedSlice S128x256 ![256, 0] o slices_S512x256_o256_0_S128x256))
    (quot (extractStridedSlice S128x256 ![384, 0] o slices_S512x256_o384_0_S128x256))

/-- The block's 128 rows of the output. -/
def outBlk (p : Fin 4 → Vec F S4x128x256 .bf16) (vp vc : Fin 4 → Vec F S1x1x128x256 .bf16) : FVec F S128x1024 .bf16 :=
  truncf .bf16 (concatenate S128x1024 1
    [⟨S128x128, outA (sums (p 0) (vp 0) (vc 0))⟩, ⟨S128x128, outB (sums (p 0) (vp 0) (vc 0))⟩,
     ⟨S128x128, outA (sums (p 1) (vp 1) (vc 1))⟩, ⟨S128x128, outB (sums (p 1) (vp 1) (vc 1))⟩,
     ⟨S128x128, outA (sums (p 2) (vp 2) (vc 2))⟩, ⟨S128x128, outB (sums (p 2) (vp 2) (vc 2))⟩,
     ⟨S128x128, outA (sums (p 3) (vp 3) (vc 3))⟩, ⟨S128x128, outB (sums (p 3) (vp 3) (vc 3))⟩]
    concatenates_S128x128_S128x128_S128x128_S128x128_S128x128_S128x128_S128x128_S128x128_S128x1024_d1) bitsLt_bf16_f32

end Cert.KernelIdeal.Attn

end
-- ==== Proof.Lists.lean ====
/-
  READING THE SCRATCH BACK, over any floating-point operations `F`: what a load of one tile finds after the stores of a
  `step…` (Block.lean), and what one block's output rows therefore are, as a function `blk` of the block's queries, of the
  padded keys and values of the two blocks and of the sinks alone.
-/
module

public import proofs.«01_k».proof.Proof.Block
public import Idealize.ShloMosaic.Lib.Pipeline.CanonAppend
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-! ## One tile of a scratch, as a load reads it -/

section read

variable {κ : Kind} {sp : Space}

/-- A tile of keys, and of values, as a load of a slot's tile returns it. -/
def key4 (w : FVec F S128x128 .bf16) : Vec F S1x1x128x128 .bf16 := shapeCast S1x1x128x128 w shapeCasts_S128x128_S1x1x128x128
def val4 (w : FVec F S128x256 .bf16) : Vec F S1x1x128x256 .bf16 := shapeCast S1x1x128x256 w shapeCasts_S128x256_S1x1x128x256

theorem read_stepK (v : View sig κ sp S2x8x128x128 .bf16) (s : Fin 2) (w : Fin 8 → FVec F S128x128 .bf16) (L : List (PieceK F)) (h : Fin 8) :
    v.readCov (stepK s w L) (rK s h).toLoadRect = key4 (w h) := by
  unfold stepK pK
  fin_cases s <;> fin_cases h <;>
  · repeat rw [View.readCov_skip _ _ _ _ _ (by decide)]
    exact View.readCov_cons_toLoadRect ..

theorem read_stepK_other (v : View sig κ sp S2x8x128x128 .bf16) (s s' : Fin 2) (hs : s ≠ s') (w : Fin 8 → FVec F S128x128 .bf16)
    (L : List (PieceK F)) (h : Fin 8) : v.readCov (stepK s w L) (rK s' h).toLoadRect = v.readCov L (rK s' h).toLoadRect := by
  unfold stepK pK
  fin_cases s <;> fin_cases s' <;> first | exact absurd rfl hs | skip
  all_goals
    fin_cases h <;>
    iterate 8 rw [View.readCov_skip _ _ _ _ _ (by decide)]

theorem read_stepV (v : View sig κ sp S2x4x128x256 .bf16) (s : Fin 2) (w : Fin 4 → FVec F S128x256 .bf16) (L : List (PieceV F)) (h : Fin 4) :
    v.readCov (stepV s w L) (rV s h).toLoadRect = val4 (w h) := by
  unfold stepV pV
  fin_cases s <;> fin_cases h <;>
  · repeat rw [View.readCov_skip _ _ _ _ _ (by decide)]
    exact View.readCov_cons_toLoadRect ..

theorem read_stepV_other (v : View sig κ sp S2x4x128x256 .bf16) (s s' : Fin 2) (hs : s ≠ s') (w : Fin 4 → FVec F S128x256 .bf16)
    (L : List (PieceV F)) (h : Fin 4) : v.readCov (stepV s w L) (rV s' h).toLoadRect = v.readCov L (rV s' h).toLoadRect := by
  unfold stepV pV
  fin_cases s <;> fin_cases s' <;> first | exact absurd rfl hs | skip
  all_goals
    fin_cases h <;>
    iterate 4 rw [View.readCov_skip _ _ _ _ _ (by decide)]

/-- The sixteen heads' scores: heads `4 g` and `4 g + 2` meet the padded keys `2 g`, the two others `2 g + 1`. -/
def scores (q : Vec F S128x1024 .bf16) (kp kc : Fin 8 → Vec F S1x1x128x128 .bf16) : Fin 16 → FVec F S128x256 .f32 :=
  ![upper (score (qPair q 0) (kp 0) (kc 0)), upper (score (qPair q 0) (kp 1) (kc 1)),
    lower (score (qPair q 0) (kp 0) (kc 0)), lower (score (qPair q 0) (kp 1) (kc 1)),
    upper (score (qPair q 1) (kp 2) (kc 2)), upper (score (qPair q 1) (kp 3) (kc 3)),
    lower (score (qPair q 1) (kp 2) (kc 2)), lower (score (qPair q 1) (kp 3) (kc 3)),
    upper (score (qPair q 2) (kp 4) (kc 4)), upper (score (qPair q 2) (kp 5) (kc 5)),
    lower (score (qPair q 2) (kp 4) (kc 4)), lower (score (qPair q 2) (kp 5) (kc 5)),
    upper (score (qPair q 3) (kp 6) (kc 6)), upper (score (qPair q 3) (kp 7) (kc 7)),
    lower (score (qPair q 3) (kp 6) (kc 6)), lower (score (qPair q 3) (kp 7) (kc 7))]

/-- A head's scores as a load of them returns them. -/
def score3 (w : FVec F S128x256 .f32) : Vec F S1x128x256 .f32 := shapeCast S1x128x256 w shapeCasts_S128x256_S1x128x256

theorem read_stepS (v : View sig κ sp S16x128x256 .f32) (q : Vec F S128x1024 .bf16) (kp kc : Fin 8 → Vec F S1x1x128x128 .bf16)
    (L : List (PieceS F)) (h : Fin 16) : v.readCov (stepS q kp kc L) (rS h).toLoadRect = score3 (scores q kp kc h) := by
  unfold stepS pS
  fin_cases h <;>
  · repeat rw [View.readCov_skip _ _ _ _ _ (by decide)]
    exact View.readCov_cons_toLoadRect ..

/-- The weights, head by head, as the scratch holds them. -/
def weights (first : BitVec 1) (s : Fin 16 → Vec F S1x128x256 .f32) (k : Fin 16 → Elt F .f32) : Vec F S16x128x256 .bf16 :=
  fun z => weight first (s (z 0)) (k (z 0)) (ix2 (z 1) (z 2))

/-- A store of head `h`'s weights is a block of the weights. -/
theorem pP_block (first : BitVec 1) (s : Fin 16 → Vec F S1x128x256 .f32) (k : Fin 16 → Elt F .f32) (h : Fin 16) :
    ∀ x : (pP h (weight first (s h) (k h))).1.shape.Idx, (pP h (weight first (s h) (k h))).2 x = weights first s k ((pP h (weight first (s h) (k h))).1.emb x) := by
  intro x
  have h0 : ((rS h).emb x 0) = h := Fin.ext (by
    have hx : (x 0).val < 1 := (x 0).isLt
    show h.val + 1 * (x 0).val = h.val; omega)
  show shapeCast S1x128x256 (weight first (s h) (k h)) _ x = weight first (s ((rS h).emb x 0)) (k ((rS h).emb x 0)) _
  rw [h0]
  refine (Idealize.ShloMosaic.shapeCast_addUnit_apply _ _ _ x).trans (congrArg _ ?_)
  funext a
  match a with
  | ⟨0, _⟩ => exact Fin.ext (show (x 1).val = 0 + 1 * (x 1).val by omega)
  | ⟨1, _⟩ => exact Fin.ext (show (x 2).val = 0 + 1 * (x 2).val by omega)

theorem read_stepP (v : View sig κ sp S16x128x256 .bf16) (first : BitVec 1) (s : Fin 16 → Vec F S1x128x256 .f32) (k : Fin 16 → Elt F .f32)
    (L : List (PieceP F)) (g : Fin 4) :
    v.readCov (stepP first s k L) (rP g).toLoadRect = fun y => weights first s k ((rP g).emb y) := by
  rw [View.readCov_eq_canon']
  funext y
  refine View.canon_append_of_piecesOf (weights first s k) L (stepP first s k []) ?_ _ ?_
  · exact ⟨pP_block first s k _, pP_block first s k _, pP_block first s k _, pP_block first s k _, pP_block first s k _, pP_block first s k _, pP_block first s k _, pP_block first s k _,
      pP_block first s k _, pP_block first s k _, pP_block first s k _, pP_block first s k _, pP_block first s k _, pP_block first s k _, pP_block first s k _, pP_block first s k _, trivial⟩
  · refine View.cover_of_tiledL (stepP first s k []) S1x128x256.size ?_ _
    sl_kernel_rfl

end read

/-! ## One block -/

/-- The 128 output rows of a block, from its queries, the padded keys and values of the block before and of its own, and the sinks. -/
def blk (first : BitVec 1) (k : Fin 16 → Elt F .f32) (q : Vec F S128x1024 .bf16) (kp kc : Fin 8 → Vec F S1x1x128x128 .bf16)
    (vp vc : Fin 4 → Vec F S1x1x128x256 .bf16) : FVec F S128x1024 .bf16 :=
  outBlk (fun g y => weights first (fun h => score3 (scores q kp kc h)) k ((rP g).emb y)) vp vc

section block

variable {κ6 κ7 κ8 κ9 : Kind} {sp6 sp7 sp8 sp9 : Space}
  (v6 : View sig κ6 sp6 S2x8x128x128 .bf16) (v7 : View sig κ7 sp7 S2x4x128x256 .bf16)
  (v8 : View sig κ8 sp8 S16x128x256 .f32) (v9 : View sig κ9 sp9 S16x128x256 .bf16)

/-- A block whose predecessor's keys `kp` and values `vp` are given: the body's stores and loads come to `blk`. -/
theorem blk_of_given (s : Fin 2) {first : BitVec 1} {k : Fin 16 → Elt F .f32} {q : Vec F S128x1024 .bf16} {kv : Vec F S128x512 .bf16}
    {kp : Fin 8 → Vec F S1x1x128x128 .bf16} {vp : Fin 4 → Vec F S1x1x128x256 .bf16}
    {LK LK0 : List (PieceK F)} {LV LV0 : List (PieceV F)} {LS LS0 : List (PieceS F)} {LP LP0 : List (PieceP F)}
    (hK : LK = stepK s (keyT kv) LK0) (hV : LV = stepV s (valT kv) LV0)
    (hS : LS = stepS q kp (fun h => v6.readCov LK (rK s h).toLoadRect) LS0)
    (hP : LP = stepP first (fun h => v8.readCov LS (rS h).toLoadRect) k LP0) :
    outBlk (fun g => v9.readCov LP (rP g).toLoadRect) vp (fun g => v7.readCov LV (rV s g).toLoadRect)
      = blk first k q kp (fun h => key4 (keyT kv h)) vp (fun g => val4 (valT kv g)) := by
  subst hP hV
  simp only [read_stepP, read_stepV]
  subst hS
  simp only [read_stepS]
  subst hK
  simp only [read_stepK]
  rfl

/-- A block that reads its predecessor's keys and values from the other slot, where they were put before its own. -/
theorem blk_of_slots (s s' : Fin 2) (hs : s ≠ s') {first : BitVec 1} {k : Fin 16 → Elt F .f32} {q : Vec F S128x1024 .bf16}
    {kv : Vec F S128x512 .bf16} {kp : Fin 8 → Vec F S1x1x128x128 .bf16} {vp : Fin 4 → Vec F S1x1x128x256 .bf16}
    {LK LK0 : List (PieceK F)} {LV LV0 : List (PieceV F)} {LS LS0 : List (PieceS F)} {LP LP0 : List (PieceP F)}
    (hK0 : ∀ h, v6.readCov LK0 (rK s' h).toLoadRect = kp h) (hV0 : ∀ g, v7.readCov LV0 (rV s' g).toLoadRect = vp g)
    (hK : LK = stepK s (keyT kv) LK0) (hV : LV = stepV s (valT kv) LV0)
    (hS : LS = stepS q (fun h => v6.readCov LK (rK s' h).toLoadRect) (fun h => v6.readCov LK (rK s h).toLoadRect) LS0)
    (hP : LP = stepP first (fun h => v8.readCov LS (rS h).toLoadRect) k LP0) :
    outBlk (fun g => v9.readCov LP (rP g).toLoadRect) (fun g => v7.readCov LV (rV s' g).toLoadRect)
        (fun g => v7.readCov LV (rV s g).toLoadRect)
      = blk first k q kp (fun h => key4 (keyT kv h)) vp (fun g => val4 (valT kv g)) := by
  have ek : (fun h => v6.readCov LK (rK s' h).toLoadRect) = kp := by
    funext h; rw [hK, read_stepK_other v6 s s' hs]; exact hK0 h
  have ev : (fun g => v7.readCov LV (rV s' g).toLoadRect) = vp := by
    funext g; rw [hV, read_stepV_other v7 s s' hs]; exact hV0 g
  rw [ek] at hS
  rw [ev]
  exact blk_of_given v6 v7 v8 v9 s hK hV hS hP

/-- A block after another block of the same grid point. -/
theorem blk_of_steps (s s' : Fin 2) (hs : s ≠ s') {first : BitVec 1} {k : Fin 16 → Elt F .f32} {q : Vec F S128x1024 .bf16}
    {kv kv' : Vec F S128x512 .bf16}
    {LK LK0 LK1 : List (PieceK F)} {LV LV0 LV1 : List (PieceV F)} {LS LS0 : List (PieceS F)} {LP LP0 : List (PieceP F)}
    (hK0 : LK0 = stepK s' (keyT kv') LK1) (hV0 : LV0 = stepV s' (valT kv') LV1)
    (hK : LK = stepK s (keyT kv) LK0) (hV : LV = stepV s (valT kv) LV0)
    (hS : LS = stepS q (fun h => v6.readCov LK (rK s' h).toLoadRect) (fun h => v6.readCov LK (rK s h).toLoadRect) LS0)
    (hP : LP = stepP first (fun h => v8.readCov LS (rS h).toLoadRect) k LP0) :
    outBlk (fun g => v9.readCov LP (rP g).toLoadRect) (fun g => v7.readCov LV (rV s' g).toLoadRect)
        (fun g => v7.readCov LV (rV s g).toLoadRect)
      = blk first k q (fun h => key4 (keyT kv' h)) (fun h => key4 (keyT kv h)) (fun g => val4 (valT kv' g)) (fun g => val4 (valT kv g)) :=
  blk_of_slots v6 v7 v8 v9 s s' hs (fun h => by rw [hK0, read_stepK]) (fun g => by rw [hV0, read_stepV]) hK hV hS hP

end block

end Cert.KernelIdeal.Attn

end
-- ==== Proof.Loads.lean ====
/-
  WHAT THE BODY LOADS FROM ITS ARGUMENTS at a grid point, and the eight blocks of 128 rows it stores to its result: the
  names the two cases of the run (CaseA.lean, CaseB.lean) are stated in, over any floating-point operations `F`.
-/
module

public import proofs.«01_k».proof.Proof.Lists

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

theorem inbKV (b : Fin 8) : ∀ a, (![128 * b.val, 0] : Fin 2 → ℕ) a + S128x512.size a ≤ S1024x512.size a := by
  revert b; decide
theorem inbQ (b : Fin 8) : ∀ a, (![128 * b.val, 0] : Fin 2 → ℕ) a + S128x1024.size a ≤ S1024x1024.size a := by
  revert b; decide
theorem inbSink (h : Fin 16) : ∀ a, (![h.val] : Fin 1 → ℕ) a + S1.size a ≤ S16.size a := by
  revert h; decide

/-- Block `b`'s rows of the keys and values, of the queries and of the result; head `h`'s sink. -/
abbrev rKV (b : Fin 8) : Rect S1024x512 := Rect.unit ![128 * b.val, 0] S128x512.size (inbKV b)
abbrev rQ (b : Fin 8) : Rect S1024x1024 := Rect.unit ![128 * b.val, 0] S128x1024.size (inbQ b)
abbrev rSink (h : Fin 16) : Rect S16 := Rect.unit ![h.val] S1.size (inbSink h)

section loads

variable (arg2 : Memref sig .tc .smem S16 .f32) (harg2 : arg2.IsWhole) (arg3 : Memref sig .tc .vmem S1024x1024 .bf16) (harg3 : arg3.IsWhole)
  (arg4 : Memref sig .tc .vmem S1024x512 .bf16) (harg4 : arg4.IsWhole)
  (x0 : Vec F S16 .f32) (x1 : Vec F S1024x1024 .bf16) (x2 : Vec F S1024x512 .bf16)

/-- The loads of block `b`'s keys and values, of its queries, and of head `h`'s sink. -/
abbrev kvR (b : Fin 8) : Vec F S128x512 .bf16 := arg4.view.readAt (Elt F) (rKV b).toLoadRect (harg4.unread x2)
abbrev qR (b : Fin 8) : Vec F S128x1024 .bf16 := arg3.view.readAt (Elt F) (rQ b).toLoadRect (harg3.unread x1)
abbrev sinkR (h : Fin 16) : Elt F .f32 :=
  arg2.view.readAt (Elt F) (rSink h).toLoadRect (harg2.unread x0) (Shape.Idx.first (s := S1) (by decide))

/-- The same, of the arrays the buffers hold. -/
def kvOf (b : Fin 8) : Vec F S128x512 .bf16 := View.ld x2 (rKV b)
def qOf (b : Fin 8) : Vec F S128x1024 .bf16 := View.ld x1 (rQ b)
def sinkOf (h : Fin 16) : Elt F .f32 := x0 (ix1 h)

theorem kvR_eq (b : Fin 8) : kvR arg4 harg4 x2 b = kvOf x2 b := by
  unfold kvR kvOf; rw [View.readAt_eq_ld, harg4.read_unread]
theorem qR_eq (b : Fin 8) : qR arg3 harg3 x1 b = qOf x1 b := by
  unfold qR qOf; rw [View.readAt_eq_ld, harg3.read_unread]
theorem sinkR_eq : sinkR arg2 harg2 x0 = sinkOf x0 := by
  funext h
  unfold sinkR sinkOf; rw [View.readAt_eq_ld, harg2.read_unread]
  refine congrArg x0 ?_
  funext a
  match a with
  | ⟨0, _⟩ => exact Fin.ext (show h.val + 1 * 0 = h.val by omega)

end loads

/-! ## The eight blocks -/

/-- Is the point the first of its sequence? The test the first block's mask makes. -/
abbrev firstOf (i : grid0.Coords) : BitVec 1 := Scalar.cmpi CmpIPredicate.eq (BitVec.ofNat 32 (i 1).val) 0#32

section blocks

variable (arg2 : Memref sig .tc .smem S16 .f32) (harg2 : arg2.IsWhole) (arg3 : Memref sig .tc .vmem S1024x1024 .bf16) (harg3 : arg3.IsWhole)
  (arg4 : Memref sig .tc .vmem S1024x512 .bf16) (harg4 : arg4.IsWhole)
  (x0 : Vec F S16 .f32) (x1 : Vec F S1024x1024 .bf16) (x2 : Vec F S1024x512 .bf16)

/-- Block `b`'s rows, `b` after the first. -/
abbrev later (b : ℕ) (h : b + 1 < 8 := by decide) : FVec F S128x1024 .bf16 :=
  blk 0#1 (sinkR arg2 harg2 x0) (qR arg3 harg3 x1 ⟨b + 1, h⟩)
    (fun t => key4 (keyT (kvR arg4 harg4 x2 ⟨b, by omega⟩) t)) (fun t => key4 (keyT (kvR arg4 harg4 x2 ⟨b + 1, h⟩) t))
    (fun g => val4 (valT (kvR arg4 harg4 x2 ⟨b, by omega⟩) g)) (fun g => val4 (valT (kvR arg4 harg4 x2 ⟨b + 1, h⟩) g))

/-- The first block's, its predecessor's keys and values given. -/
abbrev first (f : BitVec 1) (kp : Fin 8 → Vec F S1x1x128x128 .bf16) (vp : Fin 4 → Vec F S1x1x128x256 .bf16) : FVec F S128x1024 .bf16 :=
  blk f (sinkR arg2 harg2 x0) (qR arg3 harg3 x1 0) kp (fun t => key4 (keyT (kvR arg4 harg4 x2 0) t)) vp
    (fun g => val4 (valT (kvR arg4 harg4 x2 0) g))

/-- The eight blocks of a point, the first block's mask bit and predecessor given. -/
abbrev blocks (f : BitVec 1) (kp : Fin 8 → Vec F S1x1x128x128 .bf16) (vp : Fin 4 → Vec F S1x1x128x256 .bf16) : Fin 8 → FVec F S128x1024 .bf16 :=
  Fin.cons (first arg2 harg2 arg3 harg3 arg4 harg4 x0 x1 x2 f kp vp)
    fun b : Fin 7 => later arg2 harg2 arg3 harg3 arg4 harg4 x0 x1 x2 b.val (by omega)

end blocks

/-! ## The stores of the eight blocks' rows -/

abbrev PieceO (F : FTy → Type) := View.Piece (Elt F) S1024x1024 .bf16

def pO (b : Fin 8) (w : FVec F S128x1024 .bf16) : PieceO F := ⟨rQ b, w⟩

/-- The eight stores, the last first. -/
def stores (w : Fin 8 → FVec F S128x1024 .bf16) : List (PieceO F) :=
  [pO 7 (w 7), pO 6 (w 6), pO 5 (w 5), pO 4 (w 4), pO 3 (w 3), pO 2 (w 2), pO 1 (w 1), pO 0 (w 0)]

/-- The rows they leave: row `y` is row `y % 128` of block `y / 128`. -/
def rows (w : Fin 8 → FVec F S128x1024 .bf16) : Vec F S1024x1024 .bf16 := fun y =>
  w ⟨(y 0).val / 128, by have : (y 0).val < 1024 := (y 0).isLt; omega⟩ (ix2 ⟨(y 0).val % 128, Nat.mod_lt _ (by norm_num)⟩ (y 1))

theorem pO_block (w : Fin 8 → FVec F S128x1024 .bf16) (b : Fin 8) :
    ∀ x : (pO b (w b)).1.shape.Idx, (pO b (w b)).2 x = rows w ((pO b (w b)).1.emb x) := by
  intro x
  have hx : (x 0).val < 128 := (x 0).isLt
  have e0 : (((rQ b).emb x) 0).val = 128 * b.val + (x 0).val := show 128 * b.val + 1 * (x 0).val = _ by omega
  have key : ∀ (b' : Fin 8) (z z' : S128x1024.Idx), b' = b → z' = z → w b z = w b' z' := by rintro _ _ _ rfl rfl; rfl
  refine key _ x _ (Fin.ext (show (((rQ b).emb x) 0).val / 128 = b.val by omega)) ?_
  funext a
  match a with
  | ⟨0, _⟩ => exact Fin.ext (show (((rQ b).emb x) 0).val % 128 = (x 0).val by omega)
  | ⟨1, _⟩ => exact Fin.ext (show 0 + 1 * (x 1).val = (x 1).val by omega)

/-- What the result's buffer holds after the eight stores. -/
theorem canon_stores (w : Fin 8 → FVec F S128x1024 .bf16) : View.canon (stores w) = rows w := by
  funext y
  refine View.canon_append_of_piecesOf (rows w) [] (stores w) ?_ y ?_
  · exact ⟨pO_block w _, pO_block w _, pO_block w _, pO_block w _, pO_block w _, pO_block w _, pO_block w _, pO_block w _, trivial⟩
  · exact View.cover_of_tiledL (stores w) S128x1024.size (by sl_kernel_rfl) y

end Cert.KernelIdeal.Attn

end
-- ==== Proof.CaseA.lean ====
/-
  A GRID POINT THAT IS THE FIRST OF ITS SEQUENCE, over any floating-point operations `F`: the run of the body stores
  eight blocks `blk`, the first block's predecessor being the fill the body has put
  into slot 1: no keys, and no values beside the lanes of ones.
-/
module

public import proofs.«01_k».proof.Proof.Loads

@[expose] public section

set_option maxRecDepth 16384

noncomputable section

namespace Cert.KernelIdeal.Attn

open Cert.KernelIdeal Cert.KernelIdeal.Gen
open Idealize.ShloMosaic Idealize.ShloMosaic.TcCoe
open kernelRun0_A.sl

variable {F : FTy → Type} [FloatOps F]

theorem inbFK : ∀ a, (![1, 0, 0, 0] : Fin 4 → ℕ) a + S1x8x128x128.size a ≤ S2x8x128x128.size a := by decide
theorem inbFV : ∀ a, (![1, 0, 0, 0] : Fin 4 → ℕ) a + S1x4x128x256.size a ≤ S2x4x128x256.size a := by decide

/-- Slot 1, whole, and the fills of it. -/
abbrev rFK : Rect S2x8x128x128 := Rect.unit ![1, 0, 0, 0] S1x8x128x128.size inbFK
abbrev rFV : Rect S2x4x128x256 := Rect.unit ![1, 0, 0, 0] S1x4x128x256.size inbFV
def fillPK : PieceK F := ⟨rFK, k0_pay2⟩
def fillPV : PieceV F := ⟨rFV, k0_pay3⟩

/-- Their tiles. -/
def fillK (t : Fin 8) : Vec F S1x1x128x128 .bf16 := fun y => (k0_pay2 : FVec F S1x8x128x128 .bf16) (ix4 0 t (y 2) (y 3))
def fillV (g : Fin 4) : Vec F S1x1x128x256 .bf16 := fun y => (k0_pay3 : FVec F S1x4x128x256 .bf16) (ix4 0 g (y 2) (y 3))

theorem read_fillK {κ : Kind} {sp : Space} (v : View sig κ sp S2x8x128x128 .bf16) (t : Fin 8) :
    v.readCov [(fillPK : PieceK F)] (rK 1 t).toLoadRect = fillK t := by
  rw [View.readCov_eq_canon']
  funext y
  have hy0 : (y 0).val < 1 := (y 0).isLt
  have hy1 : (y 1).val < 1 := (y 1).isLt
  rw [show (rK 1 t).toLoadRect.idx y = rFK.emb (ix4 0 t (y 2) (y 3)) from ?_]
  · exact View.canon_cons_emb _ _ _ _
  · funext a
    match a with
    | ⟨0, _⟩ => exact Fin.ext (show 1 + 1 * (y 0).val = 1 + 1 * 0 by omega)
    | ⟨1, _⟩ => exact Fin.ext (show t.val + 1 * (y 1).val = 0 + 1 * t.val by omega)
    | ⟨2, _⟩ => rfl
    | ⟨3, _⟩ => rfl

theorem read_fillV {κ : Kind} {sp : Space} (v : View sig κ sp S2x4x128x256 .bf16) (g : Fin 4) :
    v.readCov [(fillPV : PieceV F)] (rV 1 g).toLoadRect = fillV g := by
  rw [View.readCov_eq_canon']
  funext y
  have hy0 : (y 0).val < 1 := (y 0).isLt
  have hy1 : (y 1).val < 1 := (y 1).isLt
  rw [show (rV 1 g).toLoadRect.idx y = rFV.emb (ix4 0 g (y 2) (y 3)) from ?_]
  · exact View.canon_cons_emb _ _ _ _
  · funext a
    match a with
    | ⟨0, _⟩ => exact Fin.ext (show 1 + 1 * (y 0).val = 1 + 1 * 0 by omega)
    | ⟨1, _⟩ => exact Fin.ext (show g.val + 1 * (y 1).val = 0 + 1 * g.val by omega)
    | ⟨2, _⟩ => rfl
    | ⟨3, _⟩ => rfl

section

variable (c : Dev nD) (i : grid0.Coords) (arg2 : Memref sig .tc .smem S16 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S2x8x128x128 .bf16) (harg6 : arg6.IsWhole) (arg7 : Memref sig .tc .vmem S2x4x128x256 .bf16) (harg7 : arg7.IsWhole) (arg8 : Memref sig .tc .vmem S16x128x256 .f32) (harg8 : arg8.IsWhole) (arg9 : Memref sig .tc .vmem S16x128x256 .bf16) (harg9 : arg9.IsWhole)
  (x0 : Vec F S16 .f32) (x1 : Vec F S1024x1024 .bf16) (x2 : Vec F S1024x512 .bf16)

theorem A0 : outBlk (fun g => arg9.view.readCov (HS3_16 c i arg2 harg2 arg3 harg3 arg4 harg4 arg6 arg8 x0 x1 x2) (rP g).toLoadRect)
      (fun g => arg7.view.readCov (HS1_5 c arg4 harg4 x2) (rV 1 g).toLoadRect) (fun g => arg7.view.readCov (HS1_5 c arg4 harg4 x2) (rV 0 g).toLoadRect)
    = first arg2 harg2 arg3 harg3 arg4 harg4 x0 x1 x2 (firstOf i) fillK fillV :=
  blk_of_slots arg6.view arg7.view arg8.view arg9.view 0 1 (by decide) (LK := HS0_9 c arg4 harg4 x2) (LK0 := [fillPK]) (LV0 := [fillPV])
    (LS := HS2_16 c arg3 harg3 arg4 harg4 arg6 x1 x2) (LS0 := []) (LP0 := [])
    (read_fillK _) (read_fillV _) rfl rfl rfl rfl

theorem A1 : outBlk (fun g => arg9.view.readCov (HS3_32 c i arg2 harg2 arg3 harg3 arg4 harg4 arg6 arg8 x0 x1 x2) (rP g).toLoadRect)
      (fun g => arg7.view.readCov (HS1_9 c arg4 harg4 x2) (rV 0 g).toLoadRect) (fun g => arg7.view.readCov (HS1_9 c arg4 harg4 x2) (rV 1 g).toLoadRect)
    = later arg2 harg2 arg3 harg3 arg4 harg4 x0 x1 x2 0 :=
  blk_of_steps arg6.view arg7.view arg8.view arg9.view 1 0 (by decide) (LK := HS0_17 c arg4 harg4 x2) (LK0 := HS0_9 c arg4 harg4 x2)
    (LV0 := HS1_5 c arg4 harg4 x2) (LK1 := [fillPK]) (LV1 := [fillPV]) (LS := HS2_32 c arg3 harg3 arg4 harg4 arg6 x1 x2)
    (LS0 := HS2_16 c arg3 harg3 arg4 harg4 arg6 x1 x2) (LP0 := HS3_16 c i arg2 harg2 arg3 harg3 arg4 harg4 arg6 arg8 x0 x1 x2)
    rfl rfl rfl rfl rfl rfl

theorem A2 : outBlk (fun g => arg9.view.readCov (HS3_48 c i arg2 harg2 arg3 harg3 arg4 harg4 arg6 arg8 x0 x1 x2) (rP g).toLoadRect)
      (fun g => arg7.view.readCov (HS1_13 c arg4 harg4 x2) (rV 1 g).toLoadRect) (fun g => arg7.view.readCov (HS1_13 c arg4 harg4 x2) (rV 0 g).toLoadRect)
    = later arg2 harg2 arg3 harg3 arg4 harg4 x0 x1 x2 1 :=
  blk_of_steps arg6.view arg7.view arg8.view arg9.view 0 1 (by decide) (LK := HS0_25 c arg4 harg4 x2) (LK0 := HS0_17 c arg4 harg4 x2)
    (LV0 := HS1_9 c arg4 harg4 x2) (LK1 := HS0_9 c arg4 harg4 x2) (LV1 := HS1_5 c arg4 harg4 x2)
    (LS := HS2_48 c arg3 harg3 arg4 harg4 arg6 x1 x2)
    (LS0 := HS2_32 c arg3 harg3 arg4 harg4 arg6 x1 x2) (LP0 := HS3_32 c i arg2 harg2 arg3 harg3 arg4 harg4 arg6 arg8 x0 x1 x2)
    rfl rfl rfl rfl rfl rfl

theorem A3 : outBlk (fun g => arg9.view.readCov (HS3_64 c i arg2 harg2 arg3 harg3 arg4 harg4 arg6 arg8 x0 x1 x2) (rP g).toLoadRect)
      (fun g => arg7.view.readCov (HS1_17 c arg4 harg4 x2) (rV 0 g).toLoadRect) (fun g => arg7.view.readCov (HS1_17 c arg4 harg4 x2) (rV 1 g).toLoadRect)
    = later arg2 harg2 arg3 harg3 arg4 harg4 x0 x1 x2 2 :=
  blk_of_steps arg6.view arg7.view arg8.view arg9.view 1 0 (by decide) (LK := HS0_33 c arg4 harg4 x2) (LK0 := HS0_25 c arg4 harg4 x2)
    (LV0 := HS1_13 c arg4 harg4 x2) (LK1 := HS0_17 c arg4 harg4 x2) (LV1 := HS1_9 c arg4 harg4 x2)
    (LS := HS2_64 c arg3 harg3 arg4 harg4 arg6 x1 x2)
    (LS0 := HS2_48 c arg3 harg3 arg4 harg4 arg6 x1 x2) (LP0 := HS3_48 c i arg2 harg2 arg3 harg3 arg4 harg4 arg6 arg8 x0 x1 x2)
    rfl rfl rfl rfl rfl rfl

theorem A4 : outBlk (fun g => arg9.view.readCov (HS3_80 c i arg2 harg2 arg3 harg3 arg4 harg4 arg6 arg8 x0 x1 x2) (rP g).toLoadRect)
      (fun g => arg7.view.readCov (HS1_21 c arg4 harg4 x2) (rV 1 g).toLoadRect) (fun g => arg7.view.readCov (HS1_21 c arg4 harg4 x2) (rV 0 g).toLoadRect)
    = later arg2 harg2 arg3 harg3 arg4 harg4 x0 x1 x2 3 :=
  blk_of_steps arg6.view arg7.view arg8.view arg9.view 0 1 (by decide) (LK := HS0_41 c arg4 harg4 x2) (LK0 := HS0_33 c arg4 harg4 x2)
    (LV0 := HS1_17 c arg4 harg4 x2) (LK1 := HS0_25 c arg4 harg4 x2) (LV1 := HS1_13 c arg4 harg4 x2)
    (LS := HS2_80 c arg3 harg3 arg4 harg4 arg6 x1 x2)
    (LS0 := HS2_64 c arg3 harg3 arg4 harg4 arg6 x1 x2) (LP0 := HS3_64 c i arg2 harg2 arg3 harg3 arg4 harg4 arg6 arg8 x0 x1 x2)
    rfl rfl rfl rfl rfl rfl

theorem A5 : outBlk (fun g => arg9.view.readCov (HS3_96 c i arg2 harg2 arg3 harg3 arg4 harg4 arg6 arg8 x0 x1 x2) (rP g).toLoadRect)
      (fun g => arg7.view.readCov (HS1_25 c arg4 harg4 x2) (rV 0 g).toLoadRect) (fun g => arg7.view.readCov (HS1_25 c arg4 harg4 x2) (rV 1 g).toLoadRect)
    = later arg2 harg2 arg3 harg3 arg4 harg4 x0 x1 x2 4 :=
  blk_of_steps arg6.view arg7.view arg8.view arg9.view 1 0 (by decide) (LK := HS0_49 c arg4 harg4 x2) (LK0 := HS0_41 c arg4 harg4 x2)
    (LV0 := HS1_21 c arg4 harg4 x2) (LK1 := HS0_33 c arg4 harg4 x2) (LV1 := HS1_17 c arg4 harg4 x2)
    (LS := HS2_96 c arg3 harg3 arg4 harg4 arg6 x1 x2)
    (LS0 := HS2_80 c arg3 harg3 arg4 harg4 arg6 x1 x2) (LP0 := HS3_80 c i arg2 harg2 arg3 harg3 arg4 harg4 arg6 arg8 x0 x1 x2)
    rfl rfl rfl rfl rfl rfl

theorem A6 : outBlk (fun g => arg9.view.readCov (HS3_112 c i arg2 harg2 arg3 harg3 arg4 harg4 arg6 arg8 x0 x1 x2) (rP g).toLoadRect)
      (fun g => arg7.view.readCov (HS1_29 c arg4 harg4 x2) (rV 1 g).toLoadRect) (fun g => arg7.view.readCov (HS1_29 c arg4 harg4 x2) (rV 0 g).toLoadRect)
    = later arg2 harg2 arg3 harg3 arg4 harg4 x0 x1 x2 5 :=
  blk_of_steps arg6.view arg7.view arg8.view arg9.view 0 1 (by decide) (LK := HS0_57 c arg4 harg4 x2) (LK0 := HS0_49 c arg4 harg4 x2)
    (LV0 := HS1_25 c arg4 harg4 x2) (LK1 := HS0_41 c arg4 harg4 x2) (LV1 := HS1_21 c arg4 harg4 x2)
    (LS := HS2_112 c arg3 harg3 arg4 harg4 arg6 x1 x2)
    (LS0 := HS2_96 c arg3 harg3 arg4 harg4 arg6 x1 x2) (LP0 := HS3_96 c i arg2 harg2 arg3 harg3 arg4 harg4 arg6 arg8 x0 x1 x2)
    rfl rfl rfl rfl rfl rfl

theorem A7 : outBlk (fun g => arg9.view.readCov (HS3_128 c i arg2 harg2 arg3 harg3 arg4 harg4 arg6 arg8 x0 x1 x2) (rP g).toLoadRect)
      (fun g => arg7.view.readCov (HS1_33 c arg4 harg4 x2) (rV 0 g).toLoadRect) (fun g => arg7.view.readCov (HS1_33 c arg4 harg4 x2) (rV 1 g).toLoadRect)
    = later arg2 harg2 arg3 harg3 arg4 harg4 x0 x1 x2 6 :=
  blk_of_steps arg6.view arg7.view arg8.view arg9.view 1 0 (by decide) (LK := HS0_65 c arg4 harg4 x2) (LK0 := HS0_57 c arg4 harg4 x2)
    (LV0 := HS1_29 c arg4 harg4 x2) (LK1 := HS0_49 c arg4 harg4 x2) (LV1 := HS1_25 c arg4 harg4 x2)
    (LS := HS2_128 c arg3 harg3 arg4 harg4 arg6 x1 x2)
    (LS0 := HS2_112 c arg3 harg3 arg4 harg4 arg6 x1 x2) (LP0 := HS3_112 c i arg2 harg2 arg3 harg3 arg4 harg4 arg6 arg8 x0 x1 x2)
    rfl rfl rfl rfl rfl rfl

theorem stores_A (hc0 : cond0_0 i) :
    (kernelRun0_A c i arg2 harg2 arg3 harg3 arg4 harg4 arg5 harg5 arg6 harg6 arg7 harg7 arg8 harg8 arg9 harg9 hc0 x0 x1 x2).1
      = stores (blocks arg2 harg2 arg3 harg3 arg4 harg4 x0 x1 x2 (firstOf i) fillK fillV) := by
  unfold stores
  refine Eq.trans ?_ (congrArg₂ List.cons (congrArg (pO 7) (A7 c i arg2 harg2 arg3 harg3 arg4 harg4 arg6 arg7 arg8 arg9 x0 x1 x2))
    (congrArg₂ List.cons (congrArg (pO 6) (A6 c i arg2 harg2 arg3 harg3 arg4 harg4 arg6 arg7 arg8 arg9 x0 x1 x2))
    (congrArg₂ List.cons (congrArg (pO 5) (A5 c i arg2 harg2 arg3 harg3 arg4 harg4 arg6 arg7 arg8 arg9 x0 x1 x2))
    (congrArg₂ List.cons (congrArg (pO 4) (A4 c i arg2 harg2 arg3 harg3 arg4 harg4 arg6 arg7 arg8 arg9 x0 x1 x2))
    (congrArg₂ List.cons (congrArg (pO 3) (A3 c i arg2 harg2 arg3 harg3 arg4 harg4 arg6 arg7 arg8 arg9 x0 x1 x2))
    (congrArg₂ List.cons (congrArg (pO 2) (A2 c i arg2 harg2 arg3 harg3 arg4 harg4 arg6 arg7 arg8 arg9 x0 x1 x2))
    (congrArg₂ List.cons (congrArg (pO 1) (A1 c i arg2 harg2 arg3 harg3 arg4 harg4 arg6 arg7 arg8 arg9 x0 x1 x2))
    (congrArg₂ List.cons (congrArg (pO 0) (A0 c i arg2 harg2 arg3 harg3 arg4 harg4 arg6 arg7 arg8 arg9 x0 x1 x2)) rfl))))))))
  rfl

/-- What the two carried scratches hold in slot 1 after the point: its last block's keys and values. -/
theorem endK_A (hc0 : cond0_0 i) :
    (kernelRun0_A c i arg2 harg2 arg3 harg3 arg4 harg4 arg5 harg5 arg6 harg6 arg7 harg7 arg8 harg8 arg9 harg9 hc0 x0 x1 x2).2.1
      = stepK 1 (keyT (kvR arg4 harg4 x2 7)) (HS0_57 c arg4 harg4 x2) := rfl
theorem endV_A (hc0 : cond0_0 i) :
    (kernelRun0_A c i arg2 harg2 arg3 harg3 arg4 harg4 arg5 harg5 arg6 harg6 arg7 harg7 arg8 harg8 arg9 harg9 hc0 x0 x1 x2).2.2.1
      = stepV 1 (valT (kvR arg4 harg4 x2 7)) (HS1_29 c arg4 harg4 x2) := rfl

end

end Cert.KernelIdeal.Attn

end
-- ==== Proof.CaseB.lean ====
/-
  A GRID POINT THAT IS NOT THE FIRST OF ITS SEQUENCE, over any floating-point operations `F`: the run of the body stores
  eight blocks `blk`, the first block's predecessor being what slot 1 of the two carried scratches holds.
-/
module

public import proofs.«01_k».proof.Proof.Loads

@[expose] public section

set_option maxRecDepth 16384

noncomputable section

namespace Cert.KernelIdeal.Attn

open Cert.KernelIdeal Cert.KernelIdeal.Gen
open Idealize.ShloMosaic Idealize.ShloMosaic.TcCoe
open kernelRun0_B.sl

variable {F : FTy → Type} [FloatOps F]

section

variable (c : Dev nD) (i : grid0.Coords) (arg2 : Memref sig .tc .smem S16 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S2x8x128x128 .bf16) (harg6 : arg6.IsWhole) (arg7 : Memref sig .tc .vmem S2x4x128x256 .bf16) (harg7 : arg7.IsWhole) (arg8 : Memref sig .tc .vmem S16x128x256 .f32) (harg8 : arg8.IsWhole) (arg9 : Memref sig .tc .vmem S16x128x256 .bf16) (harg9 : arg9.IsWhole)
  (x0 : Vec F S16 .f32) (x1 : Vec F S1024x1024 .bf16) (x2 : Vec F S1024x512 .bf16) (xs0 : Vec F S2x8x128x128 .bf16) (xs1 : Vec F S2x4x128x256 .bf16)

/-- The tiles of slot 1 that the point before left. -/
abbrev carriedK (t : Fin 8) : Vec F S1x1x128x128 .bf16 := View.readAt (Elt F) arg6.view (rK 1 t).toLoadRect (harg6.unread xs0)
abbrev carriedV (g : Fin 4) : Vec F S1x1x128x256 .bf16 := View.readAt (Elt F) arg7.view (rV 1 g).toLoadRect (harg7.unread xs1)

theorem B0 : outBlk (fun g => arg9.view.readCov (HS3_16 c i arg2 harg2 arg3 harg3 arg4 harg4 arg6 harg6 arg8 x0 x1 x2 xs0) (rP g).toLoadRect)
      (carriedV arg7 harg7 xs1) (fun g => arg7.view.readCov (HS1_4 c arg4 harg4 x2) (rV 0 g).toLoadRect)
    = first arg2 harg2 arg3 harg3 arg4 harg4 x0 x1 x2 (firstOf i) (carriedK arg6 harg6 xs0) (carriedV arg7 harg7 xs1) :=
  blk_of_given arg6.view arg7.view arg8.view arg9.view 0 (LK := HS0_8 c arg4 harg4 x2)
    (LS := HS2_16 c arg3 harg3 arg4 harg4 arg6 harg6 x1 x2 xs0) (LS0 := []) (LP0 := []) (LK0 := []) (LV0 := []) rfl rfl rfl rfl

theorem B1 : outBlk (fun g => arg9.view.readCov (HS3_32 c i arg2 harg2 arg3 harg3 arg4 harg4 arg6 harg6 arg8 x0 x1 x2 xs0) (rP g).toLoadRect)
      (fun g => arg7.view.readCov (HS1_8 c arg4 harg4 x2) (rV 0 g).toLoadRect) (fun g => arg7.view.readCov (HS1_8 c arg4 harg4 x2) (rV 1 g).toLoadRect)
    = later arg2 harg2 arg3 harg3 arg4 harg4 x0 x1 x2 0 :=
  blk_of_steps arg6.view arg7.view arg8.view arg9.view 1 0 (by decide) (LK := HS0_16 c arg4 harg4 x2) (LK0 := HS0_8 c arg4 harg4 x2)
    (LV0 := HS1_4 c arg4 harg4 x2) (LK1 := []) (LV1 := []) (LS := HS2_32 c arg3 harg3 arg4 harg4 arg6 harg6 x1 x2 xs0)
    (LS0 := HS2_16 c arg3 harg3 arg4 harg4 arg6 harg6 x1 x2 xs0) (LP0 := HS3_16 c i arg2 harg2 arg3 harg3 arg4 harg4 arg6 harg6 arg8 x0 x1 x2 xs0)
    rfl rfl rfl rfl rfl rfl

theorem B2 : outBlk (fun g => arg9.view.readCov (HS3_48 c i arg2 harg2 arg3 harg3 arg4 harg4 arg6 harg6 arg8 x0 x1 x2 xs0) (rP g).toLoadRect)
      (fun g => arg7.view.readCov (HS1_12 c arg4 harg4 x2) (rV 1 g).toLoadRect) (fun g => arg7.view.readCov (HS1_12 c arg4 harg4 x2) (rV 0 g).toLoadRect)
    = later arg2 harg2 arg3 harg3 arg4 harg4 x0 x1 x2 1 :=
  blk_of_steps arg6.view arg7.view arg8.view arg9.view 0 1 (by decide) (LK := HS0_24 c arg4 harg4 x2) (LK0 := HS0_16 c arg4 harg4 x2)
    (LV0 := HS1_8 c arg4 harg4 x2) (LK1 := HS0_8 c arg4 harg4 x2) (LV1 := HS1_4 c arg4 harg4 x2)
    (LS := HS2_48 c arg3 harg3 arg4 harg4 arg6 harg6 x1 x2 xs0)
    (LS0 := HS2_32 c arg3 harg3 arg4 harg4 arg6 harg6 x1 x2 xs0) (LP0 := HS3_32 c i arg2 harg2 arg3 harg3 arg4 harg4 arg6 harg6 arg8 x0 x1 x2 xs0)
    rfl rfl rfl rfl rfl rfl

theorem B3 : outBlk (fun g => arg9.view.readCov (HS3_64 c i arg2 harg2 arg3 harg3 arg4 harg4 arg6 harg6 arg8 x0 x1 x2 xs0) (rP g).toLoadRect)
      (fun g => arg7.view.readCov (HS1_16 c arg4 harg4 x2) (rV 0 g).toLoadRect) (fun g => arg7.view.readCov (HS1_16 c arg4 harg4 x2) (rV 1 g).toLoadRect)
    = later arg2 harg2 arg3 harg3 arg4 harg4 x0 x1 x2 2 :=
  blk_of_steps arg6.view arg7.view arg8.view arg9.view 1 0 (by decide) (LK := HS0_32 c arg4 harg4 x2) (LK0 := HS0_24 c arg4 harg4 x2)
    (LV0 := HS1_12 c arg4 harg4 x2) (LK1 := HS0_16 c arg4 harg4 x2) (LV1 := HS1_8 c arg4 harg4 x2)
    (LS := HS2_64 c arg3 harg3 arg4 harg4 arg6 harg6 x1 x2 xs0)
    (LS0 := HS2_48 c arg3 harg3 arg4 harg4 arg6 harg6 x1 x2 xs0) (LP0 := HS3_48 c i arg2 harg2 arg3 harg3 arg4 harg4 arg6 harg6 arg8 x0 x1 x2 xs0)
    rfl rfl rfl rfl rfl rfl

theorem B4 : outBlk (fun g => arg9.view.readCov (HS3_80 c i arg2 harg2 arg3 harg3 arg4 harg4 arg6 harg6 arg8 x0 x1 x2 xs0) (rP g).toLoadRect)
      (fun g => arg7.view.readCov (HS1_20 c arg4 harg4 x2) (rV 1 g).toLoadRect) (fun g => arg7.view.readCov (HS1_20 c arg4 harg4 x2) (rV 0 g).toLoadRect)
    = later arg2 harg2 arg3 harg3 arg4 harg4 x0 x1 x2 3 :=
  blk_of_steps arg6.view arg7.view arg8.view arg9.view 0 1 (by decide) (LK := HS0_40 c arg4 harg4 x2) (LK0 := HS0_32 c arg4 harg4 x2)
    (LV0 := HS1_16 c arg4 harg4 x2) (LK1 := HS0_24 c arg4 harg4 x2) (LV1 := HS1_12 c arg4 harg4 x2)
    (LS := HS2_80 c arg3 harg3 arg4 harg4 arg6 harg6 x1 x2 xs0)
    (LS0 := HS2_64 c arg3 harg3 arg4 harg4 arg6 harg6 x1 x2 xs0) (LP0 := HS3_64 c i arg2 harg2 arg3 harg3 arg4 harg4 arg6 harg6 arg8 x0 x1 x2 xs0)
    rfl rfl rfl rfl rfl rfl

theorem B5 : outBlk (fun g => arg9.view.readCov (HS3_96 c i arg2 harg2 arg3 harg3 arg4 harg4 arg6 harg6 arg8 x0 x1 x2 xs0) (rP g).toLoadRect)
      (fun g => arg7.view.readCov (HS1_24 c arg4 harg4 x2) (rV 0 g).toLoadRect) (fun g => arg7.view.readCov (HS1_24 c arg4 harg4 x2) (rV 1 g).toLoadRect)
    = later arg2 harg2 arg3 harg3 arg4 harg4 x0 x1 x2 4 :=
  blk_of_steps arg6.view arg7.view arg8.view arg9.view 1 0 (by decide) (LK := HS0_48 c arg4 harg4 x2) (LK0 := HS0_40 c arg4 harg4 x2)
    (LV0 := HS1_20 c arg4 harg4 x2) (LK1 := HS0_32 c arg4 harg4 x2) (LV1 := HS1_16 c arg4 harg4 x2)
    (LS := HS2_96 c arg3 harg3 arg4 harg4 arg6 harg6 x1 x2 xs0)
    (LS0 := HS2_80 c arg3 harg3 arg4 harg4 arg6 harg6 x1 x2 xs0) (LP0 := HS3_80 c i arg2 harg2 arg3 harg3 arg4 harg4 arg6 harg6 arg8 x0 x1 x2 xs0)
    rfl rfl rfl rfl rfl rfl

theorem B6 : outBlk (fun g => arg9.view.readCov (HS3_112 c i arg2 harg2 arg3 harg3 arg4 harg4 arg6 harg6 arg8 x0 x1 x2 xs0) (rP g).toLoadRect)
      (fun g => arg7.view.readCov (HS1_28 c arg4 harg4 x2) (rV 1 g).toLoadRect) (fun g => arg7.view.readCov (HS1_28 c arg4 harg4 x2) (rV 0 g).toLoadRect)
    = later arg2 harg2 arg3 harg3 arg4 harg4 x0 x1 x2 5 :=
  blk_of_steps arg6.view arg7.view arg8.view arg9.view 0 1 (by decide) (LK := HS0_56 c arg4 harg4 x2) (LK0 := HS0_48 c arg4 harg4 x2)
    (LV0 := HS1_24 c arg4 harg4 x2) (LK1 := HS0_40 c arg4 harg4 x2) (LV1 := HS1_20 c arg4 harg4 x2)
    (LS := HS2_112 c arg3 harg3 arg4 harg4 arg6 harg6 x1 x2 xs0)
    (LS0 := HS2_96 c arg3 harg3 arg4 harg4 arg6 harg6 x1 x2 xs0) (LP0 := HS3_96 c i arg2 harg2 arg3 harg3 arg4 harg4 arg6 harg6 arg8 x0 x1 x2 xs0)
    rfl rfl rfl rfl rfl rfl

theorem B7 : outBlk (fun g => arg9.view.readCov (HS3_128 c i arg2 harg2 arg3 harg3 arg4 harg4 arg6 harg6 arg8 x0 x1 x2 xs0) (rP g).toLoadRect)
      (fun g => arg7.view.readCov (HS1_32 c arg4 harg4 x2) (rV 0 g).toLoadRect) (fun g => arg7.view.readCov (HS1_32 c arg4 harg4 x2) (rV 1 g).toLoadRect)
    = later arg2 harg2 arg3 harg3 arg4 harg4 x0 x1 x2 6 :=
  blk_of_steps arg6.view arg7.view arg8.view arg9.view 1 0 (by decide) (LK := HS0_64 c arg4 harg4 x2) (LK0 := HS0_56 c arg4 harg4 x2)
    (LV0 := HS1_28 c arg4 harg4 x2) (LK1 := HS0_48 c arg4 harg4 x2) (LV1 := HS1_24 c arg4 harg4 x2)
    (LS := HS2_128 c arg3 harg3 arg4 harg4 arg6 harg6 x1 x2 xs0)
    (LS0 := HS2_112 c arg3 harg3 arg4 harg4 arg6 harg6 x1 x2 xs0) (LP0 := HS3_112 c i arg2 harg2 arg3 harg3 arg4 harg4 arg6 harg6 arg8 x0 x1 x2 xs0)
    rfl rfl rfl rfl rfl rfl

theorem stores_B (hc0 : ¬ cond0_0 i) :
    (kernelRun0_B c i arg2 harg2 arg3 harg3 arg4 harg4 arg5 harg5 arg6 harg6 arg7 harg7 arg8 harg8 arg9 harg9 hc0 x0 x1 x2 xs0 xs1).1
      = stores (blocks arg2 harg2 arg3 harg3 arg4 harg4 x0 x1 x2 (firstOf i) (carriedK arg6 harg6 xs0) (carriedV arg7 harg7 xs1)) := by
  unfold stores
  refine Eq.trans ?_ (congrArg₂ List.cons (congrArg (pO 7) (B7 c i arg2 harg2 arg3 harg3 arg4 harg4 arg6 harg6 arg7 arg8 arg9 x0 x1 x2 xs0))
    (congrArg₂ List.cons (congrArg (pO 6) (B6 c i arg2 harg2 arg3 harg3 arg4 harg4 arg6 harg6 arg7 arg8 arg9 x0 x1 x2 xs0))
    (congrArg₂ List.cons (congrArg (pO 5) (B5 c i arg2 harg2 arg3 harg3 arg4 harg4 arg6 harg6 arg7 arg8 arg9 x0 x1 x2 xs0))
    (congrArg₂ List.cons (congrArg (pO 4) (B4 c i arg2 harg2 arg3 harg3 arg4 harg4 arg6 harg6 arg7 arg8 arg9 x0 x1 x2 xs0))
    (congrArg₂ List.cons (congrArg (pO 3) (B3 c i arg2 harg2 arg3 harg3 arg4 harg4 arg6 harg6 arg7 arg8 arg9 x0 x1 x2 xs0))
    (congrArg₂ List.cons (congrArg (pO 2) (B2 c i arg2 harg2 arg3 harg3 arg4 harg4 arg6 harg6 arg7 arg8 arg9 x0 x1 x2 xs0))
    (congrArg₂ List.cons (congrArg (pO 1) (B1 c i arg2 harg2 arg3 harg3 arg4 harg4 arg6 harg6 arg7 arg8 arg9 x0 x1 x2 xs0))
    (congrArg₂ List.cons (congrArg (pO 0) (B0 c i arg2 harg2 arg3 harg3 arg4 harg4 arg6 harg6 arg7 harg7 arg8 arg9 x0 x1 x2 xs0 xs1)) rfl))))))))
  rfl

/-- What the two carried scratches hold in slot 1 after the point: its last block's keys and values. -/
theorem endK_B (hc0 : ¬ cond0_0 i) :
    (kernelRun0_B c i arg2 harg2 arg3 harg3 arg4 harg4 arg5 harg5 arg6 harg6 arg7 harg7 arg8 harg8 arg9 harg9 hc0 x0 x1 x2 xs0 xs1).2.1
      = stepK 1 (keyT (kvR arg4 harg4 x2 7)) (HS0_56 c arg4 harg4 x2) := rfl
theorem endV_B (hc0 : ¬ cond0_0 i) :
    (kernelRun0_B c i arg2 harg2 arg3 harg3 arg4 harg4 arg5 harg5 arg6 harg6 arg7 harg7 arg8 harg8 arg9 harg9 hc0 x0 x1 x2 xs0 xs1).2.2.1
      = stepV 1 (valT (kvR arg4 harg4 x2 7)) (HS1_28 c arg4 harg4 x2) := rfl

end

end Cert.KernelIdeal.Attn

end
-- ==== Proof.Points.lean ====
/-
  WHAT THE KERNEL LEAVES IN ITS RESULT, over any floating-point operations `F`: the 128 rows of block `B` (of the 128 blocks
  of the two sequences) are `blk` of the block's own queries, keys and values and of the keys and values of the block
  before, the scratches' initial contents standing for the latter at the start of a sequence.
-/
module

public import proofs.«01_k».proof.Proof.CaseA
public import proofs.«01_k».proof.Proof.CaseB

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-! ## The blocks of the whole arrays -/

/-- Block `B`'s keys and values, and its queries. -/
def kvBlk (x : Vec F S16384x1536 .bf16) (B : Fin 128) : Vec F S128x512 .bf16 := fun y =>
  x (ix2 ⟨128 * B.val + (y 0).val, by have : (y 0).val < 128 := (y 0).isLt; omega⟩
    ⟨1024 + (y 1).val, by have : (y 1).val < 512 := (y 1).isLt; omega⟩)
def qBlk (x : Vec F S16384x1536 .bf16) (B : Fin 128) : Vec F S128x1024 .bf16 := fun y =>
  x (ix2 ⟨128 * B.val + (y 0).val, by have : (y 0).val < 128 := (y 0).isLt; omega⟩
    ⟨(y 1).val, by have : (y 1).val < 1024 := (y 1).isLt; omega⟩)

/-- The block before. -/
def before (B : Fin 128) : Fin 128 := ⟨B.val - 1, by omega⟩

/-- The keys and values a block finds of the block before it. -/
def prevK (x : Vec F S16384x1536 .bf16) (B : Fin 128) : Fin 8 → Vec F S1x1x128x128 .bf16 :=
  if B.val % 64 = 0 then fillK else fun t => key4 (keyT (kvBlk x (before B)) t)
def prevV (x : Vec F S16384x1536 .bf16) (B : Fin 128) : Fin 4 → Vec F S1x1x128x256 .bf16 :=
  if B.val % 64 = 0 then fillV else fun t => val4 (valT (kvBlk x (before B)) t)

/-- Does the block begin its sequence? -/
def begins (B : Fin 128) : BitVec 1 := if B.val % 64 = 0 then 1#1 else 0#1

/-- Block `B`'s output rows. -/
def gblk (x : Vec F S16384x1536 .bf16) (k : Fin 16 → Elt F .f32) (B : Fin 128) : FVec F S128x1024 .bf16 :=
  blk (begins B) k (qBlk x B) (prevK x B) (fun t => key4 (keyT (kvBlk x B) t)) (prevV x B) (fun g => val4 (valT (kvBlk x B) g))

/-! ## The windows -/

variable (m : (ℓ : Loc nD τ sig) → Buf (Elt F) ℓ)

/-- The queries, keys and values the kernel is given, and the sinks. -/
abbrev qkvA (c : Dev nD) : Vec F S16384x1536 .bf16 := m ((c : Thread nD τ).loc main_arg0)
abbrev sinkA (c : Dev nD) : Vec F S16 .f32 := m ((c : Thread nD τ).loc main_arg1)

theorem pt_lt (t : Fin cfg0.N) : t.val < 16 := lt_of_lt_of_eq t.isLt N_0

/-- Block `b` of grid point `t`. -/
def blkAt (t : Fin cfg0.N) (b : Fin 8) : Fin 128 := ⟨8 * t.val + b.val, by have := pt_lt t; omega⟩

theorem index_facts : ∀ t : Fin cfg0.N, win0_1.index t (0 : Fin 2) = t.val ∧ win0_1.index t (1 : Fin 2) = 0
    ∧ win0_2.index t (0 : Fin 2) = t.val ∧ win0_2.index t (1 : Fin 2) = 2 ∧ win0_0.index t (0 : Fin 1) = 0 :=
  (by decide +kernel : ∀ t : Fin grid0.N, _)

theorem kv_window (c : Dev nD) (t : Fin cfg0.N) (b : Fin 8) : kvOf (F := F) (iblk m c 2 t) b = kvBlk (qkvA m c) (blkAt t b) := by
  obtain ⟨-, -, h0, h1, -⟩ := index_facts t
  funext y
  unfold kvOf kvBlk iblk
  show V m c main_arg0 _ = m (c.tc.loc main_arg0) _
  unfold V
  congr 1
  funext a
  apply Fin.ext
  match a with
  | ⟨0, _⟩ =>
    show win0_2.index t (0 : Fin 2) * 1024 + 1 * (128 * b.val + 1 * (y 0).val) = 128 * (8 * t.val + b.val) + (y 0).val
    rw [h0]; omega
  | ⟨1, _⟩ =>
    show win0_2.index t (1 : Fin 2) * 512 + 1 * (0 + 1 * (y 1).val) = 1024 + (y 1).val
    rw [h1]; omega

theorem q_window (c : Dev nD) (t : Fin cfg0.N) (b : Fin 8) : qOf (F := F) (X0_1 m c t) b = qBlk (qkvA m c) (blkAt t b) := by
  obtain ⟨h0, h1, -, -, -⟩ := index_facts t
  funext y
  show X0_1 m c t ((rQ b).emb y) = _
  unfold X0_1 Pipeline.Window.fill
  rw [dif_pos (moved0_1 t _)]
  unfold qBlk iblk
  show V m c main_arg0 _ = m (c.tc.loc main_arg0) _
  unfold V
  congr 1
  funext a
  apply Fin.ext
  match a with
  | ⟨0, _⟩ =>
    show win0_1.index t (0 : Fin 2) * 1024 + 1 * (128 * b.val + 1 * (y 0).val) = 128 * (8 * t.val + b.val) + (y 0).val
    rw [h0]; omega
  | ⟨1, _⟩ =>
    show win0_1.index t (1 : Fin 2) * 1024 + 1 * (0 + 1 * (y 1).val) = (y 1).val
    rw [h1]; omega

theorem sink_window (c : Dev nD) (t : Fin cfg0.N) : sinkOf (F := F) (iblk m c 0 t) = fun h => sinkA m c (ix1 h) := by
  obtain ⟨-, -, -, -, h0⟩ := index_facts t
  funext h
  unfold sinkOf iblk
  show V m c main_arg1 _ = m (c.tc.loc main_arg1) _
  unfold V
  congr 1
  funext a
  apply Fin.ext
  match a with
  | ⟨0, _⟩ =>
    show win0_0.index t (0 : Fin 1) * 16 + 1 * h.val = h.val
    rw [h0]; omega

theorem firstOf_eq (t : Fin cfg0.N) : firstOf (grid0.coords t) = begins (blkAt t 0) := by
  have : ∀ t : Fin grid0.N, firstOf (grid0.coords t) = if t.val % 8 = 0 then 1#1 else 0#1 := by decide +kernel
  rw [this t]
  unfold begins blkAt
  show _ = if (8 * t.val + 0) % 64 = 0 then 1#1 else 0#1
  have h : (8 * t.val + 0) % 64 = 0 ↔ t.val % 8 = 0 := by omega
  simp only [h]

/-! ## A point's blocks -/

variable (arg2 : Memref sig .tc .smem S16 .f32) (harg2 : arg2.IsWhole) (arg3 : Memref sig .tc .vmem S1024x1024 .bf16) (harg3 : arg3.IsWhole)
  (arg4 : Memref sig .tc .vmem S1024x512 .bf16) (harg4 : arg4.IsWhole)

/-- Given that the first block finds the keys and values of the block before, all eight are the array's. -/
theorem blocks_eq (c : Dev nD) (t : Fin cfg0.N) (kp : Fin 8 → Vec F S1x1x128x128 .bf16) (vp : Fin 4 → Vec F S1x1x128x256 .bf16)
    (hk : kp = prevK (qkvA m c) (blkAt t 0)) (hv : vp = prevV (qkvA m c) (blkAt t 0)) :
    blocks arg2 harg2 arg3 harg3 arg4 harg4 (iblk m c 0 t) (X0_1 m c t) (iblk m c 2 t) (firstOf (grid0.coords t)) kp vp
      = fun b => gblk (qkvA m c) (fun h => sinkA m c (ix1 h)) (blkAt t b) := by
  subst hk hv
  funext b
  refine Fin.cases ?_ (fun b => ?_) b
  · show first arg2 harg2 arg3 harg3 arg4 harg4 (iblk m c 0 t) (X0_1 m c t) (iblk m c 2 t) _ _ _ = _
    unfold first gblk
    rw [sinkR_eq, qR_eq, kvR_eq, kv_window, q_window, sink_window, firstOf_eq]
  · show later arg2 harg2 arg3 harg3 arg4 harg4 (iblk m c 0 t) (X0_1 m c t) (iblk m c 2 t) b.val _ = _
    have hne : ¬ (blkAt t b.succ).val % 64 = 0 := by
      show ¬ (8 * t.val + (b.val + 1)) % 64 = 0; omega
    have hb : before (blkAt t b.succ) = blkAt t ⟨b.val, by omega⟩ := Fin.ext (show 8 * t.val + (b.val + 1) - 1 = 8 * t.val + b.val by omega)
    unfold later gblk prevK prevV begins
    rw [if_neg hne, if_neg hne, if_neg hne, hb, sinkR_eq, qR_eq, kvR_eq, kvR_eq, kv_window, kv_window, q_window, sink_window]
    rfl

/-! ## What a point leaves -/

/-- A tile of slot 1 read off the contents that writes ending in a block's keys leave; and the like of the values. -/
theorem ld_stepK (kv : Vec F S128x512 .bf16) (L : List (PieceK F)) (h : Fin 8) :
    View.ld (View.canon (stepK 1 (keyT kv) L)) (rK 1 h) = key4 (keyT kv h) :=
  (View.readCov_eq_canon' scM0_0.view (stepK 1 (keyT kv) L) (rK 1 h).toLoadRect).symm.trans (read_stepK scM0_0.view 1 (keyT kv) L h)
theorem ld_stepV (kv : Vec F S128x512 .bf16) (L : List (PieceV F)) (g : Fin 4) :
    View.ld (View.canon (stepV 1 (valT kv) L)) (rV 1 g) = val4 (valT kv g) :=
  (View.readCov_eq_canon' scM0_1.view (stepV 1 (valT kv) L) (rV 1 g).toLoadRect).symm.trans (read_stepV scM0_1.view 1 (valT kv) L g)

/-- Slot 1 of the key scratch after point `t`: its last block's keys. -/
theorem leavesK (c : Dev nD) (t : Fin cfg0.N) (h : Fin 8) :
    View.ld (Val := Elt F) (outsAt0 m c t.val t.isLt).2.1 (rK 1 h) = key4 (keyT (kvBlk (qkvA m c) (blkAt t 7)) h) := by
  by_cases h0 : t.val % 8 = 0
  · rw [outsAt0_A m c t h0]
    dsimp only
    unfold sout0_A_0
    rw [View.read_writes_eq_canon _ _ _ (fun y => scover0_A_0 (y := y) ..), endK_A, ld_stepK, kvR_eq, kv_window]
  · rw [outsAt0_B m c t h0]
    dsimp only
    unfold sout0_B_0
    rw [View.read_writes_eq_canon _ _ _ (fun y => scover0_B_0 (y := y) ..), endK_B, ld_stepK, kvR_eq, kv_window]

/-- Slot 1 of the value scratch after it: its last block's values. -/
theorem leavesV (c : Dev nD) (t : Fin cfg0.N) (g : Fin 4) :
    View.ld (Val := Elt F) (outsAt0 m c t.val t.isLt).2.2 (rV 1 g) = val4 (valT (kvBlk (qkvA m c) (blkAt t 7)) g) := by
  by_cases h0 : t.val % 8 = 0
  · rw [outsAt0_A m c t h0]
    dsimp only
    unfold sout0_A_1
    rw [View.read_writes_eq_canon _ _ _ (fun y => scover0_A_1 (y := y) ..), endV_A, ld_stepV, kvR_eq, kv_window]
  · rw [outsAt0_B m c t h0]
    dsimp only
    unfold sout0_B_1
    rw [View.read_writes_eq_canon _ _ _ (fun y => scover0_B_1 (y := y) ..), endV_B, ld_stepV, kvR_eq, kv_window]

/-- The result's buffer after point `t`: the rows of its eight blocks. -/
theorem leavesO (c : Dev nD) (t : Fin cfg0.N) :
    (outsAt0 m c t.val t.isLt).1 = rows fun b => gblk (qkvA m c) (fun h => sinkA m c (ix1 h)) (blkAt t b) := by
  by_cases h0 : t.val % 8 = 0
  · have hb : (blkAt t 0).val % 64 = 0 := show (8 * t.val + 0) % 64 = 0 by omega
    rw [outsAt0_A m c t h0]
    dsimp only
    unfold out0_A_3
    rw [View.read_writes_eq_canon _ _ _ (fun y => cover0_A_3 (y := y) ..), stores_A, canon_stores, blocks_eq]
    · unfold prevK; rw [if_pos hb]
    · unfold prevV; rw [if_pos hb]
  · have hb : ¬ (blkAt t 0).val % 64 = 0 := show ¬ (8 * t.val + 0) % 64 = 0 by omega
    have hp : t.val - 1 < cfg0.N := Nat.lt_of_le_of_lt (Nat.sub_le _ _) t.isLt
    have hbb : before (blkAt t 0) = blkAt ⟨t.val - 1, hp⟩ 7 := Fin.ext (show 8 * t.val + 0 - 1 = 8 * (t.val - 1) + 7 by omega)
    rw [outsAt0_B m c t h0]
    dsimp only
    unfold out0_B_3
    rw [View.read_writes_eq_canon _ _ _ (fun y => cover0_B_3 (y := y) ..), stores_B, canon_stores, blocks_eq]
    · unfold prevK; rw [if_neg hb, hbb]
      funext h
      unfold carriedK
      rw [View.readAt_eq_ld, (Memref.isWhole_whole _).read_unread]
      exact leavesK m c ⟨t.val - 1, hp⟩ h
    · unfold prevV; rw [if_neg hb, hbb]
      funext h
      unfold carriedV
      rw [View.readAt_eq_ld, (Memref.isWhole_whole _).read_unread]
      exact leavesV m c ⟨t.val - 1, hp⟩ h

/-- The result at an index: its row's block, at the row's place in it. -/
theorem result_eq (c : Dev nD) (i : S16384x1024.Idx) :
    Cert.KernelIdeal.Value.G3 m c i = gblk (qkvA m c) (fun h => sinkA m c (ix1 h))
      ⟨(i 0).val / 128, by have : (i 0).val < 16384 := (i 0).isLt; omega⟩
      (ix2 ⟨(i 0).val % 128, Nat.mod_lt _ (by norm_num)⟩ (i 1)) := by
  have h0 : (i 0).val < 16384 := (i 0).isLt
  have h1 : (i 1).val < 1024 := (i 1).isLt
  have hp : Cert.KernelIdeal.Value.pt3Of i = (i 0).val / 1024 := show 1 * ((i 0).val / 1024 - 0) + 1 * ((i 1).val / 1024 - 0) = _ by omega
  have hN : cfg0.N = 16 := N_0
  have hn : Cert.KernelIdeal.Value.pt3Of i < cfg0.N := by omega
  unfold Cert.KernelIdeal.Value.G3
  rw [dif_pos hn, ← Cert.KernelIdeal.Value.outsAt0_sweep m c _ hn, leavesO m c ⟨_, hn⟩]
  unfold rows
  have key : ∀ (B B' : Fin 128) (z z' : S128x1024.Idx), B = B' → z = z' →
      gblk (qkvA m c) (fun h => sinkA m c (ix1 h)) B z = gblk (qkvA m c) (fun h => sinkA m c (ix1 h)) B' z' := by
    rintro _ _ _ _ rfl rfl; rfl
  refine key _ _ _ _ (Fin.ext ?_) ?_
  · show 8 * Cert.KernelIdeal.Value.pt3Of i + (i 0).val % 1024 / 128 = (i 0).val / 128
    rw [hp]; omega
  · funext a
    match a with
    | ⟨0, _⟩ => exact Fin.ext (show (i 0).val % 1024 % 128 = (i 0).val % 128 by omega)
    | ⟨1, _⟩ => exact Fin.ext (show (i 1).val % 1024 = (i 1).val by omega)

end Cert.KernelIdeal.Attn

end
-- ==== Proof.SinkSoftmax.lean ====
/-
  THE EQUATION over the extended reals: a softmax whose denominator counts a sink. On one side the sink's score stands at a
  key that is never seen, whose value is taken to be zero, and the quotient is formed last; on the other the sink is added to
  the denominator and each weight divided by it. Seen scores are finite and the sink is not +∞; the values are anything.
-/
module

public import Idealize.ShloMosaic.PureOps.Ideal

@[expose] public section

noncomputable section

namespace SinkSoftmax

open Idealize.ShloMosaic

variable {n : ℕ} (seen : Fin (n + 1) → Prop) [DecidablePred seen] (sc V : Fin (n + 1) → EReal) (s : EReal)

/-- The masked scores; and the same with the sink's score at key 0. -/
def hid (j : Fin (n + 1)) : EReal := if seen j then sc j else ⊥
def sub (j : Fin (n + 1)) : EReal := if seen j then sc j else if j = 0 then s else ⊥

/-- Their largest, the sink among them. -/
def top : EReal := max (Finset.univ.fold max ⊥ (hid seen sc)) s
def topS : EReal := Finset.univ.fold max ⊥ (sub seen sc s)

theorem fold_max_eq (f : Fin (n + 1) → EReal) : Finset.univ.fold max ⊥ f = Finset.univ.sup f := rfl

theorem top_eq (h0 : ¬ seen 0) : topS seen sc s = top seen sc s := by
  unfold topS top
  rw [fold_max_eq, fold_max_eq]
  apply le_antisymm
  · refine Finset.sup_le fun j _ => ?_
    unfold sub
    split
    · next h =>
      refine le_trans ?_ (le_max_left _ _)
      refine le_trans (le_of_eq ?_) (Finset.le_sup (f := hid seen sc) (Finset.mem_univ j))
      unfold hid; rw [if_pos h]
    · split
      · exact le_max_right _ _
      · exact bot_le
  · refine max_le (Finset.sup_le fun j _ => ?_) ?_
    · refine le_trans ?_ (Finset.le_sup (f := sub seen sc s) (Finset.mem_univ j))
      unfold hid sub
      split
      · exact le_rfl
      · exact bot_le
    · refine le_trans (le_of_eq ?_) (Finset.le_sup (f := sub seen sc s) (Finset.mem_univ 0))
      unfold sub
      rw [if_neg h0, if_pos rfl]

/-- The largest is a real number. -/
theorem top_real (j0 : Fin (n + 1)) (hj : seen j0) (hsc : ∀ j, seen j → sc j ≠ ⊥ ∧ sc j ≠ ⊤) (hs : s ≠ ⊤) :
    ∃ r : ℝ, top seen sc s = (r : EReal) := by
  have ht : top seen sc s ≠ ⊤ := by
    unfold top
    rw [fold_max_eq]
    refine (max_lt ((Finset.sup_lt_iff (bot_lt_top)).2 fun j _ => ?_) (lt_top_iff_ne_top.2 hs)).ne
    unfold hid
    split
    · next h => exact lt_top_iff_ne_top.2 (hsc j h).2
    · exact bot_lt_top
  have hb : top seen sc s ≠ ⊥ := by
    have h1 : hid seen sc j0 ≤ top seen sc s :=
      le_trans (Finset.le_sup (f := hid seen sc) (Finset.mem_univ j0)) (le_max_left _ _)
    have h2 : hid seen sc j0 = sc j0 := by unfold hid; rw [if_pos hj]
    intro h
    rw [h, h2] at h1
    exact (hsc j0 hj).1 (le_bot_iff.1 h1)
  exact ⟨(top seen sc s).toReal, (EReal.coe_toReal ht hb).symm⟩

/-- A weight below the largest is a nonnegative real number. -/
theorem exp_real (a : EReal) (ha : a ≠ ⊤) (r : ℝ) : ∃ w : ℝ, 0 ≤ w ∧ Ideal.exp (a - (r : EReal)) = (w : EReal) := by
  induction a with
  | bot => exact ⟨0, le_rfl, by rw [EReal.bot_sub]; rfl⟩
  | top => exact absurd rfl ha
  | coe x => exact ⟨Real.exp (x - r), (Real.exp_pos _).le, by rw [← EReal.coe_sub]; rfl⟩

/-- A product with a nonnegative real number goes into a sum. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert i S hi ih =>
    rw [Finset.sum_insert hi, Finset.sum_insert hi, EReal.right_distrib_of_nonneg_of_ne_top (EReal.coe_nonneg.2 hc) (EReal.coe_ne_top c), ih]

theorem sum_coe {ι : Type} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- The two sides agree. -/
theorem equation (h0 : ¬ seen 0) (j0 : Fin (n + 1)) (hj : seen j0) (hsc : ∀ j, seen j → sc j ≠ ⊥ ∧ sc j ≠ ⊤) (hs : s ≠ ⊤) :
    Ideal.div (∑ j, Ideal.exp (sub seen sc s j - topS seen sc s) * (if j = 0 then 0 else V j))
        (∑ j, Ideal.exp (sub seen sc s j - topS seen sc s) * 1)
      = ∑ j, V j * Ideal.div (Ideal.exp (hid seen sc j - top seen sc s))
          (0 + ∑ j', Ideal.exp (hid seen sc j' - top seen sc s) + Ideal.exp (s - top seen sc s)) := by
  rw [top_eq seen sc s h0]
  obtain ⟨r, hr⟩ := top_real seen sc s j0 hj hsc hs
  rw [hr]
  have hw : ∀ j, ∃ w : ℝ, 0 ≤ w ∧ Ideal.exp (hid seen sc j - (r : EReal)) = (w : EReal) := fun j => by
    refine exp_real _ ?_ r
    unfold hid
    split
    · next h => exact (hsc j h).2
    · exact bot_ne_top
  choose w hw0 hw using hw
  obtain ⟨u, hu0, hu⟩ := exp_real s hs r
  have hz : w 0 = 0 := by
    have h := hw 0
    unfold hid at h
    rw [if_neg h0, EReal.bot_sub] at h
    exact (EReal.coe_eq_zero.1 h.symm)
  have hp : 0 < w j0 := by
    have h := hw j0
    unfold hid at h
    rw [if_pos hj] at h
    obtain ⟨x, hx⟩ : ∃ x : ℝ, sc j0 = (x : EReal) := ⟨(sc j0).toReal, (EReal.coe_toReal (hsc j0 hj).2 (hsc j0 hj).1).symm⟩
    rw [hx, ← EReal.coe_sub] at h
    have h' : Real.exp (x - r) = w j0 := EReal.coe_injective h
    rw [← h']
    exact Real.exp_pos _
  have hsub : ∀ j, Ideal.exp (sub seen sc s j - (r : EReal)) = if j = 0 then (u : EReal) else (w j : EReal) := fun j => by
    by_cases hj0 : j = 0
    · subst hj0
      rw [if_pos rfl]
      unfold sub
      rw [if_neg h0, if_pos rfl, hu]
    · rw [if_neg hj0, ← hw j]
      unfold sub hid
      rw [if_neg hj0]
  have hD : ∑ j, Ideal.exp (sub seen sc s j - (r : EReal)) * 1 = ((∑ j, w j + u : ℝ) : EReal) := by
    simp only [mul_one, hsub]
    rw [Fin.sum_univ_succ, if_pos rfl, Fin.sum_univ_succ, hz, zero_add, add_comm]
    simp only [if_neg (Fin.succ_ne_zero _)]
    rw [sum_coe, EReal.coe_add]
  have hN : ∑ j, Ideal.exp (sub seen sc s j - (r : EReal)) * (if j = 0 then 0 else V j) = ∑ j, V j * (w j : EReal) := by
    refine Finset.sum_congr rfl fun j _ => ?_
    rw [hsub]
    by_cases hj0 : j = 0
    · subst hj0; rw [if_pos rfl, if_pos rfl, hz, mul_zero, EReal.coe_zero, mul_zero]
    · rw [if_neg hj0, if_neg hj0, mul_comm]
  have hpos : 0 < ∑ j, w j + u := by
    have : w j0 ≤ ∑ j, w j := Finset.single_le_sum (f := w) (fun j _ => hw0 j) (Finset.mem_univ j0)
    linarith
  rw [hD, hN]
  simp only [hw, hu]
  rw [sum_coe, zero_add, ← EReal.coe_add, Ideal.div_coe hpos.ne', sum_mul_real _ _ _ (by positivity)]
  refine Finset.sum_congr rfl fun j _ => ?_
  rw [Ideal.div_coe hpos.ne', mul_assoc]

end SinkSoftmax

end
-- ==== Proof.Spec.lean ====
/-
  THE ATTENTION OF ONE QUERY ROW, in plain terms of the array of queries, keys and values: which keys it sees, its scores,
  the values. Both programs are read in these terms.
-/
module

public import proofs.«01_k».proof.Proof.SinkSoftmax

@[expose] public section

noncomputable section

namespace SinkSoftmax

/-- Key (`e < 4`) or value (`e ≥ 4`) head `e`, lane `d`, of the `j`-th of the 256 rows that block `B` attends to: the block
    before it, zeros where it begins a sequence, then its own. -/
def bandAt (X : Fin 16384 → Fin 1536 → EReal) (B : Fin 128) (j : Fin 256) (e : Fin 8) (d : Fin 64) : EReal :=
  if j.val < 128 then
    if B.val % 64 = 0 then 0 else X ⟨128 * (B.val - 1) + j.val % 128, by omega⟩ ⟨1024 + 64 * e.val + d.val, by omega⟩
  else X ⟨128 * B.val + (j.val - 128), by omega⟩ ⟨1024 + 64 * e.val + d.val, by omega⟩

/-- Which of the 256 rows row `r` of block `B` sees. -/
def Sees (B r : Fin 128) (j : Fin 256) : Prop :=
  j.val ≤ r.val + 128 ∧ r.val < j.val ∧ (B.val % 64 ≠ 0 ∨ 128 ≤ j.val)

instance (B r : Fin 128) : DecidablePred (Sees B r) := fun _ => by unfold Sees; infer_instance

/-- Head `h`'s scores. -/
def scoreAt (X : Fin 16384 → Fin 1536 → EReal) (B r : Fin 128) (h : Fin 16) (j : Fin 256) : EReal :=
  ∑ d : Fin 64, X ⟨128 * B.val + r.val, by omega⟩ ⟨64 * h.val + d.val, by omega⟩ * bandAt X B j ⟨h.val / 4, by omega⟩ d

/-- Column `c`'s values: head `c / 64`, lane `c % 64`. -/
def valueAt (X : Fin 16384 → Fin 1536 → EReal) (B : Fin 128) (h : Fin 16) (d : Fin 64) (j : Fin 256) : EReal :=
  bandAt X B j ⟨4 + h.val / 4, by omega⟩ d

end SinkSoftmax

end
-- ==== Proof.Entry.lean ====
/-
  ONE ELEMENT OF A BLOCK over the extended reals: the padded keys and values, the scores, the weights and the quotients of
  Block.lean, each read at an index.
-/
module

public import proofs.«01_k».proof.Proof.Points
public import proofs.«01_k».proof.Proof.Spec
public import Idealize.ShloMosaic.Lib.StableHlo.Predicate

@[expose] public section

set_option maxRecDepth 16384

noncomputable section

namespace Cert.KernelIdeal.Attn

open Cert.KernelIdeal Cert.KernelIdeal.Gen
open Idealize.ShloMosaic Idealize.ShloMosaic.TcCoe Idealize.ShloMosaic.WordCmp

theorem sel_if {α : Type} (p : Prop) [Decidable p] (x y : α) : Scalar.select (if p then 1#1 else 0#1) x y = if p then x else y := by
  split <;> rfl

theorem low_apply (j l : Fin 128) : low (ix2 j l) = if l.val < 64 then 1#1 else 0#1 := by
  pointwise [low]
  revert l; decide

theorem keyT_apply (kv : Vec Ideal S128x512 .bf16) (t : Fin 8) (j l : Fin 128) :
    keyT kv t (ix2 j l) = if l.val / 64 = t.val % 2 then kv (ix2 j ⟨64 * (t.val / 2) + l.val % 64, by omega⟩) else 0 := by
  have key : ∀ (a b : Fin 512), a = b → kv (ix2 j a) = kv (ix2 j b) := by rintro a _ rfl; rfl
  fin_cases t
  all_goals
    pointwise [keyT, keepHigh, keepLow, swap, zeros, tile0, tile1]
    rw [low_apply, sel_if]
    by_cases hl : l.val < 64
  all_goals
    first | rw [if_pos hl] | rw [if_neg hl]
    first
    | (rw [if_pos (by omega)]; exact key _ _ (Fin.ext (by simp only [Fin.val_mk]; omega)))
    | rw [if_neg (by omega)]

theorem valT_apply (kv : Vec Ideal S128x512 .bf16) (g : Fin 4) (j : Fin 128) (l : Fin 256) :
    valT kv g (ix2 j l) = if l.val < 128 then kv (ix2 j ⟨256 + 64 * g.val + l.val % 64, by omega⟩) else 1 := by
  have key : ∀ (a b : Fin 512), a = b → kv (ix2 j a) = kv (ix2 j b) := by rintro a _ rfl; rfl
  fin_cases g
  all_goals
    pointwise [valT, besideOnes, ones, swap, tile2, tile3]
    by_cases hh : l.val < 128
  all_goals
    first
    | rw [dif_neg hh, if_neg hh]
    | (rw [dif_pos hh, if_pos hh, low_apply, sel_if]
       by_cases hl : l.val < 64
       · rw [if_pos hl]; exact key _ _ (Fin.ext (by simp only [Fin.val_mk]; omega))
       · rw [if_neg hl]; exact key _ _ (Fin.ext (by simp only [Fin.val_mk]; omega)))

theorem score_apply (q : FVec Ideal S256x128 .bf16) (kp kc : Vec Ideal S1x1x128x128 .bf16) (i j : Fin 256) :
    score q kp kc (ix2 i j) = ∑ x : Fin 128, q (ix2 i x) *
      if h : j.val < 128 then kp (ix4 0 0 ⟨j.val, h⟩ x) else kc (ix4 0 0 ⟨j.val - 128, by omega⟩ x) := by
  pointwise [score]

theorem scores_apply (q : Vec Ideal S128x1024 .bf16) (kp kc : Fin 8 → Vec Ideal S1x1x128x128 .bf16) (h : Fin 16) (i : Fin 128) (j : Fin 256) :
    scores q kp kc h (ix2 i j) = ∑ x : Fin 128, q (ix2 i ⟨128 * (2 * (h.val / 4) + h.val % 4 / 2) + x.val, by omega⟩) *
      if hj : j.val < 128 then kp ⟨2 * (h.val / 4) + h.val % 2, by omega⟩ (ix4 0 0 ⟨j.val, hj⟩ x)
        else kc ⟨2 * (h.val / 4) + h.val % 2, by omega⟩ (ix4 0 0 ⟨j.val - 128, by omega⟩ x) := by
  fin_cases h
  all_goals
    pointwise [scores, upper, lower]
    rw [score_apply]
    refine Finset.sum_congr rfl fun x _ => ?_
    congr 1
    pointwise [qPair]

theorem fillK_apply (t : Fin 8) (i j : Fin 128) : fillK (F := Ideal) t (ix4 0 0 i j) = 0 := by
  pointwise [fillK, k0_pay2]
theorem fillV_apply (t : Fin 4) (i : Fin 128) (j : Fin 256) : fillV (F := Ideal) t (ix4 0 0 i j) = if j.val < 128 then 0 else 1 := by
  pointwise [fillV, k0_pay3]
  split <;> rfl

theorem ofBits_ninf : Ideal.ofBits .f32 0xFF800000#32 = ⊥ := by simp [Ideal.ofBits, Ideal.ieee]

theorem weight_apply (f : BitVec 1) (s : Vec Ideal S1x128x256 .f32) (k : EReal) (i : Fin 128) (j : Fin 256) :
    weight (F := Ideal) f s k (ix2 i j) = Ideal.exp (masked f s k (ix2 i j) -
        Finset.fold max ⊥ (fun x => masked f s k (ix2 i x)) Finset.univ) := by
  pointwise [weight]
  rw [ofBits_ninf]

/-! ## The mask -/

theorem row_word : ∀ i : Fin 128, IntOp.addi (BitVec.ofNat 32 i.val) 128#32 = BitVec.ofNat 32 (i.val + 128) := by decide
theorem row_word' : ∀ i : Fin 128, IntOp.subi (IntOp.addi (BitVec.ofNat 32 i.val) 128#32) 128#32 = BitVec.ofNat 32 i.val := by decide

theorem begins_word (B : Fin 128) : Scalar.xori (begins B) 1#1 = BitVec.ofBool (decide (B.val % 64 ≠ 0)) := by
  unfold begins
  by_cases h : B.val % 64 = 0
  · rw [if_pos h, decide_eq_false (by simpa using h)]; rfl
  · rw [if_neg h, decide_eq_true h]; rfl

theorem masked_apply (B : Fin 128) (s : Vec Ideal S1x128x256 .f32) (k : EReal) (i : Fin 128) (j : Fin 256) :
    masked (F := Ideal) (begins B) s k (ix2 i j) = SinkSoftmax.sub (SinkSoftmax.Sees B i) (fun j => s (ix3 0 i j)) k j := by
  pointwise [masked, mask, key0]
  rw [row_word', row_word, begins_word, ofBits_ninf, cmpi_sle_ofNat (by omega) (by omega), cmpi_sgt_ofNat (by omega) (by omega),
    cmpi_sge_ofNat (by omega) (by norm_num), cmpi_eq_ofNat (by omega) (by norm_num), ori_ofBool, andi_ofBool, andi_ofBool, select_ofBool, select_decide]
  unfold SinkSoftmax.sub SinkSoftmax.Sees
  have hj : (j = 0) = (j.val = 0) := propext ⟨fun h => by rw [h]; rfl, fun h => Fin.ext h⟩
  simp only [Bool.and_eq_true, Bool.or_eq_true, decide_eq_true_eq, hj, and_assoc, or_comm]

/-! ## The sums and the quotients -/

/-- The first sixteen of the 256 rows of values, the sink's place zeroed. -/
def firstRows (vp : Vec Ideal S1x1x128x256 .bf16) : FVec Ideal S16x256 .bf16 :=
  truncf .bf16 (select sinkRow (broadcast S16x256 (Scalar.ofBits .f32 0x00000000#32))
    (extf .f32 (extractStridedSlice S16x256 ![0, 0] (shapeCast S128x256 vp shapeCasts_S1x1x128x256_S128x256)
      slices_S128x256_o0_0_S16x256) bitsLt_bf16_f32)) bitsLt_bf16_f32

theorem sums_eq (p : Vec Ideal S4x128x256 .bf16) (vp vc : Vec Ideal S1x1x128x256 .bf16) : sums (F := Ideal) p vp vc =
    matmul (φ₁ := .bf16) dot_S512x256_S256x256_S512x256_1_0_0_1_n_n none (shapeCast S512x256 p shapeCasts_S4x128x256_S512x256)
      (concatenate S256x256 0 [⟨S16x256, firstRows vp⟩,
         ⟨S112x256, extractStridedSlice S112x256 ![16, 0] (shapeCast S128x256 vp shapeCasts_S1x1x128x256_S128x256) slices_S128x256_o16_0_S112x256⟩,
         ⟨S128x256, shapeCast S128x256 vc shapeCasts_S1x1x128x256_S128x256⟩] concatenates_S16x256_S112x256_S128x256_S256x256_d0)
      (constant S512x256 .f32 0x00000000#32) := rfl

theorem firstRows_apply (vp : Vec Ideal S1x1x128x256 .bf16) (j : Fin 16) (l : Fin 256) :
    firstRows vp (ix2 j l) = if j.val = 0 ∧ l.val < 128 then 0 else vp (ix4 0 0 ⟨j.val, by omega⟩ l) := by
  pointwise [firstRows, sinkRow]
  rw [cmpi_eq_ofNat (by omega) (by norm_num), cmpi_slt_ofNat (by omega) (by norm_num), andi_ofBool, select_ofBool]
  simp only [Bool.and_eq_true, decide_eq_true_eq]

/-- The value in the place of the `j`-th of the 256 rows: zero for the first row's value lanes, which the sink takes. -/
def sumsVal (vp vc : Vec Ideal S1x1x128x256 .bf16) (j l : Fin 256) : EReal :=
  if j.val = 0 ∧ l.val < 128 then 0 else if h : j.val < 128 then vp (ix4 0 0 ⟨j.val, h⟩ l) else vc (ix4 0 0 ⟨j.val - 128, by omega⟩ l)

theorem sums_apply (p : Vec Ideal S4x128x256 .bf16) (vp vc : Vec Ideal S1x1x128x256 .bf16) (i : Fin 512) (l : Fin 256) :
    sums (F := Ideal) p vp vc (ix2 i l) = ∑ j : Fin 256, p (ix3 ⟨i.val / 128, by omega⟩ ⟨i.val % 128, by omega⟩ j) *
      sumsVal vp vc j l := by
  rw [sums_eq]
  pointwise
  simp only [firstRows_apply]
  refine Finset.sum_congr rfl fun j _ => ?_
  congr 1
  unfold sumsVal
  have key : ∀ (a b : Fin 128), a = b → vp (ix4 0 0 a l) = vp (ix4 0 0 b l) := by rintro a _ rfl; rfl
  have key' : ∀ (a b : Fin 128), a = b → vc (ix4 0 0 a l) = vc (ix4 0 0 b l) := by rintro a _ rfl; rfl
  by_cases h : j.val < 16
  · rw [dif_pos h, dif_pos (show j.val < 128 by omega)]
  · rw [dif_neg h, if_neg (fun h' : j.val = 0 ∧ l.val < 128 => h (by omega))]
    by_cases h2 : j.val < 128
    · rw [dif_pos (show j.val - 16 < 112 by omega), dif_pos h2]
      exact key _ _ (Fin.ext (show 16 + (j.val - 16) = j.val by omega))
    · rw [dif_neg (show ¬ j.val - 16 < 112 by omega), dif_neg h2]
      exact key' _ _ (Fin.ext (show j.val - 16 - 112 = j.val - 128 by omega))

theorem outA_apply (o : FVec Ideal S512x256 .f32) (i j : Fin 128) : outA o (ix2 i j) = Ideal.div
    (o (ix2 ⟨128 * (j.val / 64) + i.val, by omega⟩ ⟨j.val, by omega⟩)) (o (ix2 ⟨128 * (j.val / 64) + i.val, by omega⟩ ⟨128 + j.val, by omega⟩)) := by
  have key : ∀ (a a' : Fin 512) (l k : Fin 256), a = a' → Ideal.div (o (ix2 a l)) (o (ix2 a k)) = Ideal.div (o (ix2 a' l)) (o (ix2 a' k)) := by
    rintro a _ l k rfl; rfl
  pointwise [outA, quot]
  rw [low_apply, sel_if]
  split
  all_goals
    refine key _ _ _ _ (Fin.ext ?_)
    simp only [Fin.val_mk]
    omega

theorem outB_apply (o : FVec Ideal S512x256 .f32) (i j : Fin 128) : outB o (ix2 i j) = Ideal.div
    (o (ix2 ⟨256 + 128 * (j.val / 64) + i.val, by omega⟩ ⟨j.val, by omega⟩)) (o (ix2 ⟨256 + 128 * (j.val / 64) + i.val, by omega⟩ ⟨128 + j.val, by omega⟩)) := by
  have key : ∀ (a a' : Fin 512) (l k : Fin 256), a = a' → Ideal.div (o (ix2 a l)) (o (ix2 a k)) = Ideal.div (o (ix2 a' l)) (o (ix2 a' k)) := by
    rintro a _ l k rfl; rfl
  pointwise [outB, quot]
  rw [low_apply, sel_if]
  split
  all_goals
    refine key _ _ _ _ (Fin.ext ?_)
    simp only [Fin.val_mk]
    omega

theorem outBlk_apply (p : Fin 4 → Vec Ideal S4x128x256 .bf16) (vp vc : Fin 4 → Vec Ideal S1x1x128x256 .bf16) (i : Fin 128) (c : Fin 1024) :
    outBlk (F := Ideal) p vp vc (ix2 i c) = Ideal.div
      (sums (p ⟨c.val / 256, by omega⟩) (vp ⟨c.val / 256, by omega⟩) (vc ⟨c.val / 256, by omega⟩)
        (ix2 ⟨128 * (c.val / 64 % 4) + i.val, by omega⟩ ⟨c.val % 128, by omega⟩))
      (sums (p ⟨c.val / 256, by omega⟩) (vp ⟨c.val / 256, by omega⟩) (vc ⟨c.val / 256, by omega⟩)
        (ix2 ⟨128 * (c.val / 64 % 4) + i.val, by omega⟩ ⟨128 + c.val % 128, by omega⟩)) := by
  have key : ∀ (g g' : Fin 4) (a a' : Fin 512) (l l' k k' : Fin 256), g = g' → a = a' → l = l' → k = k' →
      Ideal.div (sums (F := Ideal) (p g) (vp g) (vc g) (ix2 a l)) (sums (p g) (vp g) (vc g) (ix2 a k))
        = Ideal.div (sums (p g') (vp g') (vc g') (ix2 a' l')) (sums (p g') (vp g') (vc g') (ix2 a' k')) := by
    rintro g _ a _ l _ k _ rfl rfl rfl rfl; rfl
  pointwise [outBlk]
  split_ifs
  all_goals
    first | rw [outA_apply] | rw [outB_apply]
    refine key _ _ _ _ _ _ _ _ (Fin.ext ?_) (Fin.ext ?_) (Fin.ext ?_) (Fin.ext ?_)
    all_goals
      simp
      try omega

end Cert.KernelIdeal.Attn

end
-- ==== Proof.BlockValue.lean ====
/-
  ONE ELEMENT OF THE KERNEL'S RESULT in terms of the array it was given: the padding falls out of the sums, and what is left
  is one side of SinkSoftmax's equation.
-/
module

public import proofs.«01_k».proof.Proof.Entry

@[expose] public section

set_option maxRecDepth 16384

noncomputable section

namespace Cert.KernelIdeal.Attn

open Cert.KernelIdeal Cert.KernelIdeal.Gen
open Idealize.ShloMosaic Idealize.ShloMosaic.TcCoe
open SinkSoftmax

/-- The array by row and column. -/
def cell (x : Vec Ideal S16384x1536 .bf16) (i : Fin 16384) (c : Fin 1536) : EReal := x (ix2 i c)

/-- A sum over a padded tile keeps the half that holds the head. -/
theorem sum_padded (b : ℕ) (hb : b < 2) (f : Fin 128 → EReal) (g : Fin 64 → EReal) :
    ∑ l : Fin 128, f l * (if l.val / 64 = b then g ⟨l.val % 64, by omega⟩ else 0) = ∑ d : Fin 64, f ⟨64 * b + d.val, by omega⟩ * g d := by
  have split := Fin.sum_univ_add (a := 64) (b := 64) (fun l : Fin 128 => f l * (if l.val / 64 = b then g ⟨l.val % 64, by omega⟩ else 0))
  refine split.trans ?_
  have hlo : ∀ d : Fin 64, (Fin.castAdd 64 d : Fin 128).val = d.val := fun d => rfl
  have hhi : ∀ d : Fin 64, (Fin.natAdd 64 d : Fin 128).val = 64 + d.val := fun d => rfl
  have kf : ∀ a a' : Fin 128, a.val = a'.val → f a = f a' := fun a a' h => by rw [Fin.ext h]
  have kg : ∀ a a' : Fin 64, a.val = a'.val → g a = g a' := fun a a' h => by rw [Fin.ext h]
  obtain rfl | rfl : b = 0 ∨ b = 1 := by omega
  · rw [Finset.sum_eq_zero (s := Finset.univ) (f := fun d : Fin 64 => f (Fin.natAdd 64 d) * _), add_zero]
    · refine Finset.sum_congr rfl fun d _ => ?_
      rw [if_pos (by rw [hlo]; omega)]
      congr 1
      · exact kf _ _ (by rw [hlo]; show d.val = 64 * 0 + d.val; omega)
      · exact kg _ _ (by show (Fin.castAdd 64 d : Fin 128).val % 64 = d.val; rw [hlo]; omega)
    · intro d _
      rw [if_neg (by rw [hhi]; omega), mul_zero]
  · rw [Finset.sum_eq_zero (s := Finset.univ) (f := fun d : Fin 64 => f (Fin.castAdd 64 d) * _), zero_add]
    · refine Finset.sum_congr rfl fun d _ => ?_
      rw [if_pos (by rw [hhi]; omega)]
      congr 1
      exact kg _ _ (by show (Fin.natAdd 64 d : Fin 128).val % 64 = d.val; rw [hhi]; omega)
    · intro d _
      rw [if_neg (by rw [hlo]; omega), mul_zero]

theorem key4_apply (w : FVec Ideal S128x128 .bf16) (j l : Fin 128) : key4 w (ix4 0 0 j l) = w (ix2 j l) := by
  pointwise [key4]
theorem val4_apply (w : FVec Ideal S128x256 .bf16) (j : Fin 128) (l : Fin 256) : val4 w (ix4 0 0 j l) = w (ix2 j l) := by
  pointwise [val4]

variable (x : Vec Ideal S16384x1536 .bf16)

theorem kvBlk_apply (B j : Fin 128) (c : Fin 512) :
    kvBlk x B (ix2 j c) = cell x ⟨128 * B.val + j.val, by omega⟩ ⟨1024 + c.val, by omega⟩ := rfl

/-- The key a block finds in tile `t`. -/
theorem keys_apply (B : Fin 128) (t : Fin 8) (j : Fin 256) (l : Fin 128) :
    (if hj : j.val < 128 then prevK x B t (ix4 0 0 ⟨j.val, hj⟩ l) else key4 (keyT (kvBlk x B) t) (ix4 0 0 ⟨j.val - 128, by omega⟩ l))
      = if l.val / 64 = t.val % 2 then bandAt (cell x) B j ⟨t.val / 2, by omega⟩ ⟨l.val % 64, by omega⟩ else 0 := by
  have key : ∀ (a a' : Fin 16384) (b b' : Fin 1536), a.val = a'.val → b.val = b'.val → cell x a b = cell x a' b' := by
    intro a a' b b' h h'; rw [Fin.ext h, Fin.ext h']
  unfold bandAt
  by_cases hj : j.val < 128
  · rw [dif_pos hj, if_pos hj]
    unfold prevK
    by_cases hB : B.val % 64 = 0
    · rw [if_pos hB, if_pos hB, fillK_apply, ite_self]
    · rw [if_neg hB, if_neg hB, key4_apply, keyT_apply, kvBlk_apply]
      split
      · refine key _ _ _ _ ?_ ?_
        · show 128 * (B.val - 1) + j.val = 128 * (B.val - 1) + j.val % 128; omega
        · show 1024 + (64 * (t.val / 2) + l.val % 64) = 1024 + 64 * (t.val / 2) + l.val % 64; omega
      · rfl
  · rw [dif_neg hj, if_neg hj, key4_apply, keyT_apply, kvBlk_apply]
    split
    · refine key _ _ _ _ rfl ?_
      show 1024 + (64 * (t.val / 2) + l.val % 64) = 1024 + 64 * (t.val / 2) + l.val % 64; omega
    · rfl

/-- The value a block finds for key head `g`: the sums' value in the low lanes, ones in the high ones. -/
theorem vals_apply (B : Fin 128) (g : Fin 4) (j l : Fin 256) :
    sumsVal (prevV x B g) (val4 (valT (kvBlk x B) g)) j l =
      if l.val < 128 then if j = 0 then 0 else bandAt (cell x) B j ⟨4 + g.val, by omega⟩ ⟨l.val % 64, by omega⟩ else 1 := by
  have key : ∀ (a a' : Fin 16384) (b b' : Fin 1536), a.val = a'.val → b.val = b'.val → cell x a b = cell x a' b' := by
    intro a a' b b' h h'; rw [Fin.ext h, Fin.ext h']
  have hj0 : (j = 0) ↔ j.val = 0 := ⟨fun h => by rw [h]; rfl, fun h => Fin.ext h⟩
  unfold sumsVal bandAt
  by_cases hl : l.val < 128
  · rw [if_pos hl]
    by_cases h0 : j.val = 0
    · rw [if_pos ⟨h0, hl⟩, if_pos (hj0.2 h0)]
    · rw [if_neg (fun h => h0 h.1), if_neg (fun h => h0 (hj0.1 h))]
      by_cases hj : j.val < 128
      · rw [dif_pos hj, if_pos hj]
        unfold prevV
        by_cases hB : B.val % 64 = 0
        · rw [if_pos hB, if_pos hB, fillV_apply, if_pos hl]
        · rw [if_neg hB, if_neg hB, val4_apply, valT_apply, kvBlk_apply, if_pos hl]
          refine key _ _ _ _ ?_ ?_
          · show 128 * (B.val - 1) + j.val = 128 * (B.val - 1) + j.val % 128; omega
          · show 1024 + (256 + 64 * g.val + l.val % 64) = 1024 + 64 * (4 + g.val) + l.val % 64; omega
      · rw [dif_neg hj, if_neg hj, val4_apply, valT_apply, kvBlk_apply, if_pos hl]
        refine key _ _ _ _ rfl ?_
        show 1024 + (256 + 64 * g.val + l.val % 64) = 1024 + 64 * (4 + g.val) + l.val % 64; omega
  · rw [if_neg hl, if_neg (fun h => hl h.2)]
    split
    · unfold prevV
      split
      · rw [fillV_apply, if_neg hl]
      · show val4 (valT (kvBlk x (before B)) g) _ = 1
        rw [val4_apply, valT_apply, if_neg hl]
    · rw [val4_apply, valT_apply, if_neg hl]

/-- A head's scores. -/
theorem scores_eq (B : Fin 128) (h : Fin 16) (r : Fin 128) (j : Fin 256) :
    scores (qBlk x B) (prevK x B) (fun t => key4 (keyT (kvBlk x B) t)) h (ix2 r j) = scoreAt (cell x) B r h j := by
  rw [scores_apply]
  have e := sum_padded (h.val % 2) (by omega)
    (fun l => qBlk x B (ix2 r ⟨128 * (2 * (h.val / 4) + h.val % 4 / 2) + l.val, by omega⟩))
    (fun d => bandAt (cell x) B j ⟨h.val / 4, by omega⟩ d)
  have hm : (2 * (h.val / 4) + h.val % 2) % 2 = h.val % 2 := by omega
  have hd : (2 * (h.val / 4) + h.val % 2) / 2 = h.val / 4 := by omega
  have ek : ∀ l : Fin 128, (if hj : j.val < 128 then prevK x B ⟨2 * (h.val / 4) + h.val % 2, by omega⟩ (ix4 0 0 ⟨j.val, hj⟩ l)
        else (fun t => key4 (keyT (kvBlk x B) t)) ⟨2 * (h.val / 4) + h.val % 2, by omega⟩ (ix4 0 0 ⟨j.val - 128, by omega⟩ l))
      = if l.val / 64 = h.val % 2 then bandAt (cell x) B j ⟨h.val / 4, by omega⟩ ⟨l.val % 64, by omega⟩ else 0 := by
    intro l
    refine (keys_apply x B ⟨2 * (h.val / 4) + h.val % 2, by omega⟩ j l).trans ?_
    simp only [hm, hd]
  unfold scoreAt
  rw [Finset.sum_congr rfl fun l _ => congrArg (_ * ·) (ek l)]
  refine e.trans (Finset.sum_congr rfl fun d _ => ?_)
  congr 1
  show x (ix2 _ _) = x (ix2 _ _)
  congr 2
  refine Fin.ext ?_
  show 128 * (2 * (h.val / 4) + h.val % 4 / 2) + (64 * (h.val % 2) + d.val) = 64 * h.val + d.val
  omega

/-- A head's weights. -/
theorem weights_apply (B : Fin 128) (s : Fin 16 → FVec Ideal S128x256 .f32) (k : Fin 16 → EReal) (h : Fin 16) (r : Fin 128) (j : Fin 256) :
    weights (F := Ideal) (begins B) (fun h => score3 (s h)) k (ix3 h r j)
      = Ideal.exp (sub (Sees B r) (fun j => s h (ix2 r j)) (k h) j - topS (Sees B r) (fun j => s h (ix2 r j)) (k h)) := by
  show weight (begins B) (score3 (s h)) (k h) (ix2 r j) = _
  have e : (fun j => score3 (s h) (ix3 0 r j)) = fun j => s h (ix2 r j) := by
    funext j; pointwise [score3]
  rw [weight_apply]
  simp only [masked_apply, e]
  rfl

/-- An element of the kernel's result. -/
theorem gblk_apply (k : Fin 16 → EReal) (B r : Fin 128) (c : Fin 1024) :
    gblk x k B (ix2 r c) =
      Ideal.div
        (∑ j : Fin 256, Ideal.exp (sub (Sees B r) (scoreAt (cell x) B r ⟨c.val / 64, by omega⟩) (k ⟨c.val / 64, by omega⟩) j
            - topS (Sees B r) (scoreAt (cell x) B r ⟨c.val / 64, by omega⟩) (k ⟨c.val / 64, by omega⟩))
          * (if j = 0 then 0 else valueAt (cell x) B ⟨c.val / 64, by omega⟩ ⟨c.val % 64, by omega⟩ j))
        (∑ j : Fin 256, Ideal.exp (sub (Sees B r) (scoreAt (cell x) B r ⟨c.val / 64, by omega⟩) (k ⟨c.val / 64, by omega⟩) j
            - topS (Sees B r) (scoreAt (cell x) B r ⟨c.val / 64, by omega⟩) (k ⟨c.val / 64, by omega⟩)) * 1) := by
  unfold gblk blk
  rw [outBlk_apply, sums_apply, sums_apply]
  have hp : ∀ (g : Fin 4) (a : Fin 4) (r : Fin 128) (j : Fin 256), (rP g).emb (ix3 a r j) = ix3 ⟨4 * g.val + a.val, by omega⟩ r j := by
    intro g a r j
    funext d
    apply Fin.ext
    match d with
    | ⟨0, _⟩ => show 4 * g.val + 1 * a.val = _; rw [one_mul]; rfl
    | ⟨1, _⟩ => show 0 + 1 * r.val = _; rw [one_mul, zero_add]; rfl
    | ⟨2, _⟩ => show 0 + 1 * j.val = _; rw [one_mul, zero_add]; rfl
  have hs : ∀ h r, (fun j => scores (qBlk x B) (prevK x B) (fun t => key4 (keyT (kvBlk x B) t)) h (ix2 r j)) = scoreAt (cell x) B r h :=
    fun h r => funext fun j => scores_eq x B h r j
  have hh : (⟨4 * (c.val / 256) + (128 * (c.val / 64 % 4) + r.val) / 128, by omega⟩ : Fin 16) = ⟨c.val / 64, by omega⟩ :=
    Fin.ext (by show 4 * (c.val / 256) + (128 * (c.val / 64 % 4) + r.val) / 128 = c.val / 64; omega)
  have hr : (⟨(128 * (c.val / 64 % 4) + r.val) % 128, by omega⟩ : Fin 128) = r :=
    Fin.ext (by show (128 * (c.val / 64 % 4) + r.val) % 128 = r.val; omega)
  have hd : (⟨c.val % 128 % 64, by omega⟩ : Fin 64) = ⟨c.val % 64, by omega⟩ := Fin.ext (by show c.val % 128 % 64 = c.val % 64; omega)
  have he : (⟨4 + c.val / 256, by omega⟩ : Fin 8) = ⟨4 + c.val / 64 / 4, by omega⟩ := Fin.ext (by show 4 + c.val / 256 = 4 + c.val / 64 / 4; omega)
  have hlo : c.val % 128 < 128 := by omega
  have hhi : ¬ 128 + c.val % 128 < 128 := by omega
  simp only [hp, weights_apply, hs, hh, hr, vals_apply, hlo, hhi, if_true, if_false, hd, he]
  rfl

end Cert.KernelIdeal.Attn

end
-- ==== Proof.RefParts.lean ====
/-
  THE REFERENCE'S OWN TERMS, named: the banded keys and values, the masked scores, their row's largest together with the
  sink, the weights and their sum.
-/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe

/-- The columns of one sequence's rows. -/
def cols (x : Vec Ideal S16384x1536 .bf16) : FVec Ideal S2x8192x1536 .f32 :=
  shapeCast S2x8192x1536 (extf .f32 x bitsLt_bf16_f32) shapeCasts_S16384x1536_S2x8192x1536

/-- The queries by block, key head and query head; the keys, and the values, by block and key head. -/
def queries (x : Vec Ideal S16384x1536 .bf16) : FVec Ideal S2x64x128x4x4x64 .f32 :=
  shapeCast S2x64x128x4x4x64 (shapeCast S2x8192x16x64
    (extractStridedSlice S2x8192x1024 ![0, 0, 0] (cols x) slices_S2x8192x1536_S2x8192x1024_0_0_0)
    shapeCasts_S2x8192x1024_S2x8192x16x64) shapeCasts_S2x8192x16x64_S2x64x128x4x4x64
def keys (x : Vec Ideal S16384x1536 .bf16) : FVec Ideal S2x64x128x4x64 .f32 :=
  shapeCast S2x64x128x4x64 (shapeCast S2x8192x4x64
    (extractStridedSlice S2x8192x256 ![0, 0, 1024] (cols x) slices_S2x8192x1536_S2x8192x256_0_0_1024)
    shapeCasts_S2x8192x256_S2x8192x4x64) shapeCasts_S2x8192x4x64_S2x64x128x4x64
def values (x : Vec Ideal S16384x1536 .bf16) : FVec Ideal S2x64x128x4x64 .f32 :=
  shapeCast S2x64x128x4x64 (shapeCast S2x8192x4x64
    (extractStridedSlice S2x8192x256 ![0, 0, 1280] (cols x) slices_S2x8192x1536_S2x8192x256_0_0_1280)
    shapeCasts_S2x8192x256_S2x8192x4x64) shapeCasts_S2x8192x4x64_S2x64x128x4x64

/-- Each block under the block before it, zeros before the first. -/
def band (t : FVec Ideal S2x64x128x4x64 .f32) : FVec Ideal S2x64x256x4x64 .f32 :=
  concatenate S2x64x256x4x64 2 [⟨S2x64x128x4x64, extractStridedSlice S2x64x128x4x64 ![0, 0, 0, 0, 0]
      (pad S2x65x128x4x64 ![0, 1, 0, 0, 0] ![0, 0, 0, 0, 0] ![0, 0, 0, 0, 0] t (sitofp .f32 (constantI S_ 32 0#32))
        pads_S2x64x128x4x64_S2x65x128x4x64_000_100_000_000_000 h_S_) slices_S2x65x128x4x64_S2x64x128x4x64_0_0_0_0_0⟩,
    ⟨S2x64x128x4x64, t⟩] concatenates_S2x64x128x4x64_S2x64x128x4x64_S2x64x256x4x64_d2

def scoresR (x : Vec Ideal S16384x1536 .bf16) : FVec Ideal S2x64x4x4x128x256 .f32 :=
  transpose S2x64x4x4x128x256 [0, 1, 2, 5, 4, 3]
    (Host.dotGeneral dot_S2x64x256x4x64_S2x64x128x4x4x64_S2x64x4x256x128x4_4_5_2_24_013_013 none (band (keys x)) (queries x))
    transposes_S2x64x4x256x128x4_S2x64x4x4x128x256_0_1_2_5_4_3

/-- The query's place among the 256 keys, and the keys' own. -/
def rowsR : IVec S128x1 32 :=
  addi (broadcastInDim S128x1 ![0] bcast_S128_S128x1_0 (iotaInDim S128 32 0)) (broadcastInDim S128x1 ![] bcast_S_S128x1 (constantI S_ 32 128#32))
def colsR : IVec S1x256 32 := broadcastInDim S1x256 ![1] bcast_S256_S1x256_1 (iotaInDim S256 32 0)

def inBand : IVec S128x256 1 :=
  andi (cmpi .sle (broadcastInDim S128x256 ![0, 1] bcast_S1x256_S128x256_0_1 colsR) (broadcastInDim S128x256 ![0, 1] bcast_S128x1_S128x256_0_1 rowsR))
    (cmpi .sgt (broadcastInDim S128x256 ![0, 1] bcast_S1x256_S128x256_0_1 colsR)
      (broadcastInDim S128x256 ![0, 1] bcast_S128x1_S128x256_0_1 (subi rowsR (broadcastInDim S128x1 ![] bcast_S_S128x1 (constantI S_ 32 128#32)))))
def blkValid : IVec S64x1x256 1 :=
  ori (broadcastInDim S64x1x256 ![0, 1, 2] bcast_S64x1x1_S64x1x256_0_1_2
      (cmpi .sgt (broadcastInDim S64x1x1 ![0] bcast_S64_S64x1x1_0 (iotaInDim S64 32 0)) (broadcastInDim S64x1x1 ![] bcast_S_S64x1x1 (constantI S_ 32 0#32))))
    (broadcastInDim S64x1x256 ![0, 1, 2] bcast_S1x1x256_S64x1x256_0_1_2
      (cmpi .sge (broadcastInDim S1x1x256 ![1, 2] bcast_S1x256_S1x1x256_1_2 colsR) (broadcastInDim S1x1x256 ![] bcast_S_S1x1x256 (constantI S_ 32 128#32))))
def maskR : IVec S2x64x4x4x128x256 1 :=
  broadcastInDim S2x64x4x4x128x256 ![0, 1, 2, 3, 4, 5] bcast_S1x64x1x1x128x256_S2x64x4x4x128x256_0_1_2_3_4_5
    (broadcastInDim S1x64x1x1x128x256 ![1, 4, 5] bcast_S64x128x256_S1x64x1x1x128x256_1_4_5
      (andi (broadcastInDim S64x128x256 ![0, 1, 2] bcast_S1x128x256_S64x128x256_0_1_2 (broadcastInDim S1x128x256 ![1, 2] bcast_S128x256_S1x128x256_1_2 inBand))
        (broadcastInDim S64x128x256 ![0, 1, 2] bcast_S64x1x256_S64x128x256_0_1_2 blkValid)))

def maskedR (x : Vec Ideal S16384x1536 .bf16) : FVec Ideal S2x64x4x4x128x256 .f32 :=
  select maskR (scoresR x) (broadcastInDim S2x64x4x4x128x256 ![] bcast_S_S2x64x4x4x128x256 (id (constant S_ .f32 0xFF800000#32)))

def sinkR (k : Vec Ideal S16 .f32) : FVec Ideal S2x64x4x4x128x1 .f32 :=
  broadcastInDim S2x64x4x4x128x1 ![0, 1, 2, 3, 4, 5] bcast_S1x1x4x4x1x1_S2x64x4x4x128x1_0_1_2_3_4_5
    (shapeCast S1x1x4x4x1x1 k shapeCasts_S16_S1x1x4x4x1x1)

/-- The largest of a row's masked scores. -/
def rowMax (x : Vec Ideal S16384x1536 .bf16) : FVec Ideal S2x64x4x4x128 .f32 :=
  Host.reduce FloatOps.maximumf (maskedR x) (constant S_ .f32 0xFF800000#32) reducesTo_S2x64x4x4x128x256_S2x64x4x4x128_d5 h_S_

def largest (x : Vec Ideal S16384x1536 .bf16) (k : Vec Ideal S16 .f32) : FVec Ideal S2x64x4x4x128x1 .f32 :=
  maximumf (broadcastInDim S2x64x4x4x128x1 ![0, 1, 2, 3, 4] bcast_S2x64x4x4x128_S2x64x4x4x128x1_0_1_2_3_4
    (rowMax x)) (sinkR k)

def weightsR (x : Vec Ideal S16384x1536 .bf16) (k : Vec Ideal S16 .f32) : FVec Ideal S2x64x4x4x128x256 .f32 :=
  Host.exp (subf (maskedR x) (broadcastInDim S2x64x4x4x128x256 ![0, 1, 2, 3, 4, 5] bcast_S2x64x4x4x128x1_S2x64x4x4x128x256_0_1_2_3_4_5 (largest x k)))

/-- The sum of a row's weights. -/
def rowSum (x : Vec Ideal S16384x1536 .bf16) (k : Vec Ideal S16 .f32) : FVec Ideal S2x64x4x4x128 .f32 :=
  Host.reduceAdd (weightsR x k) (constant S_ .f32 0x00000000#32) reducesTo_S2x64x4x4x128x256_S2x64x4x4x128_d5 h_S_

def denom (x : Vec Ideal S16384x1536 .bf16) (k : Vec Ideal S16 .f32) : FVec Ideal S2x64x4x4x128x1 .f32 :=
  addf (broadcastInDim S2x64x4x4x128x1 ![0, 1, 2, 3, 4] bcast_S2x64x4x4x128_S2x64x4x4x128x1_0_1_2_3_4
    (rowSum x k))
    (Host.exp (subf (sinkR k) (largest x k)))

def probs (x : Vec Ideal S16384x1536 .bf16) (k : Vec Ideal S16 .f32) : FVec Ideal S2x64x4x4x128x256 .f32 :=
  Host.divf (weightsR x k) (broadcastInDim S2x64x4x4x128x256 ![0, 1, 2, 3, 4, 5] bcast_S2x64x4x4x128x1_S2x64x4x4x128x256_0_1_2_3_4_5 (denom x k))

def means (x : Vec Ideal S16384x1536 .bf16) (k : Vec Ideal S16 .f32) : FVec Ideal S16384x1024 .bf16 :=
  truncf .bf16 (shapeCast S16384x1024 (transpose S2x64x128x4x4x64 [0, 1, 5, 2, 4, 3]
    (Host.dotGeneral dot_S2x64x256x4x64_S2x64x4x4x128x256_S2x64x4x64x4x128_2_5_4_34_013_012 none (band (values x)) (probs x k))
    transposes_S2x64x4x64x4x128_S2x64x128x4x4x64_0_1_5_2_4_3) shapeCasts_S2x64x128x4x4x64_S16384x1024) bitsLt_bf16_f32

theorem res_eq (m : (ℓ : Loc nD τ sig) → Buf (Elt Ideal) ℓ) (c : Dev nD) :
    Cert.ReferenceIdeal.Value.res_out0 m c = means (m ((c : Thread nD τ).loc main_arg0)) (m ((c : Thread nD τ).loc main_arg1)) := rfl

end Cert.ReferenceIdeal.Attn

end
-- ==== Proof.RefValue.lean ====
/-
  ONE ELEMENT OF THE REFERENCE'S RESULT in terms of the array it was given: the other side of SinkSoftmax's equation.
-/
module

public import proofs.«01_k».proof.Proof.RefParts
public import proofs.«01_k».proof.Proof.Spec
public import Idealize.ShloMosaic.PureOps.Ideal.Laws
public import Idealize.ShloMosaic.Lib.WordCmp

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.WordCmp
open SinkSoftmax

variable (x : Vec Ideal S16384x1536 .bf16) (k : Vec Ideal S16 .f32)

/-- The array by row and column. -/
def cell (i : Fin 16384) (c : Fin 1536) : EReal := x (ix2 i c)

/-- Block `n` of sequence `b`, and query head `h` of key head `g`. -/
abbrev blkOf (b : Fin 2) (n : Fin 64) : Fin 128 := ⟨64 * b.val + n.val, by omega⟩
abbrev headOf (g h : Fin 4) : Fin 16 := ⟨4 * g.val + h.val, by omega⟩

theorem ninf : Ideal.ofBits .f32 0xFF800000#32 = ⊥ := by simp [Ideal.ofBits, Ideal.ieee]
theorem zero_word : (FloatOps.sitofp .f32 (0#32 : BitVec 32) : Ideal .f32) = (0 : EReal) := by
  show (((0#32 : BitVec 32).toInt : ℝ) : EReal) = 0
  simp

theorem cell_congr (a a' : Fin 16384) (c c' : Fin 1536) (h : a.val = a'.val) (h' : c.val = c'.val) : cell x a c = cell x a' c' := by
  rw [Fin.ext h, Fin.ext h']

theorem queries_apply (b : Fin 2) (n : Fin 64) (i : Fin 128) (g h : Fin 4) (d : Fin 64) :
    queries x (ix6 b n i g h d) = cell x ⟨128 * (blkOf b n).val + i.val, by show 128 * (64 * b.val + n.val) + i.val < 16384; omega⟩
      ⟨64 * (headOf g h).val + d.val, by show 64 * (4 * g.val + h.val) + d.val < 1536; omega⟩ := by
  pointwise [queries, cols]
  refine cell_congr x _ _ _ _ ?_ ?_
  · show b.val * 8192 + (n.val * 128 + i.val) = 128 * (64 * b.val + n.val) + i.val; omega
  · show g.val * 256 + h.val * 64 + d.val = 64 * (4 * g.val + h.val) + d.val; omega

theorem keys_apply (b : Fin 2) (n : Fin 64) (i : Fin 128) (g : Fin 4) (d : Fin 64) :
    keys x (ix5 b n i g d) = cell x ⟨128 * (64 * b.val + n.val) + i.val, by omega⟩ ⟨1024 + 64 * g.val + d.val, by omega⟩ := by
  pointwise [keys, cols]
  refine cell_congr x _ _ _ _ ?_ ?_
  · show b.val * 8192 + (n.val * 128 + i.val) = 128 * (64 * b.val + n.val) + i.val; omega
  · show 1024 + (g.val * 64 + d.val) = 1024 + 64 * g.val + d.val; omega

theorem values_apply (b : Fin 2) (n : Fin 64) (i : Fin 128) (g : Fin 4) (d : Fin 64) :
    values x (ix5 b n i g d) = cell x ⟨128 * (64 * b.val + n.val) + i.val, by omega⟩ ⟨1024 + 64 * (4 + g.val) + d.val, by omega⟩ := by
  pointwise [values, cols]
  refine cell_congr x _ _ _ _ ?_ ?_
  · show b.val * 8192 + (n.val * 128 + i.val) = 128 * (64 * b.val + n.val) + i.val; omega
  · show 1280 + (g.val * 64 + d.val) = 1024 + 64 * (4 + g.val) + d.val; omega

theorem band_apply (t : FVec Ideal S2x64x128x4x64 .f32) (b : Fin 2) (n : Fin 64) (i : Fin 256) (g : Fin 4) (d : Fin 64) :
    band t (ix5 b n i g d) = if hi : i.val < 128 then
        if n.val = 0 then 0 else t (ix5 b ⟨n.val - 1, by omega⟩ ⟨i.val, hi⟩ g d)
      else t (ix5 b n ⟨i.val - 128, by omega⟩ g d) := by
  pointwise [band]
  by_cases hi : i.val < 128
  · rw [dif_pos hi, dif_pos hi]
    by_cases h0 : n.val = 0
    · rw [if_pos h0, dif_neg (by omega)]
      exact zero_word
    · rw [if_neg h0, dif_pos (by omega)]
  · rw [dif_neg hi, dif_neg hi]

/-- The banded array of any key or value head. -/
theorem band_eq (t : FVec Ideal S2x64x128x4x64 .f32) (e : Fin 4 → Fin 8)
    (ht : ∀ b n i g d, t (ix5 b n i g d) = cell x ⟨128 * (64 * b.val + n.val) + i.val, by omega⟩ ⟨1024 + 64 * (e g).val + d.val, by omega⟩)
    (b : Fin 2) (n : Fin 64) (i : Fin 256) (g : Fin 4) (d : Fin 64) :
    band t (ix5 b n i g d) = bandAt (cell x) (blkOf b n) i (e g) d := by
  rw [band_apply]
  unfold bandAt
  have hn : (blkOf b n).val % 64 = 0 ↔ n.val = 0 := by show (64 * b.val + n.val) % 64 = 0 ↔ _; omega
  by_cases hi : i.val < 128
  · rw [dif_pos hi, if_pos hi]
    by_cases h0 : n.val = 0
    · rw [if_pos h0, if_pos (hn.2 h0)]
    · rw [if_neg h0, if_neg (fun h => h0 (hn.1 h)), ht]
      refine cell_congr x _ _ _ _ ?_ rfl
      show 128 * (64 * b.val + (n.val - 1)) + i.val = 128 * (64 * b.val + n.val - 1) + i.val % 128; omega
  · rw [dif_neg hi, if_neg hi, ht]

theorem scores_apply (b : Fin 2) (n : Fin 64) (g h : Fin 4) (i : Fin 128) (j : Fin 256) :
    scoresR x (ix6 b n g h i j) = scoreAt (cell x) (blkOf b n) i (headOf g h) j := by
  have hk := band_eq x (keys x) (fun g => ⟨g.val, by omega⟩) (fun b n i g d => keys_apply x b n i g d)
  have hg : (⟨(headOf g h).val / 4, by have := (headOf g h).isLt; omega⟩ : Fin 8) = ⟨g.val, by omega⟩ := Fin.ext (by show (4 * g.val + h.val) / 4 = g.val; omega)
  unfold scoreAt
  rw [hg]
  pointwise [scoresR]
  simp only [hk, queries_apply]
  exact Finset.sum_congr rfl fun d _ => mul_comm _ _

theorem row_word : ∀ i : Fin 128, IntOp.addi (BitVec.ofNat 32 i.val) 128#32 = BitVec.ofNat 32 (i.val + 128) := by decide
theorem row_word' : ∀ i : Fin 128, IntOp.subi (IntOp.addi (BitVec.ofNat 32 i.val) 128#32) 128#32 = BitVec.ofNat 32 i.val := by decide

theorem mask_apply (b : Fin 2) (n : Fin 64) (g h : Fin 4) (i : Fin 128) (j : Fin 256) :
    maskR (ix6 b n g h i j) = BitVec.ofBool (decide (Sees (blkOf b n) i j)) := by
  have hn : (0 < n.val) ↔ (blkOf b n).val % 64 ≠ 0 := by show _ ↔ (64 * b.val + n.val) % 64 ≠ 0; omega
  pointwise [maskR, inBand, blkValid, rowsR, colsR]
  rw [row_word', row_word, cmpi_sle_ofNat (by omega) (by omega), cmpi_sgt_ofNat (by omega) (by omega),
    cmpi_sge_ofNat (by omega) (by norm_num), cmpi_sgt_ofNat (by omega) (by norm_num), ori_ofBool, andi_ofBool, andi_ofBool]
  refine congrArg BitVec.ofBool ?_
  rw [Bool.eq_iff_iff]
  simp only [Bool.and_eq_true, Bool.or_eq_true, decide_eq_true_eq]
  rw [hn]
  unfold Sees
  rw [and_assoc]

theorem masked_apply (b : Fin 2) (n : Fin 64) (g h : Fin 4) (i : Fin 128) (j : Fin 256) :
    maskedR x (ix6 b n g h i j) = hid (Sees (blkOf b n) i) (scoreAt (cell x) (blkOf b n) i (headOf g h)) j := by
  pointwise [maskedR]
  rw [mask_apply, scores_apply]
  show Scalar.select _ _ (Ideal.ofBits .f32 0xFF800000#32) = _
  rw [ninf, select_decide]
  rfl

theorem sink_apply (b : Fin 2) (n : Fin 64) (g h : Fin 4) (i : Fin 128) :
    sinkR k (ix6 b n g h i 0) = k (ix1 (headOf g h)) := by
  pointwise [sinkR]
  have e : ∀ a a' : Fin 16, a.val = a'.val → k (ix1 a) = k (ix1 a') := fun a a' h => by rw [Fin.ext h]
  exact e _ _ (by show g.val * 4 + h.val = 4 * g.val + h.val; omega)

theorem reduces : S2x64x4x4x128x256.Reduces [5] S2x64x4x4x128 := by decide

theorem lift_eq (b : Fin 2) (n : Fin 64) (g h : Fin 4) (i : Fin 128) (j : Fin 256) :
    reduces.lift (ix5 b n g h i) j = ix6 b n g h i j := by
  funext d
  match d with
  | ⟨0, _⟩ => rfl
  | ⟨1, _⟩ => rfl
  | ⟨2, _⟩ => rfl
  | ⟨3, _⟩ => rfl
  | ⟨4, _⟩ => rfl
  | ⟨5, _⟩ => rfl

theorem rowMax_apply (b : Fin 2) (n : Fin 64) (g h : Fin 4) (i : Fin 128) :
    rowMax x (ix5 b n g h i) = Finset.univ.fold max ⊥ (hid (Sees (blkOf b n) i) (scoreAt (cell x) (blkOf b n) i (headOf g h))) := by
  unfold rowMax
  rw [Host.reduce_eq_fold_single (FloatOps.maximumf (F := Ideal) (φ := .f32)) (maskedR x) (constant S_ .f32 0xFF800000#32)
    reducesTo_S2x64x4x4x128x256_S2x64x4x4x128_d5 reduces h_S_ (ix5 b n g h i)]
  have e : (maskedR x ∘ reduces.lift (ix5 b n g h i)) = hid (Sees (blkOf b n) i) (scoreAt (cell x) (blkOf b n) i (headOf g h)) := by
    funext j
    exact (congrArg (maskedR x) (lift_eq b n g h i j)).trans (masked_apply x b n g h i j)
  rw [e]
  show Finset.fold max (Ideal.ofBits .f32 0xFF800000#32) _ _ = _
  rw [ninf]
  rfl

theorem max_col_apply (v : FVec Ideal S2x64x4x4x128 .f32) (s : FVec Ideal S2x64x4x4x128x1 .f32) (b : Fin 2) (n : Fin 64) (g h : Fin 4) (i : Fin 128) :
    maximumf (broadcastInDim S2x64x4x4x128x1 ![0, 1, 2, 3, 4] bcast_S2x64x4x4x128_S2x64x4x4x128x1_0_1_2_3_4 v) s (ix6 b n g h i 0)
      = max (v (ix5 b n g h i) : EReal) (s (ix6 b n g h i 0)) := by
  pointwise

theorem add_col_apply (v : FVec Ideal S2x64x4x4x128 .f32) (s l : FVec Ideal S2x64x4x4x128x1 .f32) (b : Fin 2) (n : Fin 64) (g h : Fin 4) (i : Fin 128) :
    addf (broadcastInDim S2x64x4x4x128x1 ![0, 1, 2, 3, 4] bcast_S2x64x4x4x128_S2x64x4x4x128x1_0_1_2_3_4 v) (Host.exp (subf s l)) (ix6 b n g h i 0)
      = (v (ix5 b n g h i) : EReal) + Ideal.exp (s (ix6 b n g h i 0) - l (ix6 b n g h i 0)) := by
  pointwise

theorem exp_col_apply (v : FVec Ideal S2x64x4x4x128x256 .f32) (l : FVec Ideal S2x64x4x4x128x1 .f32) (b : Fin 2) (n : Fin 64) (g h : Fin 4) (i : Fin 128) (j : Fin 256) :
    Host.exp (subf v (broadcastInDim S2x64x4x4x128x256 ![0, 1, 2, 3, 4, 5] bcast_S2x64x4x4x128x1_S2x64x4x4x128x256_0_1_2_3_4_5 l)) (ix6 b n g h i j)
      = Ideal.exp (v (ix6 b n g h i j) - l (ix6 b n g h i 0)) := by
  pointwise

theorem largest_apply (b : Fin 2) (n : Fin 64) (g h : Fin 4) (i : Fin 128) : largest x k (ix6 b n g h i 0)
    = top (Sees (blkOf b n) i) (scoreAt (cell x) (blkOf b n) i (headOf g h)) (k (ix1 (headOf g h))) := by
  unfold largest
  rw [max_col_apply, rowMax_apply, sink_apply, top]

theorem weights_apply (b : Fin 2) (n : Fin 64) (g h : Fin 4) (i : Fin 128) (j : Fin 256) : weightsR x k (ix6 b n g h i j)
    = Ideal.exp (hid (Sees (blkOf b n) i) (scoreAt (cell x) (blkOf b n) i (headOf g h)) j
        - top (Sees (blkOf b n) i) (scoreAt (cell x) (blkOf b n) i (headOf g h)) (k (ix1 (headOf g h)))) := by
  unfold weightsR
  rw [exp_col_apply, masked_apply, largest_apply]

theorem rowSum_apply (b : Fin 2) (n : Fin 64) (g h : Fin 4) (i : Fin 128) : rowSum x k (ix5 b n g h i)
    = 0 + ∑ j, Ideal.exp (hid (Sees (blkOf b n) i) (scoreAt (cell x) (blkOf b n) i (headOf g h)) j
        - top (Sees (blkOf b n) i) (scoreAt (cell x) (blkOf b n) i (headOf g h)) (k (ix1 (headOf g h)))) := by
  unfold rowSum
  refine (Ideal.hostReduceAdd_single reducesTo_S2x64x4x4x128x256_S2x64x4x4x128_d5 reduces (weightsR x k)
    (Ideal.ofBits .f32 0x00000000#32) (ix5 b n g h i)).trans ?_
  rw [Ideal.ofBits_zero_f32]
  refine congrArg (0 + ·) (Finset.sum_congr rfl fun j _ => ?_)
  exact (congrArg (weightsR x k) (lift_eq b n g h i j)).trans (weights_apply x k b n g h i j)

theorem denom_apply (b : Fin 2) (n : Fin 64) (g h : Fin 4) (i : Fin 128) : denom x k (ix6 b n g h i 0)
    = 0 + ∑ j, Ideal.exp (hid (Sees (blkOf b n) i) (scoreAt (cell x) (blkOf b n) i (headOf g h)) j
        - top (Sees (blkOf b n) i) (scoreAt (cell x) (blkOf b n) i (headOf g h)) (k (ix1 (headOf g h))))
      + Ideal.exp (k (ix1 (headOf g h)) - top (Sees (blkOf b n) i) (scoreAt (cell x) (blkOf b n) i (headOf g h)) (k (ix1 (headOf g h)))) := by
  unfold denom
  rw [add_col_apply, rowSum_apply, sink_apply, largest_apply]

/-- An element of the reference's result: row `r` of block `B`, column `c`. -/
theorem means_apply (B r : Fin 128) (c : Fin 1024) :
    means x k (ix2 ⟨128 * B.val + r.val, by omega⟩ c) =
      ∑ j, valueAt (cell x) B ⟨c.val / 64, by omega⟩ ⟨c.val % 64, by omega⟩ j *
        Ideal.div (Ideal.exp (hid (Sees B r) (scoreAt (cell x) B r ⟨c.val / 64, by omega⟩) j
            - top (Sees B r) (scoreAt (cell x) B r ⟨c.val / 64, by omega⟩) (k (ix1 ⟨c.val / 64, by omega⟩))))
          (0 + ∑ j', Ideal.exp (hid (Sees B r) (scoreAt (cell x) B r ⟨c.val / 64, by omega⟩) j'
              - top (Sees B r) (scoreAt (cell x) B r ⟨c.val / 64, by omega⟩) (k (ix1 ⟨c.val / 64, by omega⟩)))
            + Ideal.exp (k (ix1 ⟨c.val / 64, by omega⟩) - top (Sees B r) (scoreAt (cell x) B r ⟨c.val / 64, by omega⟩) (k (ix1 ⟨c.val / 64, by omega⟩)))) := by
  have hv := band_eq x (values x) (fun g => ⟨4 + g.val, by omega⟩) (fun b n i g d => values_apply x b n i g d)
  have hB : blkOf ⟨(128 * B.val + r.val) / 8192, by omega⟩ ⟨(128 * B.val + r.val) / 128 % 64, by omega⟩ = B :=
    Fin.ext (by show 64 * ((128 * B.val + r.val) / 8192) + (128 * B.val + r.val) / 128 % 64 = B.val; omega)
  have hr : (⟨(128 * B.val + r.val) % 128, by omega⟩ : Fin 128) = r := Fin.ext (by show (128 * B.val + r.val) % 128 = r.val; omega)
  have hh : headOf ⟨c.val / 256, by omega⟩ ⟨c.val / 64 % 4, by omega⟩ = ⟨c.val / 64, by omega⟩ :=
    Fin.ext (by show 4 * (c.val / 256) + c.val / 64 % 4 = c.val / 64; omega)
  have he : (⟨4 + c.val / 256, by omega⟩ : Fin 8) = ⟨4 + c.val / 64 / 4, by omega⟩ := Fin.ext (by show 4 + c.val / 256 = 4 + c.val / 64 / 4; omega)
  pointwise [means, probs]
  simp only [hv, weights_apply, denom_apply, hB, hr, hh, he, zero_add]
  rfl

end Cert.ReferenceIdeal.Attn

end
-- ==== Proof.Finite.lean ====
/-
  WHAT THE PRECONDITION SAYS over the extended reals: queries and keys are real numbers and no sink is +∞; the scores are
  then real numbers too.
-/
module

public import proofs.«01_k».proof.Pre_scores_finite
public import proofs.«01_k».proof.Proof.Spec
public import Idealize.ShloMosaic.Lib.ReduceAll
public import Idealize.ShloMosaic.Lib.Pointwise
public import Idealize.ShloMosaic.PureOps.Ideal.Laws

@[expose] public section

set_option maxRecDepth 16384

noncomputable section

namespace SinkSoftmax

open Idealize.ShloMosaic Idealize.ShloMosaic.TcCoe
open Cert.Pre_scores_finite

/-- Is it a real number? -/
def Real (y : EReal) : Prop := y ≠ ⊥ ∧ y ≠ ⊤

theorem Real.zero : Real 0 := ⟨EReal.zero_ne_bot, EReal.zero_ne_top⟩

theorem Real.add {y z : EReal} (hy : Real y) (hz : Real z) : Real (y + z) := by
  lift y to ℝ using ⟨hy.2, hy.1⟩
  lift z to ℝ using ⟨hz.2, hz.1⟩
  rw [← EReal.coe_add]
  exact ⟨EReal.coe_ne_bot _, EReal.coe_ne_top _⟩

theorem Real.mul {y z : EReal} (hy : Real y) (hz : Real z) : Real (y * z) := by
  lift y to ℝ using ⟨hy.2, hy.1⟩
  lift z to ℝ using ⟨hz.2, hz.1⟩
  rw [← EReal.coe_mul]
  exact ⟨EReal.coe_ne_bot _, EReal.coe_ne_top _⟩

theorem pinf : Ideal.ofBits .f32 0x7F800000#32 = ⊤ := by simp [Ideal.ofBits, Ideal.ieee]

theorem cmp_olt {a b : EReal} (h : Ideal.cmp .olt a b = 1#1) : a < b := by
  by_contra hn
  have : Ideal.cmp .olt a b = 0#1 := by simp [Ideal.cmp, hn]
  rw [this] at h
  exact absurd h (by decide)

theorem real_of_abs {a : EReal} (h : max a (-a) < ⊤) : Real a :=
  ⟨fun e => by rw [e] at h; simp at h, fun e => by rw [e] at h; simp at h⟩

variable [Facts]

/-- The precondition, read. -/
theorem pre_read (x : Vec Ideal S16384x1536 .bf16) (k : Vec Ideal S16 .f32) (h : fn (F := Ideal) x k = fun _ => 1#1) :
    (∀ (i : Fin 16384) (c : Fin 1536), c.val < 1280 → Real (x (ix2 i c))) ∧ ∀ e : Fin 16, k (ix1 e) ≠ (⊤ : EReal) := by
  obtain ⟨hx, hk⟩ := IntOp.andi_eq_one.1 (congrFun h ix0)
  haveI : Subsingleton S_.Idx := ⟨fun a b => funext fun d => d.elim0⟩
  refine ⟨fun i c hc => ?_, fun e => ?_⟩
  · have := cmp_olt (Host.reduce_andi_all _ _ _ _ ix0 hx (ix2 i ⟨c.val, hc⟩))
    have e : extractStridedSlice S16384x1280 ![0, 0] x Facts.slices_S16384x1536_S16384x1280_0_0 (ix2 i ⟨c.val, hc⟩) = x (ix2 i c) := by
      pointwise
    refine real_of_abs ?_
    rw [← e]
    exact lt_of_lt_of_eq this pinf
  · have := cmp_olt (Host.reduce_andi_all _ _ _ _ ix0 hk (ix1 e))
    exact ne_of_lt (lt_of_lt_of_eq this pinf)

variable (X : Fin 16384 → Fin 1536 → EReal)

theorem band_real (B : Fin 128) (j : Fin 256) (e : Fin 8) (he : e.val < 4) (d : Fin 64) (hX : ∀ i c, c.val < 1280 → Real (X i c)) :
    Real (bandAt X B j e d) := by
  unfold bandAt
  have hc : 1024 + 64 * e.val + d.val < 1280 := by omega
  split
  · split
    · exact Real.zero
    · exact hX _ _ hc
  · exact hX _ _ hc

theorem score_real (B r : Fin 128) (h : Fin 16) (j : Fin 256) (hX : ∀ i c, c.val < 1280 → Real (X i c)) : Real (scoreAt X B r h j) := by
  unfold scoreAt
  refine Finset.sum_induction _ Real (fun _ _ => Real.add) Real.zero fun d _ => ?_
  refine Real.mul (hX _ _ ?_) (band_real X B j _ ?_ d hX)
  · show 64 * h.val + d.val < 1280; omega
  · show h.val / 4 < 4; omega

end SinkSoftmax

end
-- ==== Proof.ExpSetup.lean ====
/-
  THE EXPERTS' CALL, SET UP: @main up to the launch, the tile plan's two tables, the windows' blocks, the staging buffers.
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Exp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 3 (result 0 (%2)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_mlp (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel2Ideal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2048x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x256x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2048x128 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S1024x512 .bf16 := Memref.whole cc0_scratch0
abbrev scM0_1 : Memref sig .tc .vmem S256x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Exp

end
-- ==== Proof.ExpBlock.lean ====
/-
  A TILE OF THE EXPERTS' CALL: the rows of a tile lie in its block eight lines of 128 lanes a row; chunk k of every row is one
  strided load, and the results go back by the same strides. Here is what those loads read and what those stores leave.
-/
module

public import proofs.«01_k».proof.Proof.ExpSetup
public import Idealize.ShloMosaic.Lib.WholeRead
public import Idealize.ShloMosaic.Lib.Writes
public import Idealize.ShloMosaic.Lib.ValueIdx

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Chunk `k` (of 128 lanes) of the 256 rows of a block. -/
def chunk (x : Vec F S2048x128 .f32) (k : Fin 8) : Vec F S256x128 .f32 := fun j =>
  x (ix2 ⟨k.val + 8 * (j 0).val, by have : (j 0).val < 256 := (j 0).isLt; omega⟩ (j 1))

/-- What the two products leave of a block and one expert's weights: 256 rows of 1024 lanes. -/
def tile (x : Vec F S2048x128 .f32) (w : Vec F S1024x512 .bf16) (w' : Vec F S256x1024 .bf16) : FVec F S256x1024 .f32 :=
  k0_pay8 (chunk x 0) (chunk x 1) (chunk x 2) (chunk x 3) (chunk x 4) (chunk x 5) (chunk x 6) (chunk x 7) w w'

/-- Rows of 1024 lanes as a block: eight lines of 128 a row. -/
def lines (Y : FVec F S256x1024 .f32) : Vec F S2048x128 .f32 := fun j =>
  Y (ix2 ⟨(j 0).val / 8, by have : (j 0).val < 2048 := (j 0).isLt; omega⟩
    ⟨(j 0).val % 8 * 128 + (j 1).val, by have : (j 1).val < 128 := (j 1).isLt; omega⟩)

/-- Chunk `k` of rows of 1024 lanes. -/
def part (Y : FVec F S256x1024 .f32) (k : Fin 8) : Vec F S256x128 .f32 := fun j =>
  Y (ix2 (j 0) ⟨k.val * 128 + (j 1).val, by have : (j 1).val < 128 := (j 1).isLt; omega⟩)

theorem part_eq (Y : FVec F S256x1024 .f32) (k : Fin 8) (x : S256x128.Idx) (y : S2048x128.Idx)
    (h0 : (y 0).val = k.val + 8 * (x 0).val) (h1 : (y 1).val = (x 1).val) : part Y k x = lines Y y := by
  refine congrArg Y (funext fun a => Fin.ext ?_)
  match a with
  | ⟨0, _⟩ => show (x 0).val = (y 0).val / 8; omega
  | ⟨1, _⟩ => show k.val * 128 + (x 1).val = (y 0).val % 8 * 128 + (y 1).val; omega

/-- The eight strided stores leave the rows as lines. -/
theorem stores8 {κ : Kind} {sp : Space} (v : View sig κ sp S2048x128 .f32) (f : v.ty.Contents (Elt F)) (Y : FVec F S256x1024 .f32) :
    v.read (Elt F) (v.writes (Elt F) f [
      ⟨⟨(⟨![7, 0], S256x128.size, ![8, 1], inb_S2048x128_S256x128_7_0_s_8_1⟩ : LoadRect S2048x128), spos_8_1⟩, part Y 7⟩,
      ⟨⟨(⟨![6, 0], S256x128.size, ![8, 1], inb_S2048x128_S256x128_6_0_s_8_1⟩ : LoadRect S2048x128), spos_8_1⟩, part Y 6⟩,
      ⟨⟨(⟨![5, 0], S256x128.size, ![8, 1], inb_S2048x128_S256x128_5_0_s_8_1⟩ : LoadRect S2048x128), spos_8_1⟩, part Y 5⟩,
      ⟨⟨(⟨![4, 0], S256x128.size, ![8, 1], inb_S2048x128_S256x128_4_0_s_8_1⟩ : LoadRect S2048x128), spos_8_1⟩, part Y 4⟩,
      ⟨⟨(⟨![3, 0], S256x128.size, ![8, 1], inb_S2048x128_S256x128_3_0_s_8_1⟩ : LoadRect S2048x128), spos_8_1⟩, part Y 3⟩,
      ⟨⟨(⟨![2, 0], S256x128.size, ![8, 1], inb_S2048x128_S256x128_2_0_s_8_1⟩ : LoadRect S2048x128), spos_8_1⟩, part Y 2⟩,
      ⟨⟨(⟨![1, 0], S256x128.size, ![8, 1], inb_S2048x128_S256x128_1_0_s_8_1⟩ : LoadRect S2048x128), spos_8_1⟩, part Y 1⟩,
      ⟨⟨(⟨![0, 0], S256x128.size, ![8, 1], inb_S2048x128_S256x128_0_0_s_8_1⟩ : LoadRect S2048x128), spos_8_1⟩, part Y 0⟩]) = lines Y := by
  refine funext fun y => View.read_writes_apply_of_pieces v f (lines Y) _ (fun p hp => ?_) y ?_
  · simp only [List.mem_cons, List.not_mem_nil, or_false] at hp
    rcases hp with rfl | rfl | rfl | rfl | rfl | rfl | rfl | rfl <;> intro x
    · exact part_eq Y 7 x _ (show 7 + 8 * (x 0).val = _ from rfl) (show 0 + 1 * (x 1).val = _ by omega)
    · exact part_eq Y 6 x _ (show 6 + 8 * (x 0).val = _ from rfl) (show 0 + 1 * (x 1).val = _ by omega)
    · exact part_eq Y 5 x _ (show 5 + 8 * (x 0).val = _ from rfl) (show 0 + 1 * (x 1).val = _ by omega)
    · exact part_eq Y 4 x _ (show 4 + 8 * (x 0).val = _ from rfl) (show 0 + 1 * (x 1).val = _ by omega)
    · exact part_eq Y 3 x _ (show 3 + 8 * (x 0).val = _ from rfl) (show 0 + 1 * (x 1).val = _ by omega)
    · exact part_eq Y 2 x _ (show 2 + 8 * (x 0).val = _ from rfl) (show 0 + 1 * (x 1).val = _ by omega)
    · exact part_eq Y 1 x _ (show 1 + 8 * (x 0).val = _ from rfl) (show 0 + 1 * (x 1).val = _ by omega)
    · exact part_eq Y 0 x _ (show 0 + 8 * (x 0).val = _ from rfl) (show 0 + 1 * (x 1).val = _ by omega)
  · have h0 : (y 0).val < 2048 := (y 0).isLt
    have h1 : (y 1).val < 128 := (y 1).isLt
    have key : ∀ k : ℕ, (y 0).val % 8 = k → ∀ (inb) (sp), y ∈ (⟨(⟨![k, 0], S256x128.size, ![8, 1], inb⟩ : LoadRect S2048x128), sp⟩ : Rect S2048x128).set := by
      intro k hk inb sp
      refine (LoadRect.mem_set _).mpr fun a => ?_
      match a with
      | ⟨0, _⟩ => exact ⟨(y 0).val / 8, show (y 0).val / 8 < 256 by omega, show (y 0).val = k + 8 * ((y 0).val / 8) by omega⟩
      | ⟨1, _⟩ => exact ⟨(y 1).val, h1, show (y 1).val = 0 + 1 * (y 1).val by omega⟩
    have hk : (y 0).val % 8 < 8 := Nat.mod_lt _ (by decide)
    rcases (by omega : (y 0).val % 8 = 7 ∨ (y 0).val % 8 = 6 ∨ (y 0).val % 8 = 5 ∨ (y 0).val % 8 = 4 ∨ (y 0).val % 8 = 3
      ∨ (y 0).val % 8 = 2 ∨ (y 0).val % 8 = 1 ∨ (y 0).val % 8 = 0) with h | h | h | h | h | h | h | h
    · exact ⟨_, List.mem_cons_self, key 7 h _ _⟩
    · exact ⟨_, List.mem_cons_of_mem _ (List.mem_cons_self), key 6 h _ _⟩
    · exact ⟨_, List.mem_cons_of_mem _ (List.mem_cons_of_mem _ (List.mem_cons_self)), key 5 h _ _⟩
    · exact ⟨_, List.mem_cons_of_mem _ (List.mem_cons_of_mem _ (List.mem_cons_of_mem _ (List.mem_cons_self))), key 4 h _ _⟩
    · exact ⟨_, List.mem_cons_of_mem _ (List.mem_cons_of_mem _ (List.mem_cons_of_mem _ (List.mem_cons_of_mem _ (List.mem_cons_self)))), key 3 h _ _⟩
    · exact ⟨_, List.mem_cons_of_mem _ (List.mem_cons_of_mem _ (List.mem_cons_of_mem _ (List.mem_cons_of_mem _ (List.mem_cons_of_mem _ (List.mem_cons_self))))), key 2 h _ _⟩
    · exact ⟨_, List.mem_cons_of_mem _ (List.mem_cons_of_mem _ (List.mem_cons_of_mem _ (List.mem_cons_of_mem _ (List.mem_cons_of_mem _ (List.mem_cons_of_mem _ (List.mem_cons_self)))))), key 1 h _ _⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 h _ _⟩

section loads
variable {m : Memref sig .tc .vmem S2048x128 .f32} (h : m.IsWhole) (x : Vec F S2048x128 .f32)

theorem load_chunk (k : Fin 8) (inb) :
    View.readAt (Elt F) m.view (⟨![k.val, 0], S256x128.size, ![8, 1], inb⟩ : LoadRect S2048x128) (h.unread x) = chunk x k := by
  funext j
  refine (h.readAt_unread x _ j).trans (congrArg x (funext fun a => Fin.ext ?_))
  match a with
  | ⟨0, _⟩ => rfl
  | ⟨1, _⟩ => show 0 + 1 * (j 1).val = (j 1).val; omega

end loads

/-- A whole buffer, read whole. -/
theorem load2 {a b : ℕ} {e : EltTy} {m : Memref sig .tc .vmem ⟨2, ![a, b]⟩ e} (h : m.IsWhole)
    (x : Vec F ⟨2, ![a, b]⟩ e) (inb) :
    View.readAt (Elt F) m.view (Rect.unit (s := ⟨2, ![a, b]⟩) ![0, 0] ![a, b] inb).toLoadRect (h.unread x) = x := by
  funext j
  refine (h.readAt_unread x _ j).trans (congrArg x (funext fun a => Fin.ext ?_))
  match a with
  | ⟨0, _⟩ => show 0 + 1 * (j 0).val = (j 0).val; omega
  | ⟨1, _⟩ => show 0 + 1 * (j 1).val = (j 1).val; omega

theorem load3 {a b c : ℕ} {e : EltTy} {m : Memref sig .tc .vmem ⟨3, ![a, b, c]⟩ e} (h : m.IsWhole)
    (x : Vec F ⟨3, ![a, b, c]⟩ e) (inb) :
    View.readAt (Elt F) m.view (Rect.unit (s := ⟨3, ![a, b, c]⟩) ![0, 0, 0] ![a, b, c] inb).toLoadRect (h.unread x) = x := by
  funext j
  refine (h.readAt_unread x _ j).trans (congrArg x (funext fun a => Fin.ext ?_))
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- One store of the whole of a buffer leaves what it stored. -/
theorem store2 {a b : ℕ} {e : EltTy} (v : View sig .tc .vmem ⟨2, ![a, b]⟩ e) (f : v.ty.Contents (Elt F))
    (x : Vec F ⟨2, ![a, b]⟩ e) (inb) :
    v.read (Elt F) (v.writes (Elt F) f [⟨Rect.unit (s := ⟨2, ![a, b]⟩) ![0, 0] ![a, b] inb, x⟩]) = x := by
  refine funext fun y => View.read_writes_apply_of_pieces v f x _ (fun p hp => ?_) y ⟨_, List.mem_cons_self, (LoadRect.mem_set _).mpr fun d => ?_⟩
  · obtain rfl := List.mem_singleton.mp hp
    intro j
    refine congrArg x (funext fun a => Fin.ext ?_)
    match a with
    | ⟨0, _⟩ => show (j 0).val = 0 + 1 * (j 0).val; omega
    | ⟨1, _⟩ => show (j 1).val = 0 + 1 * (j 1).val; omega
  · match d with
    | ⟨0, _⟩ => exact ⟨(y 0).val, (y 0).isLt, show (y 0).val = 0 + 1 * (y 0).val by omega⟩
    | ⟨1, _⟩ => exact ⟨(y 1).val, (y 1).isLt, show (y 1).val = 0 + 1 * (y 1).val by omega⟩

/-- A load of the whole of a buffer reads what was stored there. -/
theorem reload2 {a b : ℕ} {e : EltTy} (v : View sig .tc .vmem ⟨2, ![a, b]⟩ e) (f : v.ty.Contents (Elt F))
    (x : Vec F ⟨2, ![a, b]⟩ e) (inb inb') :
    v.readAt (Elt F) (Rect.unit (s := ⟨2, ![a, b]⟩) ![0, 0] ![a, b] inb').toLoadRect
      (v.writes (Elt F) f [⟨Rect.unit (s := ⟨2, ![a, b]⟩) ![0, 0] ![a, b] inb, x⟩]) = x := by
  funext j
  rw [View.readAt_apply, store2 v f x inb]
  refine congrArg x (funext fun a => Fin.ext ?_)
  match a with
  | ⟨0, _⟩ => show 0 + 1 * (j 0).val = (j 0).val; omega
  | ⟨1, _⟩ => show 0 + 1 * (j 1).val = (j 1).val; omega

theorem k0_pay9_part (v19 v20 v21 v22 v23 v24 v25 v26 : Vec F S256x128 .f32) (v29 : Vec F S1024x512 .bf16) (v37 : Vec F S256x1024 .bf16) : k0_pay9 v19 v20 v21 v22 v23 v24 v25 v26 v29 v37 = part (k0_pay8 v19 v20 v21 v22 v23 v24 v25 v26 v29 v37) 0 := by
  funext j
  refine congrArg (k0_pay8 v19 v20 v21 v22 v23 v24 v25 v26 v29 v37) (funext fun a => Fin.ext ?_)
  match a with
  | ⟨0, _⟩ => show 0 + (j 0).val = (j 0).val; omega
  | ⟨1, _⟩ => rfl

theorem k0_pay10_part (v19 v20 v21 v22 v23 v24 v25 v26 : Vec F S256x128 .f32) (v29 : Vec F S1024x512 .bf16) (v37 : Vec F S256x1024 .bf16) : k0_pay10 v19 v20 v21 v22 v23 v24 v25 v26 v29 v37 = part (k0_pay8 v19 v20 v21 v22 v23 v24 v25 v26 v29 v37) 1 := by
  funext j
  refine congrArg (k0_pay8 v19 v20 v21 v22 v23 v24 v25 v26 v29 v37) (funext fun a => Fin.ext ?_)
  match a with
  | ⟨0, _⟩ => show 0 + (j 0).val = (j 0).val; omega
  | ⟨1, _⟩ => rfl

theorem k0_pay11_part (v19 v20 v21 v22 v23 v24 v25 v26 : Vec F S256x128 .f32) (v29 : Vec F S1024x512 .bf16) (v37 : Vec F S256x1024 .bf16) : k0_pay11 v19 v20 v21 v22 v23 v24 v25 v26 v29 v37 = part (k0_pay8 v19 v20 v21 v22 v23 v24 v25 v26 v29 v37) 2 := by
  funext j
  refine congrArg (k0_pay8 v19 v20 v21 v22 v23 v24 v25 v26 v29 v37) (funext fun a => Fin.ext ?_)
  match a with
  | ⟨0, _⟩ => show 0 + (j 0).val = (j 0).val; omega
  | ⟨1, _⟩ => rfl

theorem k0_pay12_part (v19 v20 v21 v22 v23 v24 v25 v26 : Vec F S256x128 .f32) (v29 : Vec F S1024x512 .bf16) (v37 : Vec F S256x1024 .bf16) : k0_pay12 v19 v20 v21 v22 v23 v24 v25 v26 v29 v37 = part (k0_pay8 v19 v20 v21 v22 v23 v24 v25 v26 v29 v37) 3 := by
  funext j
  refine congrArg (k0_pay8 v19 v20 v21 v22 v23 v24 v25 v26 v29 v37) (funext fun a => Fin.ext ?_)
  match a with
  | ⟨0, _⟩ => show 0 + (j 0).val = (j 0).val; omega
  | ⟨1, _⟩ => rfl

theorem k0_pay3_part (v38 : FVec F S256x1024 .f32) : k0_pay3 v38 = part (v38) 4 := by
  funext j
  refine congrArg v38 (funext fun a => Fin.ext ?_)
  match a with
  | ⟨0, _⟩ => show 0 + (j 0).val = (j 0).val; omega
  | ⟨1, _⟩ => rfl

theorem k0_pay4_part (v38 : FVec F S256x1024 .f32) : k0_pay4 v38 = part (v38) 5 := by
  funext j
  refine congrArg v38 (funext fun a => Fin.ext ?_)
  match a with
  | ⟨0, _⟩ => show 0 + (j 0).val = (j 0).val; omega
  | ⟨1, _⟩ => rfl

theorem k0_pay5_part (v38 : FVec F S256x1024 .f32) : k0_pay5 v38 = part (v38) 6 := by
  funext j
  refine congrArg v38 (funext fun a => Fin.ext ?_)
  match a with
  | ⟨0, _⟩ => show 0 + (j 0).val = (j 0).val; omega
  | ⟨1, _⟩ => rfl

theorem k0_pay6_part (v38 : FVec F S256x1024 .f32) : k0_pay6 v38 = part (v38) 7 := by
  funext j
  refine congrArg v38 (funext fun a => Fin.ext ?_)
  match a with
  | ⟨0, _⟩ => show 0 + (j 0).val = (j 0).val; omega
  | ⟨1, _⟩ => rfl

end Cert.Kernel2Ideal.Exp

end
-- ==== Proof.ExpStep.lean ====
/-
  ONE STEP OF THE EXPERTS' CALL. A step's tile of rows is in use or not; of a tile in use, the expert is another than the step
  before had, so that its weights are read afresh, or the same, so that the step before left them. What each of the three leaves.
-/
module

public import proofs.«01_k».proof.Proof.ExpBlock

@[expose] public section

set_option maxRecDepth 16384

noncomputable section

namespace Cert.Kernel2Ideal.Exp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of tiles in use, as a step reads it. -/
abbrev usedWord (c : Dev nD) (xt1 : TbBuf0 (F := F) c tbM0_1) : BitVec 32 :=
  View.readAt (Elt F) tbM0_1.view (Rect.unit (s := S1) ![0] S1.size inb_S1_S1_0).toLoadRect xt1 (Shape.Idx.first (Nat.lt_of_lt_of_eq Nat.one_pos numel1_S1.symm))

/-- A step's expert, as it reads it, -/
abbrev thisWord (c : Dev nD) (i : grid0.Coords) (xt0 : TbBuf0 (F := F) c tbM0_0) : BitVec 32 :=
  View.readAt (Elt F) tbM0_0.view (Rect.unit (s := S160) (k0_off1 i) S1.size (k0_off1_inb i)).toLoadRect xt0 (Shape.Idx.first (Nat.lt_of_lt_of_eq Nat.one_pos numel1_S1.symm))

/-- and the expert of the step before. -/
abbrev lastWord (c : Dev nD) (i : grid0.Coords) (xt0 : TbBuf0 (F := F) c tbM0_0) : BitVec 32 :=
  View.readAt (Elt F) tbM0_0.view (Rect.unit (s := S160) (k0_off2 i) S1.size (k0_off2_inb i)).toLoadRect xt0 (Shape.Idx.first (Nat.lt_of_lt_of_eq Nat.one_pos numel1_S1.symm))

/-- Are the weights read afresh? -/
abbrev freshBit (i : grid0.Coords) (u e e' : BitVec 32) : BitVec 1 :=
  Scalar.cmpi .ne (Scalar.extui (Scalar.andi (Scalar.cmpi .slt (BitVec.ofNat 32 (i 0).val) u)
    (Scalar.ori (Scalar.cmpi .eq (BitVec.ofNat 32 (i 0).val) 0#32) (Scalar.cmpi .ne e e')))) 0#32

/-- The eight loads and the two products are the tile. -/
theorem tile_of {m : Memref sig .tc .vmem S2048x128 .f32} (h : m.IsWhole) (x : Vec F S2048x128 .f32)
    (w v : Vec F S1024x512 .bf16) (w' v' : Vec F S256x1024 .bf16) (hw : v = w) (hw' : v' = w') :
    k0_pay8 (View.readAt (Elt F) m.view (⟨![0, 0], S256x128.size, ![8, 1], inb_S2048x128_S256x128_0_0_s_8_1⟩ : LoadRect S2048x128) (h.unread x))
      (View.readAt (Elt F) m.view (⟨![1, 0], S256x128.size, ![8, 1], inb_S2048x128_S256x128_1_0_s_8_1⟩ : LoadRect S2048x128) (h.unread x))
      (View.readAt (Elt F) m.view (⟨![2, 0], S256x128.size, ![8, 1], inb_S2048x128_S256x128_2_0_s_8_1⟩ : LoadRect S2048x128) (h.unread x))
      (View.readAt (Elt F) m.view (⟨![3, 0], S256x128.size, ![8, 1], inb_S2048x128_S256x128_3_0_s_8_1⟩ : LoadRect S2048x128) (h.unread x))
      (View.readAt (Elt F) m.view (⟨![4, 0], S256x128.size, ![8, 1], inb_S2048x128_S256x128_4_0_s_8_1⟩ : LoadRect S2048x128) (h.unread x))
      (View.readAt (Elt F) m.view (⟨![5, 0], S256x128.size, ![8, 1], inb_S2048x128_S256x128_5_0_s_8_1⟩ : LoadRect S2048x128) (h.unread x))
      (View.readAt (Elt F) m.view (⟨![6, 0], S256x128.size, ![8, 1], inb_S2048x128_S256x128_6_0_s_8_1⟩ : LoadRect S2048x128) (h.unread x))
      (View.readAt (Elt F) m.view (⟨![7, 0], S256x128.size, ![8, 1], inb_S2048x128_S256x128_7_0_s_8_1⟩ : LoadRect S2048x128) (h.unread x)) v v' = tile x w w' := by
  subst hw hw'
  unfold tile
  rw [← load_chunk h x 0 inb_S2048x128_S256x128_0_0_s_8_1, ← load_chunk h x 1 inb_S2048x128_S256x128_1_0_s_8_1,
    ← load_chunk h x 2 inb_S2048x128_S256x128_2_0_s_8_1, ← load_chunk h x 3 inb_S2048x128_S256x128_3_0_s_8_1,
    ← load_chunk h x 4 inb_S2048x128_S256x128_4_0_s_8_1, ← load_chunk h x 5 inb_S2048x128_S256x128_5_0_s_8_1,
    ← load_chunk h x 6 inb_S2048x128_S256x128_6_0_s_8_1, ← load_chunk h x 7 inb_S2048x128_S256x128_7_0_s_8_1]
  rfl

/-- The eight stores leave the tile's rows as lines. -/
theorem stores_tile {κ : Kind} {sp : Space} (v : View sig κ sp S2048x128 .f32) (f : v.ty.Contents (Elt F))
    (v19 v20 v21 v22 v23 v24 v25 v26 : Vec F S256x128 .f32) (v29 : Vec F S1024x512 .bf16) (v37 : Vec F S256x1024 .bf16) :
    v.read (Elt F) (v.writes (Elt F) f [
      ⟨⟨(⟨![7, 0], S256x128.size, ![8, 1], inb_S2048x128_S256x128_7_0_s_8_1⟩ : LoadRect S2048x128), spos_8_1⟩, k0_pay6 (k0_pay8 v19 v20 v21 v22 v23 v24 v25 v26 v29 v37)⟩,
      ⟨⟨(⟨![6, 0], S256x128.size, ![8, 1], inb_S2048x128_S256x128_6_0_s_8_1⟩ : LoadRect S2048x128), spos_8_1⟩, k0_pay5 (k0_pay8 v19 v20 v21 v22 v23 v24 v25 v26 v29 v37)⟩,
      ⟨⟨(⟨![5, 0], S256x128.size, ![8, 1], inb_S2048x128_S256x128_5_0_s_8_1⟩ : LoadRect S2048x128), spos_8_1⟩, k0_pay4 (k0_pay8 v19 v20 v21 v22 v23 v24 v25 v26 v29 v37)⟩,
      ⟨⟨(⟨![4, 0], S256x128.size, ![8, 1], inb_S2048x128_S256x128_4_0_s_8_1⟩ : LoadRect S2048x128), spos_8_1⟩, k0_pay3 (k0_pay8 v19 v20 v21 v22 v23 v24 v25 v26 v29 v37)⟩,
      ⟨⟨(⟨![3, 0], S256x128.size, ![8, 1], inb_S2048x128_S256x128_3_0_s_8_1⟩ : LoadRect S2048x128), spos_8_1⟩, k0_pay12 v19 v20 v21 v22 v23 v24 v25 v26 v29 v37⟩,
      ⟨⟨(⟨![2, 0], S256x128.size, ![8, 1], inb_S2048x128_S256x128_2_0_s_8_1⟩ : LoadRect S2048x128), spos_8_1⟩, k0_pay11 v19 v20 v21 v22 v23 v24 v25 v26 v29 v37⟩,
      ⟨⟨(⟨![1, 0], S256x128.size, ![8, 1], inb_S2048x128_S256x128_1_0_s_8_1⟩ : LoadRect S2048x128), spos_8_1⟩, k0_pay10 v19 v20 v21 v22 v23 v24 v25 v26 v29 v37⟩,
      ⟨⟨(⟨![0, 0], S256x128.size, ![8, 1], inb_S2048x128_S256x128_0_0_s_8_1⟩ : LoadRect S2048x128), spos_8_1⟩, k0_pay9 v19 v20 v21 v22 v23 v24 v25 v26 v29 v37⟩]) = lines (k0_pay8 v19 v20 v21 v22 v23 v24 v25 v26 v29 v37) := by
  rw [k0_pay9_part, k0_pay10_part, k0_pay11_part, k0_pay12_part, k0_pay3_part, k0_pay4_part, k0_pay5_part, k0_pay6_part]
  exact stores8 v f _

set_option maxHeartbeats 1000000 in
/-- A tile in use whose expert is another than the step before had. -/
theorem step_fresh (c : Dev nD) (i : grid0.Coords) (arg3 : Memref sig .tc .vmem S2048x128 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S2048x128 .f32) (harg6 : arg6.IsWhole) (arg7 : Memref sig .tc .vmem S1024x512 .bf16) (harg7 : arg7.IsWhole) (arg8 : Memref sig .tc .vmem S256x1024 .bf16) (harg8 : arg8.IsWhole)
    (x0 : Vec F S2048x128 .f32) (x1 : Vec F S1x1024x512 .f32) (x2 : Vec F S1x256x1024 .f32) (s0 : Vec F S1024x512 .bf16) (s1 : Vec F S256x1024 .bf16)
    (xt0 : TbBuf0 (F := F) c tbM0_0) (xt1 : TbBuf0 (F := F) c tbM0_1) (h1 : freshBit i (usedWord c xt1) (thisWord c i xt0) (lastWord c i xt0) = 1#1) (h2 : k0_cond2 i (usedWord c xt1) = 1#1) (h3 : ¬k0_cond3 i (usedWord c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (lines (tile x0 (k0_pay1 x1) (k0_pay2 x2))) ∗ owns (c : Thread nD τ) arg7 fullShare (k0_pay1 x1) ∗ owns (c : Thread nD τ) arg8 fullShare (k0_pay2 x2) ∗ tbPt0 c tbM0_0 xt0 ∗ tbPt0 c tbM0_1 xt1) -∗ K ⟨⟩))
      ⊢ wp frame (wpE (defs₀ (F := F)) Variants.none c none) E (cc0_expert_mlp i tbM0_0 htbM0_0 tbM0_1 htbM0_1 arg3 harg3 arg4 harg4 arg5 harg5 arg6 harg6 arg7 harg7 arg8 harg8) K := by
  simp only [cc0_expert_mlp_eq_skeleton]; unfold cc0_expert_mlp_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact (stores_tile _ _ _ _ _ _ _ _ _ _ _ _).trans (congrArg lines (tile_of harg3 x0 _ _ _ _ ((reload2 arg7.view _ _ _ _).trans (congrArg k0_pay1 (load3 harg4 x1 _))) ((reload2 arg8.view _ _ _ _).trans (congrArg k0_pay2 (load3 harg5 x2 _)))))
  isplitl [HS0]
  · iexists _; isplitr; swap; · iexact HS0
    ipureintro
    exact (store2 _ _ _ _).trans (congrArg k0_pay1 (load3 harg4 x1 _))
  isplitl [HS1]
  · iexists _; isplitr; swap; · iexact HS1
    ipureintro
    exact (store2 _ _ _ _).trans (congrArg k0_pay2 (load3 harg5 x2 _))
  isplitl [HT0]; · iexact HT0
  iexact HT1

set_option maxHeartbeats 1000000 in
/-- A tile in use whose expert is that of the step before. -/
theorem step_same (c : Dev nD) (i : grid0.Coords) (arg3 : Memref sig .tc .vmem S2048x128 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S2048x128 .f32) (harg6 : arg6.IsWhole) (arg7 : Memref sig .tc .vmem S1024x512 .bf16) (harg7 : arg7.IsWhole) (arg8 : Memref sig .tc .vmem S256x1024 .bf16) (harg8 : arg8.IsWhole)
    (x0 : Vec F S2048x128 .f32) (x1 : Vec F S1x1024x512 .f32) (x2 : Vec F S1x256x1024 .f32) (s0 : Vec F S1024x512 .bf16) (s1 : Vec F S256x1024 .bf16)
    (xt0 : TbBuf0 (F := F) c tbM0_0) (xt1 : TbBuf0 (F := F) c tbM0_1) (h1 : ¬freshBit i (usedWord c xt1) (thisWord c i xt0) (lastWord c i xt0) = 1#1) (h2 : k0_cond2 i (usedWord c xt1) = 1#1) (h3 : ¬k0_cond3 i (usedWord c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (lines (tile x0 s0 s1)) ∗ owns (c : Thread nD τ) arg7 fullShare s0 ∗ owns (c : Thread nD τ) arg8 fullShare s1 ∗ tbPt0 c tbM0_0 xt0 ∗ tbPt0 c tbM0_1 xt1) -∗ K ⟨⟩))
      ⊢ wp frame (wpE (defs₀ (F := F)) Variants.none c none) E (cc0_expert_mlp i tbM0_0 htbM0_0 tbM0_1 htbM0_1 arg3 harg3 arg4 harg4 arg5 harg5 arg6 harg6 arg7 harg7 arg8 harg8) K := by
  simp only [cc0_expert_mlp_eq_skeleton]; unfold cc0_expert_mlp_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact (stores_tile _ _ _ _ _ _ _ _ _ _ _ _).trans (congrArg lines (tile_of harg3 x0 _ _ _ _ (load2 harg7 s0 _) (load2 harg8 s1 _)))
  isplitl [HS0]
  · iexists _; isplitr; · ipureintro; exact harg7.read_unread _
    iexact HS0
  isplitl [HS1]
  · iexists _; isplitr; · ipureintro; exact harg8.read_unread _
    iexact HS1
  isplitl [HT0]; · iexact HT0
  iexact HT1

set_option maxHeartbeats 1000000 in
/-- A tile not in use: its block is zeroed. -/
theorem step_idle (c : Dev nD) (i : grid0.Coords) (arg3 : Memref sig .tc .vmem S2048x128 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S2048x128 .f32) (harg6 : arg6.IsWhole) (arg7 : Memref sig .tc .vmem S1024x512 .bf16) (harg7 : arg7.IsWhole) (arg8 : Memref sig .tc .vmem S256x1024 .bf16) (harg8 : arg8.IsWhole)
    (x0 : Vec F S2048x128 .f32) (x1 : Vec F S1x1024x512 .f32) (x2 : Vec F S1x256x1024 .f32) (s0 : Vec F S1024x512 .bf16) (s1 : Vec F S256x1024 .bf16)
    (xt0 : TbBuf0 (F := F) c tbM0_0) (xt1 : TbBuf0 (F := F) c tbM0_1) (h1 : ¬freshBit i (usedWord c xt1) (thisWord c i xt0) (lastWord c i xt0) = 1#1) (h2 : ¬k0_cond2 i (usedWord c xt1) = 1#1) (h3 : k0_cond3 i (usedWord c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (k0_pay7 (F := F)) ∗ owns (c : Thread nD τ) arg7 fullShare s0 ∗ owns (c : Thread nD τ) arg8 fullShare s1 ∗ tbPt0 c tbM0_0 xt0 ∗ tbPt0 c tbM0_1 xt1) -∗ K ⟨⟩))
      ⊢ wp frame (wpE (defs₀ (F := F)) Variants.none c none) E (cc0_expert_mlp i tbM0_0 htbM0_0 tbM0_1 htbM0_1 arg3 harg3 arg4 harg4 arg5 harg5 arg6 harg6 arg7 harg7 arg8 harg8) K := by
  simp only [cc0_expert_mlp_eq_skeleton]; unfold cc0_expert_mlp_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact store2 _ _ _ _
  isplitl [HS0]
  · iexists _; isplitr; · ipureintro; exact harg7.read_unread _
    iexact HS0
  isplitl [HS1]
  · iexists _; isplitr; · ipureintro; exact harg8.read_unread _
    iexact HS1
  isplitl [HT0]; · iexact HT0
  iexact HT1

end Cert.Kernel2Ideal.Exp

end
-- ==== Proof.ExpWords.lean ====
/-
  THE WORDS A STEP READS: the number of tiles in use and a tile's expert, and the conditions a step computes of them, in plain terms.
-/
module

public import proofs.«01_k».proof.Proof.ExpStep

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem i0_val (t : Fin grid0.N) : (grid0.coords t 0).val = t.val := by
  have ht : t.val < 160 := lt_of_lt_of_eq t.isLt N_0
  rw [show (grid0.coords t 0).val = t.val / 1 % 160 from Pipeline.Grid.coords_val t 0 (by decide) rfl]
  omega

theorem toInt_small {n : ℕ} (h : n < 160) : (BitVec.ofNat 32 n).toInt = (n : ℤ) := WordCmp.toInt_ofNat_of_lt (by omega)

/-- A step finds its tile in use when its number is below the number of tiles in use; -/
theorem cond2_iff (t : Fin grid0.N) (u : BitVec 32) : k0_cond2 (grid0.coords t) u = 1#1 ↔ (t.val : ℤ) < u.toInt := by
  have ht : t.val < 160 := lt_of_lt_of_eq t.isLt N_0
  rw [← toInt_small ht, ← i0_val t]
  unfold k0_cond2
  dsimp only
  rw [show Scalar.cmpi .slt (BitVec.ofNat 32 (grid0.coords t 0).val) u
    = BitVec.ofBool (decide ((BitVec.ofNat 32 (grid0.coords t 0).val).toInt < u.toInt)) from rfl]
  by_cases hlt : (BitVec.ofNat 32 (grid0.coords t 0).val).toInt < u.toInt
  · rw [decide_eq_true hlt]; exact ⟨fun _ => hlt, fun _ => by decide⟩
  · rw [decide_eq_false hlt]; exact ⟨fun hh => absurd hh (by decide), fun hh => absurd hh hlt⟩

/-- and zeroes its block when it is not. -/
theorem cond3_iff (t : Fin grid0.N) (u : BitVec 32) : k0_cond3 (grid0.coords t) u = 1#1 ↔ ¬(t.val : ℤ) < u.toInt := by
  have ht : t.val < 160 := lt_of_lt_of_eq t.isLt N_0
  rw [← toInt_small ht, ← i0_val t]
  unfold k0_cond3
  dsimp only
  rw [show Scalar.cmpi .slt (BitVec.ofNat 32 (grid0.coords t 0).val) u
    = BitVec.ofBool (decide ((BitVec.ofNat 32 (grid0.coords t 0).val).toInt < u.toInt)) from rfl]
  by_cases hlt : (BitVec.ofNat 32 (grid0.coords t 0).val).toInt < u.toInt
  · rw [decide_eq_true hlt]; exact ⟨fun hh => absurd hh (by decide), fun hh => absurd hlt hh⟩
  · rw [decide_eq_false hlt]; exact ⟨fun _ => hlt, fun _ => by decide⟩

/-- The weights are read afresh for a tile in use that is the first, or whose expert is another than the tile before had. -/
theorem fresh_iff (t : Fin grid0.N) (u e e' : BitVec 32) :
    freshBit (grid0.coords t) u e e' = 1#1 ↔ (t.val : ℤ) < u.toInt ∧ (t.val = 0 ∨ e ≠ e') := by
  have ht : t.val < 160 := lt_of_lt_of_eq t.isLt N_0
  rw [← toInt_small ht]
  unfold freshBit
  rw [i0_val t]
  rw [show Scalar.cmpi .slt (BitVec.ofNat 32 t.val) u = BitVec.ofBool (decide ((BitVec.ofNat 32 t.val).toInt < u.toInt)) from rfl,
    show Scalar.cmpi .eq (BitVec.ofNat 32 t.val) 0#32 = BitVec.ofBool (decide (t.val = 0)) from by
      rw [show (0#32 : BitVec 32) = BitVec.ofNat 32 0 from rfl]
      exact WordCmp.cmpi_eq_ofNat (by omega) (by omega),
    show Scalar.cmpi .ne e e' = BitVec.ofBool (decide (e ≠ e')) from WordCmp.cmpi_ne_eq e e']
  by_cases hp : (BitVec.ofNat 32 t.val).toInt < u.toInt
  · rw [decide_eq_true hp]
    by_cases hq : t.val = 0
    · rw [decide_eq_true hq]
      refine ⟨fun _ => ⟨hp, .inl hq⟩, fun _ => ?_⟩
      cases decide (e ≠ e') <;> decide
    · rw [decide_eq_false hq]
      by_cases hr : e ≠ e'
      · rw [decide_eq_true hr]; exact ⟨fun _ => ⟨hp, .inr hr⟩, fun _ => by decide⟩
      · rw [decide_eq_false hr]; exact ⟨fun hh => absurd hh (by decide), fun hh => (hh.2.elim hq hr).elim⟩
  · rw [decide_eq_false hp]
    refine ⟨fun hh => absurd hh ?_, fun hh => absurd hh.1 hp⟩
    cases decide (t.val = 0) <;> cases decide (e ≠ e') <;> decide

variable {F : FTy → Type} [FloatOps F]
variable (m : (ℓ : Loc nD τ sig) → Buf (Elt F) ℓ)

/-- The number of tiles in use. -/
def used : BitVec 32 := tbl m 1 (ix1 (0 : Fin 1))

/-- Tile `t`'s expert. -/
def expert (t : Fin 160) : BitVec 32 := tbl m 0 (ix1 t)

theorem usedWord_eq (c : Dev nD) : usedWord (F := F) c (tbl m 1) = used m :=
  congrArg (tbl m 1) (funext fun a => Fin.ext (by
    match a with
    | ⟨0, _⟩ => rfl))

theorem thisWord_eq (c : Dev nD) (t : Fin grid0.N) : thisWord (F := F) c (grid0.coords t) (tbl m 0) = expert m ⟨t.val, lt_of_lt_of_eq t.isLt N_0⟩ :=
  congrArg (tbl m 0) (funext fun a => Fin.ext (by
    match a with
    | ⟨0, _⟩ =>
      show k0_off1 (grid0.coords t) 0 + 1 * 0 = t.val
      have ht : t.val < 160 := lt_of_lt_of_eq t.isLt N_0
      show (BitVec.ofNat 32 (grid0.coords t 0).val).toNat + 1 * 0 = t.val
      rw [i0_val, WordCmp.toNat_ofNat_of_lt (by omega)]
      omega))

theorem lastWord_eq (c : Dev nD) (t : Fin grid0.N) (h : t.val ≠ 0) :
    lastWord (F := F) c (grid0.coords t) (tbl m 0) = expert m ⟨t.val - 1, by have := lt_of_lt_of_eq t.isLt N_0; omega⟩ :=
  congrArg (tbl m 0) (funext fun a => Fin.ext (by
    match a with
    | ⟨0, _⟩ =>
      show k0_off2 (grid0.coords t) 0 + 1 * 0 = t.val - 1
      have ht : t.val < 160 := lt_of_lt_of_eq t.isLt N_0
      show (Scalar.maxsi (Scalar.subi (BitVec.ofNat 32 (grid0.coords t 0).val) 1#32) 0#32).toNat + 1 * 0 = t.val - 1
      rw [i0_val]
      obtain ⟨n, hn⟩ : ∃ n : Fin 160, n.val = t.val := ⟨⟨t.val, ht⟩, rfl⟩
      rw [← hn]
      rw [← hn] at h
      clear hn ht
      revert n
      decide))

end Cert.Kernel2Ideal.Exp

end
-- ==== Proof.ExpInputs.lean ====
/-
  THE EXPERTS' CALL: which rows and which weights a step is handed.
-/
module

public import proofs.«01_k».proof.Proof.ExpWords

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- A step as one of the 160 tiles. -/
abbrev tileOf (hO : Ok m) (t : Fin (cfgM m hO).N) : Fin 160 := ⟨t.val, lt_of_lt_of_eq t.isLt N_0⟩

/-- The index maps of the weights read the tile's expert; -/
theorem transform1_eq (t : Fin grid0.N) :
    cc0_transform_1 Facts₀.k0_off1_inb Facts₀.numel1_S1 (tbl m) (grid0.coords t) = ![(expert m ⟨t.val, lt_of_lt_of_eq t.isLt N_0⟩).toNat, 0, 0] :=
  congrArg (fun x : BitVec 32 => (![x.toNat, 0, 0] : Fin 3 → ℕ)) (congrArg (tbl m 0) (funext fun a => Fin.ext (by
    match a with
    | ⟨0, _⟩ =>
      have ht : t.val < 160 := lt_of_lt_of_eq t.isLt N_0
      show (BitVec.ofNat 32 (grid0.coords t 0).val).toNat + 1 * 0 = t.val
      rw [i0_val, WordCmp.toNat_ofNat_of_lt (by omega)]
      omega)))

theorem transform2_eq (t : Fin grid0.N) :
    cc0_transform_2 Facts₀.k0_off1_inb Facts₀.numel1_S1 (tbl m) (grid0.coords t) = ![(expert m ⟨t.val, lt_of_lt_of_eq t.isLt N_0⟩).toNat, 0, 0] :=
  transform1_eq m t

/-- that of the rows reads the last tile in use, if the tile is beyond it, -/
theorem transform0_eq (t : Fin grid0.N) :
    cc0_transform_0 Facts₀.inb_S1_S1_0 Facts₀.numel1_S1 (tbl m) (grid0.coords t) = ![(Scalar.minsi (BitVec.ofNat 32 t.val) (Scalar.subi (used m) 1#32)).toNat, 0] := by
  have hw : (tbl m).at 1 (Rect.unit (s := S1) ![0] S1.size Facts₀.inb_S1_S1_0) Facts₀.numel1_S1 = used m :=
    congrArg (tbl m 1) (funext fun a => Fin.ext (by
      match a with
      | ⟨0, _⟩ => rfl))
  show (![(Scalar.minsi (BitVec.ofNat 32 (grid0.coords t 0).val) (Scalar.subi ((tbl m).at 1 (Rect.unit (s := S1) ![0] S1.size Facts₀.inb_S1_S1_0) Facts₀.numel1_S1) 1#32)).toNat, 0] : Fin 2 → ℕ) = _
  rw [hw, i0_val]

/-- and is the tile itself if it is in use. -/
theorem transform0_used (t : Fin grid0.N) (h : (t.val : ℤ) < (used m).toInt) :
    cc0_transform_0 Facts₀.inb_S1_S1_0 Facts₀.numel1_S1 (tbl m) (grid0.coords t) = ![t.val, 0] := by
  have ht : t.val < 160 := lt_of_lt_of_eq t.isLt N_0
  rw [transform0_eq]
  have hi := toInt_small ht
  have hmin : Scalar.minsi (BitVec.ofNat 32 t.val) (Scalar.subi (used m) 1#32) = BitVec.ofNat 32 t.val := by
    have hm := BitVec.toInt_lt (x := used m)
    have hs : (used m - 1#32).toInt = (used m).toInt - 1 := by
      rw [BitVec.toInt_sub, show (1#32).toInt = 1 from rfl]
      rw [Int.bmod_eq_of_le (by omega) (by omega)]
    show (if (BitVec.ofNat 32 t.val).slt (used m - 1#32) then BitVec.ofNat 32 t.val else used m - 1#32) = BitVec.ofNat 32 t.val
    split
    · rfl
    · rename_i hlt
      refine (BitVec.eq_of_toInt_eq ?_).symm
      have hge : ¬(BitVec.ofNat 32 t.val).toInt < (used m - 1#32).toInt := fun h => hlt (by rw [BitVec.slt]; exact decide_eq_true h)
      omega
  rw [hmin, WordCmp.toNat_ofNat_of_lt (by omega)]

/-- An expert a step asks for is one there is. -/
theorem expert_lt (hO : Ok m) (t : Fin 160) : (expert m t).toNat < 32 := by
  obtain ⟨h, _⟩ := hO.2.1 (grid0.coords ⟨t.val, lt_of_lt_of_eq t.isLt N_0.symm⟩)
  have h0 := h 0
  rw [transform1_eq m ⟨t.val, lt_of_lt_of_eq t.isLt N_0.symm⟩] at h0
  have h1 : ((expert m t).toNat + 1) * 1 ≤ 32 := h0
  omega

variable (hO : Ok m) (c : Dev nD)

/-- The first weights of step `t` are its expert's, -/
theorem iblk1_apply (t : Fin (cfgM m hO).N) (j0 : Fin 1) (j1 : Fin 1024) (j2 : Fin 512) :
    iblk m hO c 1 t (ix3 j0 j1 j2 : S1x1024x512.Idx) = V m c main_v0 (ix3 ⟨(expert m (tileOf m hO t)).toNat, expert_lt m hO _⟩ j1 j2 : S32x1024x512.Idx) :=
  congrArg (V m c main_v0) (funext fun a => Fin.ext (by
    have ht := transform1_eq m t
    match a with
    | ⟨0, _⟩ =>
      show cc0_transform_1 Facts₀.k0_off1_inb Facts₀.numel1_S1 (tbl m) (grid0.coords t) 0 * 1 + 1 * j0.val = _
      rw [ht]
      show (expert m (tileOf m hO t)).toNat * 1 + 1 * j0.val = (expert m (tileOf m hO t)).toNat
      omega
    | ⟨1, _⟩ =>
      show cc0_transform_1 Facts₀.k0_off1_inb Facts₀.numel1_S1 (tbl m) (grid0.coords t) 1 * 1024 + 1 * j1.val = _
      rw [ht]
      show 0 * 1024 + 1 * j1.val = j1.val
      omega
    | ⟨2, _⟩ =>
      show cc0_transform_1 Facts₀.k0_off1_inb Facts₀.numel1_S1 (tbl m) (grid0.coords t) 2 * 512 + 1 * j2.val = _
      rw [ht]
      show 0 * 512 + 1 * j2.val = j2.val
      omega))

/-- so are the second, -/
theorem iblk2_apply (t : Fin (cfgM m hO).N) (j0 : Fin 1) (j1 : Fin 256) (j2 : Fin 1024) :
    iblk m hO c 2 t (ix3 j0 j1 j2 : S1x256x1024.Idx) = V m c main_v1 (ix3 ⟨(expert m (tileOf m hO t)).toNat, expert_lt m hO _⟩ j1 j2 : S32x256x1024.Idx) :=
  congrArg (V m c main_v1) (funext fun a => Fin.ext (by
    have ht := transform2_eq m t
    match a with
    | ⟨0, _⟩ =>
      show cc0_transform_2 Facts₀.k0_off1_inb Facts₀.numel1_S1 (tbl m) (grid0.coords t) 0 * 1 + 1 * j0.val = _
      rw [ht]
      show (expert m (tileOf m hO t)).toNat * 1 + 1 * j0.val = (expert m (tileOf m hO t)).toNat
      omega
    | ⟨1, _⟩ =>
      show cc0_transform_2 Facts₀.k0_off1_inb Facts₀.numel1_S1 (tbl m) (grid0.coords t) 1 * 256 + 1 * j1.val = _
      rw [ht]
      show 0 * 256 + 1 * j1.val = j1.val
      omega
    | ⟨2, _⟩ =>
      show cc0_transform_2 Facts₀.k0_off1_inb Facts₀.numel1_S1 (tbl m) (grid0.coords t) 2 * 1024 + 1 * j2.val = _
      rw [ht]
      show 0 * 1024 + 1 * j2.val = j2.val
      omega))

/-- and the rows of a tile in use are the tile's own. -/
theorem iblk0_apply (t : Fin (cfgM m hO).N) (h : (t.val : ℤ) < (used m).toInt) (j0 : Fin 2048) (j1 : Fin 128) :
    iblk m hO c 0 t (ix2 j0 j1 : S2048x128.Idx) = V m c main_arg2 (ix2 ⟨t.val * 2048 + j0.val, by have := lt_of_lt_of_eq t.isLt N_0; omega⟩ j1 : S327680x128.Idx) :=
  congrArg (V m c main_arg2) (funext fun a => Fin.ext (by
    have ht := transform0_used m t h
    match a with
    | ⟨0, _⟩ =>
      show cc0_transform_0 Facts₀.inb_S1_S1_0 Facts₀.numel1_S1 (tbl m) (grid0.coords t) 0 * 2048 + 1 * j0.val = _
      rw [ht]
      show t.val * 2048 + 1 * j0.val = t.val * 2048 + j0.val
      omega
    | ⟨1, _⟩ =>
      show cc0_transform_0 Facts₀.inb_S1_S1_0 Facts₀.numel1_S1 (tbl m) (grid0.coords t) 1 * 128 + 1 * j1.val = _
      rw [ht]
      show 0 * 128 + 1 * j1.val = j1.val
      omega))

/-- Two tiles of one expert are handed the same first weights, -/
theorem iblk1_congr (s t : Fin (cfgM m hO).N) (h : expert m (tileOf m hO s) = expert m (tileOf m hO t)) : iblk m hO c 1 s = iblk m hO c 1 t :=
  funext fun j => by
    have e := eq_ix3 (n0 := 1) (n1 := 1024) (n2 := 512) j
    exact (congrArg (iblk m hO c 1 s) e).trans ((iblk1_apply m hO c s _ _ _).trans
      ((congrArg (fun x : S32x1024x512.Idx => V m c main_v0 x) (congrArg (fun q : Fin 32 => (ix3 q _ _ : S32x1024x512.Idx)) (Fin.ext (congrArg BitVec.toNat h)))).trans
        ((iblk1_apply m hO c t _ _ _).symm.trans (congrArg (iblk m hO c 1 t) e.symm))))

/-- and the same second ones. -/
theorem iblk2_congr (s t : Fin (cfgM m hO).N) (h : expert m (tileOf m hO s) = expert m (tileOf m hO t)) : iblk m hO c 2 s = iblk m hO c 2 t :=
  funext fun j => by
    have e := eq_ix3 (n0 := 1) (n1 := 256) (n2 := 1024) j
    exact (congrArg (iblk m hO c 2 s) e).trans ((iblk2_apply m hO c s _ _ _).trans
      ((congrArg (fun x : S32x256x1024.Idx => V m c main_v1 x) (congrArg (fun q : Fin 32 => (ix3 q _ _ : S32x256x1024.Idx)) (Fin.ext (congrArg BitVec.toNat h)))).trans
        ((iblk2_apply m hO c t _ _ _).symm.trans (congrArg (iblk m hO c 2 t) e.symm))))

end Cert.Kernel2Ideal.Exp

end
-- ==== Proof.ExpPlan.lean ====
/-
  WHAT THE PRECONDITION SAYS of the tile plan: every tile's expert is one of the 32, and at least one tile is in use. So every block
  a step asks for lies inside its array.
-/
module

public import proofs.«01_k».proof.Proof.ExpInputs
public import proofs.«01_k».proof.Pre_plan_valid
public import Idealize.ShloMosaic.Lib.ReduceAll

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem sge_read {x y : BitVec 32} (h : IntOp.cmpi .sge x y = 1#1) : y.toInt ≤ x.toInt := by
  have h' : BitVec.ofBool (y.sle x) = 1#1 := h
  have : y.sle x = true := by
    cases hb : y.sle x
    · rw [hb] at h'; exact absurd h' (by decide)
    · rfl
  rw [BitVec.sle] at this
  exact of_decide_eq_true this

theorem slt_read {x y : BitVec 32} (h : IntOp.cmpi .slt x y = 1#1) : x.toInt < y.toInt := by
  have h' : BitVec.ofBool (x.slt y) = 1#1 := h
  have : x.slt y = true := by
    cases hb : x.slt y
    · rw [hb] at h'; exact absurd h' (by decide)
    · rfl
  rw [BitVec.slt] at this
  exact of_decide_eq_true this

theorem toNat_of_range {x : BitVec 32} {n : ℕ} (h0 : 0 ≤ x.toInt) (h1 : x.toInt < (n : ℤ)) : x.toNat < n := by
  have hx := x.isLt
  rw [BitVec.toInt_eq_toNat_cond] at h0 h1
  split at h0 <;> split at h1 <;> omega

/-- The precondition, read. -/
theorem plan_read [Cert.Pre_plan_valid.Facts] (te : IVec S160 32) (nu : IVec S1 32) (x : FVec F S327680x128 .f32) (a : FVec F S4x8x1024x512 .f32)
    (b : FVec F S4x8x256x1024 .f32) (h : Cert.Pre_plan_valid.fn (F := F) te nu x a b = fun _ => 1#1) :
    (∀ t : Fin 160, (te (ix1 t)).toNat < 32) ∧ 1 ≤ (nu (ix1 0)).toInt := by
  obtain ⟨hx, hk⟩ := IntOp.andi_eq_one.1 (congrFun h ValueIdx.ix0)
  haveI : Subsingleton Cert.Pre_plan_valid.S_.Idx := ⟨fun a b => funext fun d => d.elim0⟩
  refine ⟨fun t => ?_, ?_⟩
  · obtain ⟨h0, h1⟩ := IntOp.andi_eq_one.1 (Host.reduce_andi_all _ _ _ _ ValueIdx.ix0 hx (ix1 t))
    exact toNat_of_range (sge_read h0) (slt_read h1)
  · exact sge_read (Host.reduce_andi_all _ _ _ _ ValueIdx.ix0 hk (ix1 0))

variable (m : (ℓ : Loc nD τ sig) → Buf (Elt F) ℓ)

/-- The row of tiles a step asks for is one there is. -/
theorem row_lt {t : ℕ} (ht : t < 160) {u : BitVec 32} (hu : 1 ≤ u.toInt) : (Scalar.minsi (BitVec.ofNat 32 t) (Scalar.subi u 1#32)).toNat < 160 := by
  have hi := toInt_small ht
  have hm := BitVec.toInt_lt (x := u)
  have hs : (u - 1#32).toInt = u.toInt - 1 := by
    rw [BitVec.toInt_sub, show (1#32).toInt = 1 from rfl]
    rw [Int.bmod_eq_of_le (by omega) (by omega)]
  show (if (BitVec.ofNat 32 t).slt (u - 1#32) then BitVec.ofNat 32 t else u - 1#32).toNat < 160
  split
  · rw [WordCmp.toNat_ofNat_of_lt (by omega)]
    exact ht
  · rename_i hlt
    have hge : ¬(BitVec.ofNat 32 t).toInt < (u - 1#32).toInt := fun h => hlt (by rw [BitVec.slt]; exact decide_eq_true h)
    exact toNat_of_range (by omega) (by push_cast; omega)

theorem coords_of (i : grid0.Coords) : ∃ t : Fin grid0.N, grid0.coords t = i := by
  have hi : (i 0).val < 160 := (i 0).isLt
  refine ⟨⟨(i 0).val, lt_of_lt_of_eq hi N_0.symm⟩, funext fun a => Fin.ext ?_⟩
  match a with
  | ⟨0, _⟩ => exact i0_val ⟨(i 0).val, lt_of_lt_of_eq hi N_0.symm⟩

/-- A plan the precondition admits keeps every block inside its array. -/
theorem ok_of_words (he : ∀ t : Fin 160, (expert m t).toNat < 32) (hu : 1 ≤ (used m).toInt) : Ok m := by
  refine ⟨fun i => ?_, fun i => ?_, fun i => ?_⟩
  · obtain ⟨t, rfl⟩ := coords_of i
    refine ⟨fun a => ?_, Or.inl rfl⟩
    rw [transform0_eq]
    have h := row_lt (lt_of_lt_of_eq t.isLt N_0) hu
    match a with
    | ⟨0, _⟩ =>
      show ((Scalar.minsi (BitVec.ofNat 32 t.val) (Scalar.subi (used m) 1#32)).toNat + 1) * 2048 ≤ 327680
      omega
    | ⟨1, _⟩ => exact le_refl 128
  · obtain ⟨t, rfl⟩ := coords_of i
    refine ⟨fun a => ?_, Or.inl rfl⟩
    rw [transform1_eq]
    have h := he ⟨t.val, lt_of_lt_of_eq t.isLt N_0⟩
    match a with
    | ⟨0, _⟩ =>
      show ((expert m ⟨t.val, lt_of_lt_of_eq t.isLt N_0⟩).toNat + 1) * 1 ≤ 32
      omega
    | ⟨1, _⟩ => exact le_refl 1024
    | ⟨2, _⟩ => exact le_refl 512
  · obtain ⟨t, rfl⟩ := coords_of i
    refine ⟨fun a => ?_, Or.inl rfl⟩
    rw [transform2_eq]
    have h := he ⟨t.val, lt_of_lt_of_eq t.isLt N_0⟩
    match a with
    | ⟨0, _⟩ =>
      show ((expert m ⟨t.val, lt_of_lt_of_eq t.isLt N_0⟩).toNat + 1) * 1 ≤ 32
      omega
    | ⟨1, _⟩ => exact le_refl 256
    | ⟨2, _⟩ => exact le_refl 1024

theorem expert_arg (t : Fin 160) : expert m t = m (((0 : Dev nD).tc : Thread nD τ).loc main_arg0) (ix1 t : S160.Idx) :=
  congrFun (V_main_arg0 m 0) (ix1 t)

theorem used_arg : used m = m (((0 : Dev nD).tc : Thread nD τ).loc main_arg1) (ix1 0 : S1.Idx) :=
  congrFun (V_main_arg1 m 0) (ix1 0)

/-- So the precondition on the arguments does. -/
theorem ok_of_pre [Cert.Pre_plan_valid.Facts]
    (h : ∀ c : Dev nD, Cert.Pre_plan_valid.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) : Ok m := by
  obtain ⟨he, hu⟩ := plan_read _ _ _ _ _ (h 0)
  exact ok_of_words m (fun t => by rw [expert_arg]; exact he t) (by rw [used_arg]; exact hu)

end Cert.Kernel2Ideal.Exp

end
-- ==== Proof.ExpFrame.lean ====
/-
  THE EXPERTS' CALL, RUN: whatever the memory, every step leaves its tile of rows, and the scratch buffers hold the weights of the
  last tile in use. Written once over any values.
-/
module

public import proofs.«01_k».proof.Proof.ExpInputs

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first weights a step works with, -/
def wts (hO : Ok m) (c : Dev nD) (t : Fin (cfgM m hO).N) : Vec F S1024x512 .bf16 := k0_pay1 (iblk m hO c 1 t)
/-- and the second. -/
def wts' (hO : Ok m) (c : Dev nD) (t : Fin (cfgM m hO).N) : Vec F S256x1024 .bf16 := k0_pay2 (iblk m hO c 2 t)

/-- What a step leaves in its block: the tile's rows, or zeros. -/
def blockOut (hO : Ok m) (c : Dev nD) (t : Fin (cfgM m hO).N) : Vec F S2048x128 .f32 :=
  if (t.val : ℤ) < (used m).toInt then lines (tile (iblk m hO c 0 t) (wts m hO c t) (wts' m hO c t)) else k0_pay7

/-- Before step `t` the scratch buffers hold the weights of the step before, if its tile was in use. -/
def carried (hO : Ok m) (c : Dev nD) (t : Fin ((cfgM m hO).N + 1)) : sProp 𝕄 :=
  iprop(iprop(iprop((∃ d, iprop(⌜∀ s : Fin (cfgM m hO).N, s.val + 1 = t.val → (s.val : ℤ) < (used m).toInt → d = wts m hO c s⌝) ∗ owns (c : Thread nD τ) scM0_0 fullShare d)
    ∗ (∃ d, iprop(⌜∀ s : Fin (cfgM m hO).N, s.val + 1 = t.val → (s.val : ℤ) < (used m).toInt → d = wts' m hO c s⌝) ∗ owns (c : Thread nD τ) scM0_1 fullShare d))
    ∗ (∃ r, prngReg c r)) ∗ iprop(tbPt0 c tbM0_0 (tbl m 0) ∗ tbPt0 c tbM0_1 (tbl m 1)))

/-- The proof data: each input's buffer at its block, the output's at what the step leaves, the scratch carried. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => blockOut m hO c t
  Φ t := carried m hO c t
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = blockOut m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- Two tiles of the same expert have the same first weights, -/
theorem wts_congr (hO : Ok m) (c : Dev nD) (s t : Fin (cfgM m hO).N) (h : expert m (tileOf m hO s) = expert m (tileOf m hO t)) :
    wts m hO c s = wts m hO c t :=
  congrArg k0_pay1 (iblk1_congr m hO c s t h)

/-- and the same second ones. -/
theorem wts'_congr (hO : Ok m) (c : Dev nD) (s t : Fin (cfgM m hO).N) (h : expert m (tileOf m hO s) = expert m (tileOf m hO t)) :
    wts' m hO c s = wts' m hO c t :=
  congrArg k0_pay2 (iblk2_congr m hO c s t h)

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
/-- The body at any step. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl, after0_0, after0_1, after0_2, after0_3]
  rw [show (dats m hO 0 c).Φ t.castSucc = carried m hO c t.castSucc from rfl, show (dats m hO 0 c).Φ t.succ = carried m hO c t.succ from rfl]
  unfold carried
  have hN : t.val < 160 := lt_of_lt_of_eq t.isLt (show (cfgM m hO).N = 160 from N_0)
  have hu := usedWord_eq m c
  by_cases hused : (t.val : ℤ) < (used m).toInt
  · have h2 : k0_cond2 (grid0.coords t) (usedWord (F := F) c (tbl m 1)) = 1#1 := by rw [hu]; exact (cond2_iff t _).mpr hused
    have h3 : ¬k0_cond3 (grid0.coords t) (usedWord (F := F) c (tbl m 1)) = 1#1 := by rw [hu]; exact fun h => (cond3_iff t _).mp h hused
    rw [show blockOut m hO c t = lines (tile (iblk m hO c 0 t) (wts m hO c t) (wts' m hO c t)) from if_pos hused]
    by_cases hf : freshBit (grid0.coords t) (usedWord (F := F) c (tbl m 1)) (thisWord c (grid0.coords t) (tbl m 0)) (lastWord c (grid0.coords t) (tbl m 0)) = 1#1
    · iintro ⟨⟨⟨⟨⟨%e0, %he0, HS0⟩, ⟨%e1, %he1, HS1⟩⟩, Hg⟩, ⟨HT0, HT1⟩⟩, Ho, ⟨%d0, H0⟩, ⟨%d1, H1⟩, ⟨%d2, H2⟩, ⟨%d3, H3⟩⟩
      iapply (step_fresh c (grid0.coords t) _ _ _ _ _ _ _ _ _ _ _ _ (iblk m hO c 0 t) (iblk m hO c 1 t) (iblk m hO c 2 t) e0 e1 (tbl m 0) (tbl m 1)
        hf h2 h3 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, H3, HS0, HS1, HT0, HT1⟩
      isplitl [HS0 HS1 Hg HT0 HT1]
      · isplitl [HS0 HS1 Hg]
        · isplitl [HS0 HS1]
          · isplitl [HS0]
            · iexists _
              isplitr; swap; · iexact HS0
              ipureintro
              exact fun s hs _ => congrArg (wts m hO c) (Fin.ext (by have : s.val + 1 = t.val + 1 := hs; omega))
            iexists _
            isplitr; swap; · iexact HS1
            ipureintro
            exact fun s hs _ => congrArg (wts' m hO c) (Fin.ext (by have : s.val + 1 = t.val + 1 := hs; omega))
          iexact Hg
        isplitl [HT0]; · iexact HT0
        iexact HT1
      isplitl [Ho]; · iexact Ho
      isplitl [H0]; · iexact H0
      isplitl [H1]; · iexact H1
      isplitl [H2]; · iexact H2
      iexact H3
    · have hs : t.val ≠ 0 ∧ expert m ⟨t.val - 1, by omega⟩ = expert m ⟨t.val, hN⟩ := by
        rw [fresh_iff, hu] at hf
        have h0 : t.val ≠ 0 := fun h => hf ⟨hused, .inl h⟩
        refine ⟨h0, ?_⟩
        by_contra hne
        refine hf ⟨hused, .inr ?_⟩
        rw [thisWord_eq, lastWord_eq m c t h0]
        exact fun h => hne h.symm
      iintro ⟨⟨⟨⟨⟨%e0, %he0, HS0⟩, ⟨%e1, %he1, HS1⟩⟩, Hg⟩, ⟨HT0, HT1⟩⟩, Ho, ⟨%d0, H0⟩, ⟨%d1, H1⟩, ⟨%d2, H2⟩, ⟨%d3, H3⟩⟩
      have q0 : e0 = wts m hO c t := (he0 ⟨t.val - 1, by omega⟩ (show t.val - 1 + 1 = t.val by omega) (show ((t.val - 1 : ℕ) : ℤ) < _ by omega)).trans
        (wts_congr m hO c _ _ hs.2)
      have q1 : e1 = wts' m hO c t := (he1 ⟨t.val - 1, by omega⟩ (show t.val - 1 + 1 = t.val by omega) (show ((t.val - 1 : ℕ) : ℤ) < _ by omega)).trans
        (wts'_congr m hO c _ _ hs.2)
      subst q0 q1
      iapply (step_same c (grid0.coords t) _ _ _ _ _ _ _ _ _ _ _ _ (iblk m hO c 0 t) (iblk m hO c 1 t) (iblk m hO c 2 t) _ _ (tbl m 0) (tbl m 1)
        hf h2 h3 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, H3, HS0, HS1, HT0, HT1⟩
      isplitl [HS0 HS1 Hg HT0 HT1]
      · isplitl [HS0 HS1 Hg]
        · isplitl [HS0 HS1]
          · isplitl [HS0]
            · iexists _
              isplitr; swap; · iexact HS0
              ipureintro
              exact fun s hs _ => congrArg (wts m hO c) (Fin.ext (by have : s.val + 1 = t.val + 1 := hs; omega))
            iexists _
            isplitr; swap; · iexact HS1
            ipureintro
            exact fun s hs _ => congrArg (wts' m hO c) (Fin.ext (by have : s.val + 1 = t.val + 1 := hs; omega))
          iexact Hg
        isplitl [HT0]; · iexact HT0
        iexact HT1
      isplitl [Ho]; · iexact Ho
      isplitl [H0]; · iexact H0
      isplitl [H1]; · iexact H1
      isplitl [H2]; · iexact H2
      iexact H3
  · have h2 : ¬k0_cond2 (grid0.coords t) (usedWord (F := F) c (tbl m 1)) = 1#1 := by rw [hu]; exact fun h => hused ((cond2_iff t _).mp h)
    have h3 : k0_cond3 (grid0.coords t) (usedWord (F := F) c (tbl m 1)) = 1#1 := by rw [hu]; exact (cond3_iff t _).mpr hused
    have hf : ¬freshBit (grid0.coords t) (usedWord (F := F) c (tbl m 1)) (thisWord c (grid0.coords t) (tbl m 0)) (lastWord c (grid0.coords t) (tbl m 0)) = 1#1 := by
      rw [fresh_iff, hu]; exact fun h => hused h.1
    rw [show blockOut m hO c t = k0_pay7 from if_neg hused]
    iintro ⟨⟨⟨⟨⟨%e0, %he0, HS0⟩, ⟨%e1, %he1, HS1⟩⟩, Hg⟩, ⟨HT0, HT1⟩⟩, Ho, ⟨%d0, H0⟩, ⟨%d1, H1⟩, ⟨%d2, H2⟩, ⟨%d3, H3⟩⟩
    iapply (step_idle c (grid0.coords t) _ _ _ _ _ _ _ _ _ _ _ _ (iblk m hO c 0 t) (iblk m hO c 1 t) (iblk m hO c 2 t) e0 e1 (tbl m 0) (tbl m 1)
      hf h2 h3 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]
          · iexists _
            isplitr; swap; · iexact HS0
            ipureintro
            exact fun s hs hu => absurd hu (by rw [show s.val = t.val from Nat.succ.inj hs]; exact hused)
          iexists _
          isplitr; swap; · iexact HS1
          ipureintro
          exact fun s hs hu => absurd hu (by rw [show s.val = t.val from Nat.succ.inj hs]; exact hused)
        iexact Hg
      isplitl [HT0]; · iexact HT0
      iexact HT1
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.Kernel2Ideal.Exp

end
-- ==== Proof.ExpRun.lean ====
/-
  THE EXPERTS' CALL, RUN: the launch, and what it leaves of every array. Over any values.
-/
module

public import proofs.«01_k».proof.Proof.ExpFrame

@[expose] public section

set_option maxRecDepth 16384

noncomputable section

namespace Cert.Kernel2Ideal.Exp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is owed of the staged buffers after a step: where the body fills them, or the step writes them back, what it left. -/
theorem kept_all {cfg : Pipeline.Cfg sig Λ₀} {c : Dev nD} (dat : Dat τ (Elt F) Unit ℕ (UR sig nD τ) ℕ cfg c) (t : Fin cfg.N)
    (h : ∀ w, cfg.idle w (cfg.grid.coords t) = false ∨ (cfg.win w).flush t = true) :
    (bigSep Finset.univ fun w : Fin cfg.W => owns (c : Thread nD τ) ((cfg.win w).stage (cfg.slots t w)) fullShare (dat.after w t) : sProp 𝕄)
      ⊢ (bigSep Finset.univ fun w : Fin cfg.W => match (fun _ => false : Fin cfg.W → Bool) w with
          | true => iprop(∃ X, owns (c : Thread nD τ) ((cfg.win w).stage (cfg.slots t w)) fullShare X)
          | false => match cfg.idle w (cfg.grid.coords t) with
            | true => match (cfg.win w).flush t with
              | false => iprop(∃ d, owns (c : Thread nD τ) ((cfg.win w).stage (cfg.slots t w)) fullShare (dat.before w t d))
              | true => owns (c : Thread nD τ) ((cfg.win w).stage (cfg.slots t w)) fullShare (dat.after w t)
            | false => owns (c : Thread nD τ) ((cfg.win w).stage (cfg.slots t w)) fullShare (dat.after w t) : sProp 𝕄) :=
  bigSep_mono fun w _ => by
    rcases h w with h | h
    · rw [h]; exact Idealize.SL.BI.Entails.refl _
    · rw [h]; cases cfg.idle w (cfg.grid.coords t) <;> exact Idealize.SL.BI.Entails.refl _

/-- Every step leaves the inputs in place and writes its output back. -/
theorem live_or_flush (hO : Ok m) (t : Fin (cfgM m hO).N) : ∀ w : Fin 4, (cfgM m hO).idle w ((cfgM m hO).grid.coords t) = false ∨ ((cfgM m hO).win w).flush t = true
  | ⟨0, _⟩ => .inl rfl
  | ⟨1, _⟩ => .inl rfl
  | ⟨2, _⟩ => .inl rfl
  | ⟨3, _⟩ => .inr (flush0_3 (adm m hO) t)

/-- The library's body obligation, at every step. -/
theorem body_obligation (hO : Ok m) (c : Dev nD) : BodyObligation (dats (F := F) m hO 0 c) (defs₀ (F := F)) Variants.none () Set.univ := fun t => by
  have hk := kept_all (dats m hO 0 c) t (live_or_flush m hO t)
  rw [bigSep_W0, defs₀_row m hO]
  refine triple_restated (sound_body m hO c t) rfl .rfl fun _ => sep_mono .rfl (sep_mono .rfl (.trans ?_ hk))
  rw [bigSep_W0]

/-- The class invariant and the tables are what is carried before the first step; -/
theorem carried_in (hO : Ok m) (c : Dev nD) : iprop(Pipeline.ΦA spec0 c ∗ Pipeline.ΦT pre0 (tbl m) c) ⊢ carried m hO c 0 := by
  rw [PhiA0_eq, PhiT0_eq]
  unfold carried
  iintro ⟨⟨⟨⟨%d0, HS0⟩, ⟨%d1, HS1⟩⟩, Hg⟩, HT⟩
  isplitl [HS0 HS1 Hg]
  · isplitl [HS0 HS1]
    · isplitl [HS0]
      · iexists _
        isplitr; swap; · iexact HS0
        ipureintro
        exact fun s hs => absurd hs (Nat.succ_ne_zero _)
      iexists _
      isplitr; swap; · iexact HS1
      ipureintro
      exact fun s hs => absurd hs (Nat.succ_ne_zero _)
    iexact Hg
  iexact HT

/-- and what is carried after the last gives the class invariant back. -/
theorem carried_out (hO : Ok m) (c : Dev nD) (t) : carried m hO c t ⊢ Pipeline.ΦA spec0 c := by
  rw [PhiA0_eq]
  unfold carried
  iintro ⟨⟨⟨⟨%d0, %h0, HS0⟩, ⟨%d1, %h1, HS1⟩⟩, Hg⟩, -⟩
  isplitl [HS0 HS1]
  · isplitl [HS0]
    · iexists _; iexact HS0
    iexists _; iexact HS1
  iexact Hg

-- the launch theorem's implicit arguments are found by unifying its conclusion with this one
set_option backward.isDefEq.respectTransparency.types false in
/-- Every run ends, with each array as the steps leave it and every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => carried_in m hO c) (hout := fun c => carried_out m hO c _)

/-- The same, without the counters, as the frame's lemma takes it. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toR) (A_eq m hO) ((θ_run defs _ _).mono (fun _ h c => ⟨fun w => ((dats m hO 0 c).toR_arrAt_iff w _ _).mpr ((h.1 c).1 w), (h.1 c).2⟩) (run_main m ρ hO))

/-- The arguments end as they began. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main m ρ hO))

end Cert.Kernel2Ideal.Exp

end
-- ==== Proof.ExpBits.lean ====
/-
  THE SAME RUN OVER THE MACHINE'S OWN NUMBERS: the two printed programs are one text, so the arguments of the kernel as it stands end as
  they began too.
-/
module

public import proofs.«01_k».proof.Proof.ExpPlan
public import proofs.«01_k».proof.Proof.ExpRun
public import proofs.«01_k».proof.Proof.Gen.Kernel2
public import proofs.«01_k».proof.Defs

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The two programs' kernels are one, -/
theorem defs₀_same : Cert.Kernel2.defs₀ (F := Bits) = defs₀ (F := Bits) := by
  refine congrArg Defs.onTc (funext fun l => funext fun a => ?_)
  obtain ⟨n, hn⟩ := l
  cases n with
  | zero => rfl
  | succ n => exact absurd hn (Nat.not_lt.2 (Nat.le_add_left _ _))

/-- so their bodies are, -/
theorem defs_same : Cert.Kernel2.defs (F := Bits) = defs (F := Bits) :=
  congrArg (Pipeline.defs (pcfgs (F := Bits))) defs₀_same

/-- and what they run. -/
theorem main_same : Cert.Kernel2.main (F := Bits) = main (F := Bits) := rfl

/-- A run of the one is a run of the other. -/
theorem run_same (s : MemSt nD τ sig (Elt Bits)) (Q : PUnit × MemSt nD τ sig (Elt Bits) → Prop)
    (h : θ_run (defs (F := Bits)) (onTc (τ := τ) (main (F := Bits))) s Q) :
    θ_run (Cert.Kernel2.defs (F := Bits)) (onTc (τ := Cert.Kernel2.τ) (Cert.Kernel2.main (F := Bits))) s Q :=
  (congrArg (fun D => θ_run D (onTc (τ := τ) (main (F := Bits))) s Q) defs_same).mpr h

end Cert.Kernel2Ideal.Exp

end
-- ==== Proof.ExpArray.lean ====
/-
  THE EXPERTS' RESULT, from its blocks: each step writes one tile of the result, and the tiles fill it.
-/
module

public import proofs.«01_k».proof.Proof.ExpRun
public import Idealize.ShloMosaic.Lib.Pipeline.Value

@[expose] public section

set_option maxRecDepth 16384

noncomputable section

namespace Cert.Kernel2Ideal.Exp

open Cert.Kernel2Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The step that writes row `i` of the result, -/
abbrev stepOf (hO : Ok m) (i : S327680x128.Idx) : Fin (cfgM m hO).N :=
  ⟨(i 0).val / 2048, lt_of_lt_of_eq (by have : (i 0).val < 327680 := (i 0).isLt; omega) N_0.symm⟩

/-- and the row's place in the tile. -/
abbrev placeOf (i : S327680x128.Idx) : S2048x128.Idx :=
  ix2 ⟨(i 0).val % 2048, Nat.mod_lt _ (by decide)⟩ (i 1)

/-- The result: each row as its step leaves it. -/
def result (hO : Ok m) (c : Dev nD) : Buf (Elt F) ((c : Thread nD τ).loc main_v2) := fun i =>
  blockOut m hO c (stepOf m hO i) (placeOf i)

/-- A step writes the tile of its own number. -/
theorem index3 (t : Fin grid0.N) : cc0_transform_3 (grid0.coords t) = ![t.val, 0] := by
  have ht : t.val < 160 := lt_of_lt_of_eq t.isLt N_0
  show (![(BitVec.ofNat 32 (grid0.coords t 0).val).toNat, 0] : Fin 2 → ℕ) = _
  rw [i0_val, WordCmp.toNat_ofNat_of_lt (by omega)]

/-- Where element `y` of a step's tile lies in the result, -/
def at3 (hO : Ok m) (t : Fin (cfgM m hO).N) (y : S2048x128.Idx) : S327680x128.Idx := (((cfgM m hO).win 3).blk t).view.emb y

/-- by row -/
theorem emb3_0 (hO : Ok m) (t : Fin (cfgM m hO).N) (y : S2048x128.Idx) :
    (at3 m hO t y 0).val = t.val * 2048 + (y 0).val := by
  show cc0_transform_3 (grid0.coords t) 0 * 2048 + 1 * (y 0).val = _
  rw [index3]
  show t.val * 2048 + 1 * (y 0).val = _
  omega

/-- and by lane. -/
theorem emb3_1 (hO : Ok m) (t : Fin (cfgM m hO).N) (y : S2048x128.Idx) :
    (at3 m hO t y 1).val = (y 1).val := by
  show cc0_transform_3 (grid0.coords t) 1 * 128 + 1 * (y 1).val = _
  rw [index3]
  show 0 * 128 + 1 * (y 1).val = _
  omega

/-- What a step writes back is its tile of the result. -/
theorem flushed3_eq (hO : Ok m) (c : Dev nD) (t : Fin (cfgM m hO).N) (_ : ((cfgM m hO).win 3).flush t = true) :
    (dats m hO 0 c).flushed 3 t = (((cfgM m hO).win 3).blk t).view.read (Elt F) (result m hO c) := by
  show ((cfgM m hO).win 3).cut (grid0.coords t) ((dats m hO 0 c).after 3 t) = _
  rw [after0_3]
  refine funext fun (y : S2048x128.Idx) => ?_
  have hy0 : (y 0).val < 2048 := (y 0).isLt
  have hy1 : (y 1).val < 128 := (y 1).isLt
  have h0 := emb3_0 m hO t y
  have h1 := emb3_1 m hO t y
  show blockOut m hO c t (((cfgM m hO).win 3).xinj (grid0.coords t) y)
    = blockOut m hO c (stepOf m hO (at3 m hO t y)) (placeOf (at3 m hO t y))
  have e1 : stepOf m hO (at3 m hO t y) = t := Fin.ext (by
    show (at3 m hO t y 0).val / 2048 = t.val
    rw [h0]; omega)
  have e2 : placeOf (at3 m hO t y) = ((cfgM m hO).win 3).xinj (grid0.coords t) y := by
    funext a; apply Fin.ext
    match a with
    | ⟨0, _⟩ => show (at3 m hO t y 0).val % 2048 = (y 0).val; rw [h0]; omega
    | ⟨1, _⟩ => show (at3 m hO t y 1).val = (y 1).val; exact h1
  rw [e1, e2]

theorem mem_slice (r : Rect main_v2.ty.shape) (i : main_v2.ty.Idx) (h : i ∈ r.set) : i ∈ ((View.whole main_v2).slice r).set := by
  rw [View.set_slice_whole]
  exact h

/-- Every row of the result is in some step's tile. -/
theorem covered3 (hO : Ok m) (i : S327680x128.Idx) : ∃ t : Fin (cfgM m hO).N, ((cfgM m hO).win 3).flush t = true ∧ i ∈ (((cfgM m hO).win 3).blk t).view.set := by
  refine ⟨stepOf m hO i, flush0_3 (adm m hO) _, ?_⟩
  refine mem_slice (((cfgM m hO).win 3).rect (stepOf m hO i)) i (Rect.mem_set_unit.mpr fun a => ?_)
  have hi0 : (i 0).val < 327680 := (i 0).isLt
  have hi1 : (i 1).val < 128 := (i 1).isLt
  have e := index3 (stepOf m hO i)
  match a with
  | ⟨0, _⟩ =>
    show cc0_transform_3 (grid0.coords (stepOf m hO i)) 0 * 2048 ≤ (i 0).val ∧ (i 0).val < cc0_transform_3 (grid0.coords (stepOf m hO i)) 0 * 2048 + 2048
    rw [e]
    show (i 0).val / 2048 * 2048 ≤ (i 0).val ∧ (i 0).val < (i 0).val / 2048 * 2048 + 2048
    omega
  | ⟨1, _⟩ =>
    show cc0_transform_3 (grid0.coords (stepOf m hO i)) 1 * 128 ≤ (i 1).val ∧ (i 1).val < cc0_transform_3 (grid0.coords (stepOf m hO i)) 1 * 128 + 128
    rw [e]
    show 0 * 128 ≤ (i 1).val ∧ (i 1).val < 0 * 128 + 128
    omega

/-- The steps' tiles make up the result. -/
theorem final3 (hO : Ok m) (c : Dev nD) : (dats m hO 0 c).arrAt 3 (cfgM m hO).N = result m hO c :=
  (dats m hO 0 c).arrAt_eq_of_cover 3 _ (fun t hf => flushed3_eq m hO c t hf) (covered3 m hO)

/-- Every run ends with the result there and the arguments as they began. -/
theorem run (hO : Ok m) : θ_run defs (onTc (τ := τ) (main (F := F))) ⟨m, fun _ => 0, ρ⟩ (fun r => ∀ c : Dev nD,
      r.2.mem ((c.tc : Thread nD τ).loc main_v2) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2 c⟩)
    (θ_run_and (Q₁ := fun r => ∀ c : Dev nD, r.2.mem ((c.tc : Thread nD τ).loc main_v2) = result m hO c)
      ((θ_run defs _ _).mono (fun _ h c => ((h.1 c).1 3).trans (final3 m hO c)) (run_main m ρ hO)) (unchanged m ρ hO))

end Cert.Kernel2Ideal.Exp

end
-- ==== Proof.ExpSpec.lean ====
/-
  WHAT ONE EXPERT MAKES OF ONE ROW, as plain sums: the row times the first weights, the left half gating the right, times a column of
  the second weights.
-/
module

public import Idealize.ShloMosaic.PureOps.Ideal.Laws

@[expose] public section

noncomputable section

namespace Expert

open Idealize.ShloMosaic

/-- The row times a column of the first weights; -/
def dot (x : Fin 1024 → EReal) (w : Fin 1024 → Fin 512 → EReal) (f : Fin 512) : EReal := ∑ k : Fin 1024, x k * w k f

/-- the left half `z` as `z / (1 + e^(-z))`, times the right; -/
def hidden (x : Fin 1024 → EReal) (w : Fin 1024 → Fin 512 → EReal) (f : Fin 256) : EReal :=
  dot x w ⟨f.val, by omega⟩ * Ideal.logistic (dot x w ⟨f.val, by omega⟩) * dot x w ⟨256 + f.val, by omega⟩

/-- times a column of the second weights. -/
def out (x : Fin 1024 → EReal) (w : Fin 1024 → Fin 512 → EReal) (w' : Fin 256 → EReal) : EReal := ∑ f : Fin 256, hidden x w f * w' f

end Expert

end
-- ==== Proof.ExpValue.lean ====
/-
  ONE ELEMENT OF A TILE over the extended reals: the row's products with an expert's weights, gated, times the expert's second weights.
-/
module

public import proofs.«01_k».proof.Proof.ExpArray
public import proofs.«01_k».proof.Proof.ExpSpec
public import Idealize.ShloMosaic.Lib.Pointwise
public import Idealize.ShloMosaic.PureOps.Ideal.Laws

@[expose] public section

set_option maxRecDepth 16384

noncomputable section

namespace Cert.Kernel2Ideal.Exp

open Cert.Kernel2Ideal Cert.Kernel2Ideal.Gen
open Idealize.ShloMosaic Idealize.ShloMosaic.TcCoe

/-- The eight chunks side by side: rows of 1024 lanes. -/
def cat (x : Vec Ideal S2048x128 .f32) : FVec Ideal S256x1024 .f32 :=
  concatenate S256x1024 1 [⟨S256x128, chunk x 0⟩, ⟨S256x128, chunk x 1⟩, ⟨S256x128, chunk x 2⟩, ⟨S256x128, chunk x 3⟩, ⟨S256x128, chunk x 4⟩,
    ⟨S256x128, chunk x 5⟩, ⟨S256x128, chunk x 6⟩, ⟨S256x128, chunk x 7⟩]
    concatenates_S256x128_S256x128_S256x128_S256x128_S256x128_S256x128_S256x128_S256x128_S256x1024_d1

/-- The rows times the first weights; -/
def proj (X : FVec Ideal S256x1024 .f32) (w : Vec Ideal S1024x512 .bf16) : FVec Ideal S256x512 .f32 :=
  matmul (φ₁ := .bf16) (φ₂ := .bf16) dot_S256x1024_S1024x512_S256x512_1_0_0_1_n_n none (truncf .bf16 X bitsLt_bf16_f32) w (constant S256x512 .f32 0x00000000#32)

/-- the left half gates the right; -/
def gated (P : FVec Ideal S256x512 .f32) : FVec Ideal S256x256 .f32 :=
  mulf (mulf (extractStridedSlice S256x256 ![0, 0] P slices_S256x512_o0_0_S256x256) (logistic (extractStridedSlice S256x256 ![0, 0] P slices_S256x512_o0_0_S256x256)))
    (extractStridedSlice S256x256 ![0, 256] P slices_S256x512_o0_256_S256x256)

/-- and what is left times the second weights. -/
def back (A : FVec Ideal S256x256 .f32) (w' : Vec Ideal S256x1024 .bf16) : FVec Ideal S256x1024 .f32 :=
  matmul (φ₁ := .bf16) (φ₂ := .bf16) dot_S256x256_S256x1024_S256x1024_1_0_0_1_n_n none (truncf .bf16 A bitsLt_bf16_f32) w' (constant S256x1024 .f32 0x00000000#32)

theorem tile_eq (x : Vec Ideal S2048x128 .f32) (w : Vec Ideal S1024x512 .bf16) (w' : Vec Ideal S256x1024 .bf16) :
    tile x w w' = back (gated (proj (cat x) w)) w' := rfl

/-- Lane `k` of row `r` of a tile's block. -/
abbrev lane (x : Vec Ideal S2048x128 .f32) (r : Fin 256) (k : Fin 1024) : EReal :=
  x (ix2 ⟨8 * r.val + k.val / 128, by omega⟩ ⟨k.val % 128, Nat.mod_lt _ (by decide)⟩)

theorem chunk_lane (x : Vec Ideal S2048x128 .f32) (r : Fin 256) (k : Fin 1024) (q : Fin 8) (l : Fin 128) (hk : k.val = q.val * 128 + l.val) :
    chunk x q (ix2 r l) = lane x r k := by
  refine congrArg x (funext fun a => Fin.ext ?_)
  match a with
  | ⟨0, _⟩ => show q.val + 8 * r.val = 8 * r.val + k.val / 128; omega
  | ⟨1, _⟩ => show l.val = k.val % 128; omega

theorem cat_apply (x : Vec Ideal S2048x128 .f32) (r : Fin 256) (k : Fin 1024) : cat x (ix2 r k) = lane x r k := by
  pointwise [cat]
  split
  · exact chunk_lane x r k 0 _ (show k.val = 0 * 128 + (k.val) by omega)
  split
  · exact chunk_lane x r k 1 _ (show k.val = 1 * 128 + (k.val - 128) by omega)
  split
  · exact chunk_lane x r k 2 _ (show k.val = 2 * 128 + (k.val - 128 - 128) by omega)
  split
  · exact chunk_lane x r k 3 _ (show k.val = 3 * 128 + (k.val - 128 - 128 - 128) by omega)
  split
  · exact chunk_lane x r k 4 _ (show k.val = 4 * 128 + (k.val - 128 - 128 - 128 - 128) by omega)
  split
  · exact chunk_lane x r k 5 _ (show k.val = 5 * 128 + (k.val - 128 - 128 - 128 - 128 - 128) by omega)
  split
  · exact chunk_lane x r k 6 _ (show k.val = 6 * 128 + (k.val - 128 - 128 - 128 - 128 - 128 - 128) by omega)
  exact chunk_lane x r k 7 _ (show k.val = 7 * 128 + (k.val - 128 - 128 - 128 - 128 - 128 - 128 - 128) by omega)

theorem proj_apply (X : FVec Ideal S256x1024 .f32) (w : Vec Ideal S1024x512 .bf16) (r : Fin 256) (f : Fin 512) :
    proj X w (ix2 r f) = ∑ k : Fin 1024, X (ix2 r k) * w (ix2 k f) := by
  pointwise [proj]

theorem gated_apply (P : FVec Ideal S256x512 .f32) (r f : Fin 256) :
    gated P (ix2 r f) = P (ix2 r ⟨f.val, by omega⟩) * Ideal.logistic (P (ix2 r ⟨f.val, by omega⟩)) * P (ix2 r ⟨256 + f.val, by omega⟩) := by
  pointwise [gated]

theorem back_apply (A : FVec Ideal S256x256 .f32) (w' : Vec Ideal S256x1024 .bf16) (r : Fin 256) (d : Fin 1024) :
    back A w' (ix2 r d) = ∑ f : Fin 256, A (ix2 r f) * w' (ix2 f d) := by
  pointwise [back]

/-- The first weights, and the second, as a step's casts leave them. -/
theorem pay1_apply (v : Vec Ideal S1x1024x512 .f32) (k : Fin 1024) (f : Fin 512) : k0_pay1 (F := Ideal) v (ix2 k f) = v (ix3 0 k f) := by
  pointwise [k0_pay1]
theorem pay2_apply (v : Vec Ideal S1x256x1024 .f32) (f : Fin 256) (d : Fin 1024) : k0_pay2 (F := Ideal) v (ix2 f d) = v (ix3 0 f d) := by
  pointwise [k0_pay2]
theorem pay7_apply (j : S2048x128.Idx) : k0_pay7 (F := Ideal) j = 0 := by
  pointwise [k0_pay7]

variable {F : FTy → Type} [FloatOps F]

/-- The weights the launch finds are the arguments', the experts of all groups in one row. -/
theorem V_main_v0 (m : (ℓ : Loc nD τ sig) → Buf (Elt F) ℓ) (c : Dev nD) :
    V m c main_v0 = shapeCast S32x1024x512 (m ((c.tc : Thread nD τ).loc main_arg3)) shapeCasts_S4x8x1024x512_S32x1024x512 := by
  show StableHlo.after hostOps0 (fun b => m (c, b)) main_v0 = _
  simp only [hostOps0]
  after_results_simp <;> rfl
theorem V_main_v1 (m : (ℓ : Loc nD τ sig) → Buf (Elt F) ℓ) (c : Dev nD) :
    V m c main_v1 = shapeCast S32x256x1024 (m ((c.tc : Thread nD τ).loc main_arg4)) shapeCasts_S4x8x256x1024_S32x256x1024 := by
  show StableHlo.after hostOps0 (fun b => m (c, b)) main_v1 = _
  simp only [hostOps0]
  after_results_simp <;> rfl

/-- One element of a tile. -/
theorem tile_apply (x : Vec Ideal S2048x128 .f32) (w : Vec Ideal S1024x512 .bf16) (w' : Vec Ideal S256x1024 .bf16) (r : Fin 256) (d : Fin 1024) :
    tile x w w' (ix2 r d) = Expert.out (lane x r) (fun k f => w (ix2 k f)) (fun f => w' (ix2 f d)) := by
  rw [tile_eq, back_apply]
  unfold Expert.out Expert.hidden Expert.dot
  simp only [gated_apply, proj_apply, cat_apply]

variable (m : (ℓ : Loc nD τ sig) → Buf (Elt Ideal) ℓ)

/-- The step of a row of 1024 lanes. -/
abbrev stepAt (hO : Ok m) (i : Fin 40960) : Fin (cfgM m hO).N := ⟨i.val / 256, lt_of_lt_of_eq (by omega) N_0.symm⟩

/-- An element of the result in a tile in use is its expert's; -/
theorem result_used (hO : Ok m) (c : Dev nD) (i : Fin 40960) (q : Fin 8) (l : Fin 128) (h : ((i.val / 256 : ℕ) : ℤ) < (used m).toInt) :
    result m hO c (ix2 ⟨8 * i.val + q.val, by omega⟩ l : S327680x128.Idx)
      = Expert.out (fun k => V m c main_arg2 (ix2 ⟨8 * i.val + k.val / 128, by omega⟩ ⟨k.val % 128, Nat.mod_lt _ (by decide)⟩ : S327680x128.Idx))
          (fun k f => V m c main_v0 (ix3 ⟨(expert m ⟨i.val / 256, by omega⟩).toNat, expert_lt m hO _⟩ k f : S32x1024x512.Idx))
          (fun f => V m c main_v1 (ix3 ⟨(expert m ⟨i.val / 256, by omega⟩).toNat, expert_lt m hO _⟩ f ⟨q.val * 128 + l.val, by omega⟩ : S32x256x1024.Idx)) := by
  have e1 : stepOf m hO (ix2 ⟨8 * i.val + q.val, by omega⟩ l : S327680x128.Idx) = stepAt m hO i :=
    Fin.ext (show (8 * i.val + q.val) / 2048 = i.val / 256 by omega)
  have hb : blockOut m hO c (stepAt m hO i) = lines (tile (iblk m hO c 0 (stepAt m hO i)) (wts m hO c (stepAt m hO i)) (wts' m hO c (stepAt m hO i))) := if_pos h
  show blockOut m hO c (stepOf m hO (ix2 ⟨8 * i.val + q.val, by omega⟩ l : S327680x128.Idx)) (placeOf (ix2 ⟨8 * i.val + q.val, by omega⟩ l)) = _
  rw [e1, hb]
  have e2 : lines (tile (iblk m hO c 0 (stepAt m hO i)) (wts m hO c (stepAt m hO i)) (wts' m hO c (stepAt m hO i)))
        (placeOf (ix2 ⟨8 * i.val + q.val, by omega⟩ l : S327680x128.Idx))
      = tile (iblk m hO c 0 (stepAt m hO i)) (wts m hO c (stepAt m hO i)) (wts' m hO c (stepAt m hO i))
          (ix2 ⟨i.val % 256, Nat.mod_lt _ (by decide)⟩ ⟨q.val * 128 + l.val, by omega⟩) := by
    refine congrArg (tile _ _ _) (funext fun a => Fin.ext ?_)
    match a with
    | ⟨0, _⟩ => show (8 * i.val + q.val) % 2048 / 8 = i.val % 256; omega
    | ⟨1, _⟩ => show (8 * i.val + q.val) % 2048 % 8 * 128 + l.val = q.val * 128 + l.val; omega
  refine e2.trans ((tile_apply _ _ _ _ _).trans ?_)
  have hx : lane (iblk m hO c 0 (stepAt m hO i)) ⟨i.val % 256, Nat.mod_lt _ (by decide)⟩
      = fun k => V m c main_arg2 (ix2 ⟨8 * i.val + k.val / 128, by omega⟩ ⟨k.val % 128, Nat.mod_lt _ (by decide)⟩ : S327680x128.Idx) := by
    funext k
    refine (iblk0_apply m hO c (stepAt m hO i) h _ _).trans (congrArg (V m c main_arg2) (funext fun a => Fin.ext ?_))
    match a with
    | ⟨0, _⟩ => show i.val / 256 * 2048 + (8 * (i.val % 256) + k.val / 128) = 8 * i.val + k.val / 128; omega
    | ⟨1, _⟩ => rfl
  have hw : (fun (k : Fin 1024) (f : Fin 512) => wts m hO c (stepAt m hO i) (ix2 k f))
      = fun k f => V m c main_v0 (ix3 ⟨(expert m ⟨i.val / 256, by omega⟩).toNat, expert_lt m hO _⟩ k f : S32x1024x512.Idx) := by
    funext k f
    exact (pay1_apply _ k f).trans (iblk1_apply m hO c (stepAt m hO i) 0 k f)
  have hw' : (fun f : Fin 256 => wts' m hO c (stepAt m hO i) (ix2 f ⟨q.val * 128 + l.val, by omega⟩))
      = fun f => V m c main_v1 (ix3 ⟨(expert m ⟨i.val / 256, by omega⟩).toNat, expert_lt m hO _⟩ f ⟨q.val * 128 + l.val, by omega⟩ : S32x256x1024.Idx) := by
    funext f
    exact (pay2_apply _ f _).trans (iblk2_apply m hO c (stepAt m hO i) 0 f _)
  exact congr (congr (congrArg Expert.out hx) hw) hw'

/-- of a tile not in use, zero. -/
theorem result_unused (hO : Ok m) (c : Dev nD) (i : Fin 40960) (q : Fin 8) (l : Fin 128) (h : ¬((i.val / 256 : ℕ) : ℤ) < (used m).toInt) :
    result m hO c (ix2 ⟨8 * i.val + q.val, by omega⟩ l : S327680x128.Idx) = (0 : EReal) := by
  have e1 : stepOf m hO (ix2 ⟨8 * i.val + q.val, by omega⟩ l : S327680x128.Idx) = stepAt m hO i :=
    Fin.ext (show (8 * i.val + q.val) / 2048 = i.val / 256 by omega)
  have hb : blockOut m hO c (stepAt m hO i) = k0_pay7 (F := Ideal) := if_neg h
  show blockOut m hO c (stepOf m hO (ix2 ⟨8 * i.val + q.val, by omega⟩ l : S327680x128.Idx)) (placeOf (ix2 ⟨8 * i.val + q.val, by omega⟩ l)) = _
  rw [e1, hb]
  exact pay7_apply _

end Cert.Kernel2Ideal.Exp

end
-- ==== Proof.ExpRef.lean ====
/-
  THE EXPERTS' REFERENCE, its own terms named and read over the extended reals: of all the experts' outputs for a row, the combination
  keeps the one of the row's tile.
-/
module

public import proofs.«01_k».proof.Proof.Gen.Reference2Ideal.Run
public import proofs.«01_k».proof.Proof.ExpSpec
public import Idealize.ShloMosaic.Lib.Pointwise
public import Idealize.ShloMosaic.Lib.WordCmp
public import Idealize.ShloMosaic.PureOps.Ideal.Laws

@[expose] public section

set_option maxRecDepth 16384

noncomputable section

namespace Cert.Reference2Ideal.Exp

open Cert.Reference2Ideal Cert.Reference2Ideal.Gen
open Idealize.ShloMosaic Idealize.ShloMosaic.TcCoe

/-- The rows of 1024 lanes. -/
def rows (x : Vec Ideal S327680x128 .f32) : FVec Ideal S40960x1024 .f32 := shapeCast S40960x1024 x shapeCasts_S327680x128_S40960x1024

/-- Something of a tile, for each of its rows. -/
def spread {w : ℕ} (v : IVec S160 w) : IVec S40960 w :=
  shapeCast S40960 (broadcastInDim S160x256 ![0, 1] bcast_S160x1_S160x256_0_1 (broadcastInDim S160x1 ![0] bcast_S160_S160x1_0 v)) shapeCasts_S160x256_S40960

/-- Which tiles are in use. -/
def inUse (nu : IVec S1 32) : IVec S160 1 := cmpi .slt (iotaInDim S160 32 0) (broadcastInDim S160 ![0] bcast_S1_S160_0 nu)

/-- How much of each expert's output a row takes. -/
def combine (te : IVec S160 32) (nu : IVec S1 32) : FVec Ideal S40960x32 .f32 :=
  uitofp .f32 (andi (cmpi .eq (broadcastInDim S40960x32 ![0, 1] bcast_S40960x1_S40960x32_0_1 (broadcastInDim S40960x1 ![0] bcast_S40960_S40960x1_0 (spread te)))
      (broadcastInDim S40960x32 ![0, 1] bcast_S1x32_S40960x32_0_1 (broadcastInDim S1x32 ![1] bcast_S32_S1x32_1 (iotaInDim S32 32 0))))
    (broadcastInDim S40960x32 ![0, 1] bcast_S40960x1_S40960x32_0_1 (broadcastInDim S40960x1 ![0] bcast_S40960_S40960x1_0 (spread (inUse nu)))))

/-- The rows times every expert's first weights; -/
def projR (X : FVec Ideal S40960x1024 .f32) (w : FVec Ideal S32x1024x512 .f32) : FVec Ideal S40960x32x512 .f32 :=
  Host.dotGeneral dot_S40960x1024_S32x1024x512_S40960x32x512_1_1_0_02_n_n none X w

def left (P : FVec Ideal S40960x32x512 .f32) : FVec Ideal S40960x32x256 .f32 :=
  extractStridedSlice S40960x32x256 ![0, 0, 0] P slices_S40960x32x512_S40960x32x256_0_0_0

/-- the left half gates the right; -/
def gatedR (P : FVec Ideal S40960x32x512 .f32) : FVec Ideal S40960x32x256 .f32 :=
  mulf (mulf (left P) (Host.divf (broadcastInDim S40960x32x256 ![] bcast_S_S40960x32x256 (constant S_ .f32 0x3F800000#32))
      (addf (broadcastInDim S40960x32x256 ![] bcast_S_S40960x32x256 (constant S_ .f32 0x3F800000#32)) (Host.exp (Host.negf (left P))))))
    (extractStridedSlice S40960x32x256 ![0, 0, 256] P slices_S40960x32x512_S40960x32x256_0_0_256)

/-- what a row takes of it, times every expert's second weights. -/
def backR (A : FVec Ideal S40960x32x256 .f32) (C : FVec Ideal S40960x32 .f32) (w' : FVec Ideal S32x256x1024 .f32) : FVec Ideal S40960x1024 .f32 :=
  Host.dotGeneral dot_S40960x32x256_S32x256x1024_S40960x1024_12_01_0_2_n_n none
    (mulf A (broadcastInDim S40960x32x256 ![0, 1, 2] bcast_S40960x32x1_S40960x32x256_0_1_2 (broadcastInDim S40960x32x1 ![0, 1] bcast_S40960x32_S40960x32x1_0_1 C))) w'

def result (te : IVec S160 32) (nu : IVec S1 32) (x : Vec Ideal S327680x128 .f32) (w : FVec Ideal S32x1024x512 .f32) (w' : FVec Ideal S32x256x1024 .f32) :
    FVec Ideal S327680x128 .f32 :=
  shapeCast S327680x128 (backR (gatedR (projR (rows x) w)) (combine te nu) w') shapeCasts_S40960x1024_S327680x128

/-- Every run ends with this result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31) = result (m ((c.tc : Thread nD τ).loc main_arg0)) (m ((c.tc : Thread nD τ).loc main_arg1))
          (m ((c.tc : Thread nD τ).loc main_arg2)) (shapeCast S32x1024x512 (m ((c.tc : Thread nD τ).loc main_arg3)) shapeCasts_S4x8x1024x512_S32x1024x512)
          (shapeCast S32x256x1024 (m ((c.tc : Thread nD τ).loc main_arg4)) shapeCasts_S4x8x256x1024_S32x256x1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2⟩) (Cert.Reference2Ideal.Value.run (F := Ideal) m ρ)

theorem rows_apply (x : Vec Ideal S327680x128 .f32) (i : Fin 40960) (k : Fin 1024) :
    rows x (ix2 i k) = x (ix2 ⟨8 * i.val + k.val / 128, by omega⟩ ⟨k.val % 128, Nat.mod_lt _ (by decide)⟩) := by
  pointwise [rows]
  refine congrArg x (funext fun a => Fin.ext ?_)
  match a with
  | ⟨0, _⟩ => show i.val * 8 + k.val / 128 = 8 * i.val + k.val / 128; omega
  | ⟨1, _⟩ => rfl

theorem spread_apply {w : ℕ} (v : IVec S160 w) (i : Fin 40960) : spread v (ix1 i) = v (ix1 ⟨i.val / 256, by omega⟩) := by
  pointwise [spread]

theorem projR_apply (X : FVec Ideal S40960x1024 .f32) (w : FVec Ideal S32x1024x512 .f32) (i : Fin 40960) (e : Fin 32) (f : Fin 512) :
    projR X w (ix3 i e f) = ∑ k : Fin 1024, X (ix2 i k) * w (ix3 e k f) := by
  pointwise [projR]

theorem gatedR_apply (P : FVec Ideal S40960x32x512 .f32) (i : Fin 40960) (e : Fin 32) (f : Fin 256) :
    gatedR P (ix3 i e f) = P (ix3 i e ⟨f.val, by omega⟩) * Ideal.logistic (P (ix3 i e ⟨f.val, by omega⟩)) * P (ix3 i e ⟨256 + f.val, by omega⟩) := by
  pointwise [gatedR, left]
  rfl

theorem backR_apply (A : FVec Ideal S40960x32x256 .f32) (C : FVec Ideal S40960x32 .f32) (w' : FVec Ideal S32x256x1024 .f32) (i : Fin 40960) (d : Fin 1024) :
    backR A C w' (ix2 i d) = ∑ e : Fin 32, ∑ f : Fin 256, A (ix3 i e f) * C (ix2 i e) * w' (ix3 e f d) := by
  pointwise [backR]

theorem inUse_apply (nu : IVec S1 32) (t : Fin 160) : inUse nu (ix1 t) = IntOp.cmpi .slt (BitVec.ofNat 32 t.val) (nu (ix1 0)) := by
  pointwise [inUse]

theorem bit_word (b : Bool) : (FloatOps.uitofp .f32 (BitVec.ofBool b) : Ideal .f32) = if b = true then (1 : EReal) else 0 := by
  show (((BitVec.ofBool b).toNat : ℝ) : EReal) = _
  cases b <;> simp

theorem and_words (a b : Bool) : IntOp.andi (BitVec.ofBool a) (BitVec.ofBool b) = BitVec.ofBool (a && b) := by cases a <;> cases b <;> rfl

theorem combine_apply (te : IVec S160 32) (nu : IVec S1 32) (i : Fin 40960) (e : Fin 32) :
    combine te nu (ix2 i e) = if (te (ix1 ⟨i.val / 256, by omega⟩)).toNat = e.val ∧ ((i.val / 256 : ℕ) : ℤ) < (nu (ix1 0)).toInt then (1 : EReal) else 0 := by
  have hi : i.val / 256 < 160 := by omega
  generalize hu : inUse nu = u
  pointwise [combine]
  rw [spread_apply, spread_apply, hu, ← hu, inUse_apply]
  show (FloatOps.uitofp .f32 (IntOp.andi (BitVec.ofBool (te (ix1 ⟨i.val / 256, hi⟩) == BitVec.ofNat 32 e.val))
    (BitVec.ofBool ((BitVec.ofNat 32 (i.val / 256)).slt (nu (ix1 0))))) : Ideal .f32) = _
  rw [and_words, bit_word]
  refine if_congr ?_ rfl rfl
  rw [Bool.and_eq_true, beq_iff_eq, BitVec.slt, decide_eq_true_iff, WordCmp.toInt_ofNat_of_lt (by omega)]
  refine and_congr ⟨fun h => ?_, fun h => ?_⟩ Iff.rfl
  · rw [h, WordCmp.toNat_ofNat_of_lt (by omega)]
  · exact BitVec.eq_of_toNat_eq (by rw [h, WordCmp.toNat_ofNat_of_lt (by omega)])

theorem result_apply (te : IVec S160 32) (nu : IVec S1 32) (x : Vec Ideal S327680x128 .f32) (w : FVec Ideal S32x1024x512 .f32) (w' : FVec Ideal S32x256x1024 .f32)
    (i : Fin 40960) (q : Fin 8) (l : Fin 128) :
    result te nu x w w' (ix2 ⟨8 * i.val + q.val, by omega⟩ l)
      = backR (gatedR (projR (rows x) w)) (combine te nu) w' (ix2 i ⟨q.val * 128 + l.val, by omega⟩) := by
  have h : ∀ B : FVec Ideal S40960x1024 .f32, shapeCast S327680x128 B shapeCasts_S40960x1024_S327680x128 (ix2 ⟨8 * i.val + q.val, by omega⟩ l)
      = B (ix2 i ⟨q.val * 128 + l.val, by omega⟩) := by
    intro B
    pointwise
    refine congrArg B (funext fun a => Fin.ext ?_)
    match a with
    | ⟨0, _⟩ => rfl
    | ⟨1, _⟩ => show (8 * i.val + q.val) % 8 * 128 + l.val = q.val * 128 + l.val; omega
  exact h _

/-- The experts' outputs for a row, each times how much the row takes of it. -/
theorem result_sum (te : IVec S160 32) (nu : IVec S1 32) (x : Vec Ideal S327680x128 .f32) (w : FVec Ideal S32x1024x512 .f32) (w' : FVec Ideal S32x256x1024 .f32)
    (i : Fin 40960) (q : Fin 8) (l : Fin 128) :
    result te nu x w w' (ix2 ⟨8 * i.val + q.val, by omega⟩ l)
      = ∑ e : Fin 32, ∑ f : Fin 256, Expert.hidden (fun k => x (ix2 ⟨8 * i.val + k.val / 128, by omega⟩ ⟨k.val % 128, Nat.mod_lt _ (by decide)⟩))
            (fun k f => w (ix3 e k f)) f
          * (if (te (ix1 ⟨i.val / 256, by omega⟩)).toNat = e.val ∧ ((i.val / 256 : ℕ) : ℤ) < (nu (ix1 0)).toInt then (1 : EReal) else 0)
          * w' (ix3 e f ⟨q.val * 128 + l.val, by omega⟩) := by
  rw [result_apply, backR_apply]
  unfold Expert.hidden Expert.dot
  simp only [gatedR_apply, projR_apply, rows_apply, combine_apply]

/-- A row of a tile in use takes its tile's expert's output, -/
theorem result_used (te : IVec S160 32) (nu : IVec S1 32) (x : Vec Ideal S327680x128 .f32) (w : FVec Ideal S32x1024x512 .f32) (w' : FVec Ideal S32x256x1024 .f32)
    (i : Fin 40960) (q : Fin 8) (l : Fin 128) (he : (te (ix1 ⟨i.val / 256, by omega⟩)).toNat < 32) (h : ((i.val / 256 : ℕ) : ℤ) < (nu (ix1 0)).toInt) :
    result te nu x w w' (ix2 ⟨8 * i.val + q.val, by omega⟩ l)
      = Expert.out (fun k => x (ix2 ⟨8 * i.val + k.val / 128, by omega⟩ ⟨k.val % 128, Nat.mod_lt _ (by decide)⟩))
          (fun k f => w (ix3 ⟨(te (ix1 ⟨i.val / 256, by omega⟩)).toNat, he⟩ k f))
          (fun f => w' (ix3 ⟨(te (ix1 ⟨i.val / 256, by omega⟩)).toNat, he⟩ f ⟨q.val * 128 + l.val, by omega⟩)) := by
  rw [result_sum, Finset.sum_eq_single ⟨(te (ix1 ⟨i.val / 256, by omega⟩)).toNat, he⟩]
  · unfold Expert.out
    refine Finset.sum_congr rfl fun f _ => ?_
    rw [if_pos ⟨rfl, h⟩, mul_one]
  · intro e _ hne
    refine Finset.sum_eq_zero fun f _ => ?_
    rw [if_neg (fun hc => hne (Fin.ext hc.1.symm)), mul_zero, zero_mul]
  · exact fun hn => absurd (Finset.mem_univ _) hn

/-- and one of a tile not in use takes none. -/
theorem result_unused (te : IVec S160 32) (nu : IVec S1 32) (x : Vec Ideal S327680x128 .f32) (w : FVec Ideal S32x1024x512 .f32) (w' : FVec Ideal S32x256x1024 .f32)
    (i : Fin 40960) (q : Fin 8) (l : Fin 128) (h : ¬((i.val / 256 : ℕ) : ℤ) < (nu (ix1 0)).toInt) :
    result te nu x w w' (ix2 ⟨8 * i.val + q.val, by omega⟩ l) = (0 : EReal) := by
  rw [result_sum]
  refine Finset.sum_eq_zero fun e _ => Finset.sum_eq_zero fun f _ => ?_
  rw [if_neg (fun hc => h hc.2), mul_zero, zero_mul]

end Cert.Reference2Ideal.Exp

end
-- ==== Proof.Residual.lean ====
/-
  THE MATHEMATICS OF THE COMBINATION, without a program in it, over the extended reals: the rows two experts gave for a token, weighted and
  added, then the residual layer norm. The kernel folds the residual's scale `α = √2` into the branch and divides the norm's `ε` by `α²`;
  a layer norm does not see a positive factor (`out_eq`), at infinite entries too.
-/
module

public import Idealize.ShloMosaic.PureOps.Ideal.Laws
public import Mathlib.Data.EReal.Operations

@[expose] public section

noncomputable section

namespace Residual

open Idealize.ShloMosaic

/-! ## The words of a row -/

/-- A row of 1024 numbers from its 512 words: the low halves, then the high halves. -/
def unpack (w : Fin 512 → BitVec 32) (d : Fin 1024) : EReal :=
  if h : d.val < 512 then Ideal.ofBits .f32 (w ⟨d.val, h⟩ <<< 16) else Ideal.ofBits .f32 (w ⟨d.val - 512, by omega⟩ &&& 4294901760#32)

/-- Two rows, weighted and added. -/
def mix (a b : EReal) (w w' : Fin 512 → BitVec 32) (d : Fin 1024) : EReal := a * unpack w d + b * unpack w' d

/-! ## The layer norm -/

def mean (z : Fin 1024 → EReal) : EReal := Ideal.div (∑ d, z d) (Ideal.ofBits .f32 0x44800000#32)

def norm (ε : EReal) (z : Fin 1024 → EReal) (d : Fin 1024) : EReal :=
  (z d - mean z) * Ideal.rsqrt (mean (fun e => (z e - mean z) * (z e - mean z)) + ε)

/-- `√2` and its reciprocal. -/
def root : EReal := ((Real.sqrt 2 : ℝ) : EReal)
def inv : EReal := (((Real.sqrt 2)⁻¹ : ℝ) : EReal)

theorem root_pos : 0 < Real.sqrt 2 := Real.sqrt_pos.mpr (by norm_num)

theorem root_mul_inv : root * inv = 1 := by
  unfold root inv
  rw [← EReal.coe_mul, mul_inv_cancel₀ root_pos.ne', EReal.coe_one]

theorem root_mul_root : root * root = ((2 : ℝ) : EReal) := by
  unfold root
  rw [← EReal.coe_mul, Real.mul_self_sqrt (by norm_num)]

theorem mul_add_of_pos (a : ℝ) (ha : 0 < a) (x y : EReal) : (a : EReal) * (x + y) = a * x + a * y :=
  EReal.left_distrib_of_nonneg_of_ne_top (EReal.coe_nonneg.mpr ha.le) (EReal.coe_ne_top a) x y

theorem mul_sub_of_pos (a : ℝ) (ha : 0 < a) (x y : EReal) : (a : EReal) * (x - y) = a * x - a * y := by
  rw [sub_eq_add_neg, sub_eq_add_neg, mul_add_of_pos a ha, mul_neg]

theorem mul_sum_of_pos (a : ℝ) (ha : 0 < a) (z : Fin 1024 → EReal) : (a : EReal) * ∑ d, z d = ∑ d, a * z d := by
  refine Finset.induction_on (Finset.univ : Finset (Fin 1024)) (by simp) fun d s hd ih => ?_
  rw [Finset.sum_insert hd, Finset.sum_insert hd, mul_add_of_pos a ha, ih]

theorem width : Ideal.ofBits .f32 0x44800000#32 = ((1024 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

/-- The fourth root of four. -/
theorem root_eq : Ideal.sqrt (Ideal.sqrt (Ideal.ofBits .f32 0x40800000#32)) = root := by
  have h : Real.sqrt 4 = 2 := by rw [show (4 : ℝ) = 2 * 2 by norm_num, Real.sqrt_mul_self (by norm_num)]
  rw [four, Ideal.sqrt_coe, if_neg (by norm_num), h, Ideal.sqrt_coe, if_neg (by norm_num)]
  rfl

theorem mean_scaled (a : ℝ) (ha : 0 < a) (z : Fin 1024 → EReal) : mean (fun d => a * z d) = a * mean z := by
  unfold mean
  rw [width, Ideal.div_coe (by norm_num), Ideal.div_coe (by norm_num), ← mul_sum_of_pos a ha, mul_assoc]

/-- The reference's `ε` is twice the kernel's. -/
theorem eps : Ideal.ofBits .f32 0x3727C5AC#32 = ((2 : ℝ) : EReal) * Ideal.ofBits .f32 0x36A7C5AC#32 := by
  simp [Ideal.ofBits, Ideal.ieee, -EReal.coe_mul]
  rw [← EReal.coe_mul]; norm_num

theorem rsqrt_scaled (v : EReal) : Ideal.rsqrt (((2 : ℝ) : EReal) * v) = inv * Ideal.rsqrt v := by
  have hi : (0 : ℝ) < (Real.sqrt 2)⁻¹ := inv_pos.mpr root_pos
  unfold inv
  induction v using EReal.rec with
  | bot => rw [EReal.coe_mul_bot_of_pos (by norm_num), Ideal.rsqrt_bot, EReal.coe_mul_bot_of_pos hi]
  | top => rw [EReal.coe_mul_top_of_pos (by norm_num), Ideal.rsqrt_top, mul_zero]
  | coe r =>
    rw [← EReal.coe_mul, Ideal.rsqrt_coe, Ideal.rsqrt_coe]
    rcases lt_trichotomy r 0 with h | h | h
    · rw [if_pos (by linarith), if_pos h, EReal.coe_mul_bot_of_pos hi]
    · subst h
      rw [mul_zero, if_neg (lt_irrefl _), if_pos rfl, EReal.coe_mul_top_of_pos hi]
    · rw [if_neg (by linarith), if_neg (by linarith), if_neg (by linarith), if_neg h.ne', Real.sqrt_mul (by norm_num), mul_inv, EReal.coe_mul]

/-- The norm of a row scaled by `√2`, with twice the `ε`, is the row's. -/
theorem norm_scaled (ε : EReal) (z : Fin 1024 → EReal) (d : Fin 1024) :
    norm (((2 : ℝ) : EReal) * ε) (fun e => root * z e) d = norm ε z d := by
  have hd : ∀ e, root * z e - mean (fun e => root * z e) = root * (z e - mean z) := by
    intro e
    unfold root
    rw [mean_scaled _ root_pos, mul_sub_of_pos _ root_pos]
  have hv : ∀ e, root * (z e - mean z) * (root * (z e - mean z)) = ((2 : ℝ) : EReal) * ((z e - mean z) * (z e - mean z)) := by
    intro e
    rw [mul_mul_mul_comm, root_mul_root]
  unfold norm
  simp only [hd, hv]
  rw [mean_scaled _ (by norm_num), ← mul_add_of_pos _ (by norm_num), rsqrt_scaled, mul_mul_mul_comm, root_mul_inv, one_mul]

/-! ## Both sides -/

/-- The kernel's row, and the reference's. -/
def kernelRow (x g y : Fin 1024 → EReal) (d : Fin 1024) : EReal := x d + (1 + g d) * inv * y d
def referenceRow (x g y : Fin 1024 → EReal) (d : Fin 1024) : EReal := root * x d + (1 + g d) * y d

theorem row_eq (x g y : Fin 1024 → EReal) (d : Fin 1024) : referenceRow x g y d = root * kernelRow x g y d := by
  unfold referenceRow kernelRow
  have h := mul_add_of_pos _ root_pos (x d) ((1 + g d) * inv * y d)
  change root * _ = root * _ + root * _ at h
  rw [h, mul_comm (1 + g d) inv, mul_assoc inv, ← mul_assoc root inv, root_mul_inv, one_mul]

def kernelOut (x g y lg lb : Fin 1024 → EReal) (d : Fin 1024) : EReal :=
  norm (Ideal.ofBits .f32 0x36A7C5AC#32) (kernelRow x g y) d * lg d + lb d
def referenceOut (x g y lg lb : Fin 1024 → EReal) (d : Fin 1024) : EReal :=
  norm (Ideal.ofBits .f32 0x3727C5AC#32) (referenceRow x g y) d * lg d + lb d

theorem out_eq (x g y lg lb : Fin 1024 → EReal) (d : Fin 1024) : referenceOut x g y lg lb d = kernelOut x g y lg lb d := by
  unfold referenceOut kernelOut
  rw [funext (row_eq x g y), eps, norm_scaled]

end Residual

end
-- ==== Proof.CombBlock.lean ====
/-
  A BLOCK OF THE COMBINATION: the body makes 256 rows at a time, four times over; here is what one time makes, and what it is at an element
  over the extended reals.
-/
module

public import proofs.«01_k».proof.Proof.Gen.Kernel3Ideal.Value
public import proofs.«01_k».proof.Proof.Residual
public import Idealize.ShloMosaic.Lib.Pointwise
public import Idealize.ShloMosaic.Lib.Pointwise.Tactic

@[expose] public section

set_option maxRecDepth 16384

noncomputable section

namespace Cert.Kernel3Ideal.Comb

open Cert.Kernel3Ideal Cert.Kernel3Ideal.Gen
open Idealize.ShloMosaic Idealize.ShloMosaic.TcCoe

section body

variable {F : FTy → Type} [FloatOps F] [Named F]

/-- 256 rows: from the two weights of each, the words of its two rows (in four chunks), the modulation row's last part, its activations and the norm's
    scale and offset. -/
def sub (a b : Vec F S1x256 .f32) (p q : Fin 4 → Vec F S256x128 .i32) (g : Vec F S1x1x1024 .f32) (x : Vec F S256x1024 .f32)
    (lg lb : Vec F S1x1024 .f32) : FVec F S256x1024 .f32 :=
  k0_pay5 (k0_pay2 b) (k0_pay3 a (p 0) (p 1) (p 2) (p 3)) (k0_pay4 (q 0) (q 1) (q 2) (q 3)) g x lg lb

variable (a b : Vec F S1x256 .f32) (p q : Fin 4 → Vec F S256x128 .i32) (g : Vec F S1x1x1024 .f32) (x : Vec F S256x1024 .f32)
    (lg lb : Vec F S1x1024 .f32)

/-- The body's three other spellings of the same. -/
theorem sub_second : k0_pay8 (k0_pay7 (k0_pay6 a) b (p 0) (p 1) (p 2) (p 3) (q 0) (q 1) (q 2) (q 3)) g x lg lb = sub a b p q g x lg lb := rfl
theorem sub_third : k0_pay12 (k0_pay10 (k0_pay9 a) b (p 0) (p 1) (p 2) (p 3) (q 0) (q 1) (q 2) (q 3)) (k0_pay11 g) x lg lb = sub a b p q g x lg lb := rfl
theorem sub_fourth : k0_pay1 (k0_pay15 (k0_pay13 a) (k0_pay14 b) (p 0) (p 1) (p 2) (p 3) (q 0) (q 1) (q 2) (q 3)) (k0_pay16 g) x (k0_pay17 lg) lb
    = sub a b p q g x lg lb := rfl

end body

/-! ## An element -/

/-- The words of row `i`, of its four chunks. -/
def words (p : Fin 4 → IVec S256x128 32) (i : Fin 256) (k : Fin 512) : BitVec 32 := p ⟨k.val / 128, by omega⟩ (ix2 i ⟨k.val % 128, Nat.mod_lt _ (by decide)⟩)

theorem named_inv : Named.named (F := Ideal) κ "inv_alpha" (φ := .f32) 0x3F3504F3#32 = Residual.inv :=
  IdealRules.named_const.ideal_named_scalar _ _ _ _ rfl

theorem weight_apply (b : Vec Ideal S1x256 .f32) (i : Fin 256) (d : Fin 1024) : k0_pay2 b (ix2 i d) = b (ix2 0 i) := by
  pointwise [k0_pay2]
  simp only [dite_eq_ite, ite_self]

theorem unpack_apply (p : Fin 4 → IVec S256x128 32) (i : Fin 256) (d : Fin 1024) :
    k0_pay4 (F := Ideal) (p 0) (p 1) (p 2) (p 3) (ix2 i d) = Residual.unpack (words p i) d := by
  have key : ∀ (u v : Fin 4) (c c' : Fin 128), u.val = v.val → c.val = c'.val → p u (ix2 i c) = p v (ix2 i c') := by
    intro u v c c' h h'; rw [Fin.ext h, Fin.ext h']
  have pick : ∀ (e : ℕ) (he : e < 512), (if h : e < 128 then p 0 (ix2 i ⟨e, h⟩) else if h : e - 128 < 128 then p 1 (ix2 i ⟨e - 128, h⟩)
      else if h : e - 128 - 128 < 128 then p 2 (ix2 i ⟨e - 128 - 128, h⟩) else p 3 (ix2 i ⟨e - 128 - 128 - 128, by omega⟩)) = words p i ⟨e, he⟩ := by
    intro e he
    unfold words
    split
    · exact key _ _ _ _ (show 0 = e / 128 by omega) (show e = e % 128 by omega)
    · split
      · exact key _ _ _ _ (show 1 = e / 128 by omega) (show e - 128 = e % 128 by omega)
      · split
        · exact key _ _ _ _ (show 2 = e / 128 by omega) (show e - 128 - 128 = e % 128 by omega)
        · exact key _ _ _ _ (show 3 = e / 128 by omega) (show e - 128 - 128 - 128 = e % 128 by omega)
  pointwise [k0_pay4]
  unfold Residual.unpack
  split
  · rename_i h
    rw [pick d.val h]
    rfl
  · rw [pick (d.val - 512) (by omega)]
    rfl

theorem norm_apply (v9 v22 v34 : FVec Ideal S256x1024 .f32) (g : Vec Ideal S1x1x1024 .f32) (x : Vec Ideal S256x1024 .f32)
    (lg lb : Vec Ideal S1x1024 .f32) (i : Fin 256) (d : Fin 1024) :
    k0_pay5 v9 v22 v34 g x lg lb (ix2 i d)
      = Residual.kernelOut (fun e => x (ix2 i e)) (fun e => g (ix3 0 0 e)) (fun e => v22 (ix2 i e) + v9 (ix2 i e) * v34 (ix2 i e))
          (fun e => lg (ix2 0 e)) (fun e => lb (ix2 0 e)) d := by
  pointwise [k0_pay5]
  rw [named_inv]
  rfl

/-- An element of the 256 rows. -/
theorem sub_apply (a b : Vec Ideal S1x256 .f32) (p q : Fin 4 → IVec S256x128 32) (g : Vec Ideal S1x1x1024 .f32) (x : Vec Ideal S256x1024 .f32)
    (lg lb : Vec Ideal S1x1024 .f32) (i : Fin 256) (d : Fin 1024) :
    sub (F := Ideal) a b p q g x lg lb (ix2 i d)
      = Residual.kernelOut (fun e => x (ix2 i e)) (fun e => g (ix3 0 0 e)) (Residual.mix (a (ix2 0 i)) (b (ix2 0 i)) (words p i) (words q i))
          (fun e => lg (ix2 0 e)) (fun e => lb (ix2 0 e)) d := by
  have hy : ∀ e, k0_pay3 (F := Ideal) a (p 0) (p 1) (p 2) (p 3) (ix2 i e) = a (ix2 0 i) * Residual.unpack (words p i) e := by
    intro e
    refine Eq.trans (b := k0_pay2 a (ix2 i e) * k0_pay4 (F := Ideal) (p 0) (p 1) (p 2) (p 3) (ix2 i e)) rfl ?_
    rw [weight_apply, unpack_apply]
  unfold sub
  rw [norm_apply]
  refine congrArg (fun y => Residual.kernelOut _ _ y _ _ d) (funext fun e => ?_)
  rw [hy, weight_apply, unpack_apply]
  rfl

end Cert.Kernel3Ideal.Comb

end
-- ==== Proof.CombPoint.lean ====
/-
  A GRID POINT OF THE COMBINATION: what the body loads of its seven arrays, and that its four stores leave the 1024 rows of its block,
  each element as Residual.lean says.
-/
module

public import proofs.«01_k».proof.Proof.CombBlock
public import Idealize.ShloMosaic.Lib.WholeRead
public import Idealize.ShloMosaic.Lib.Writes

@[expose] public section

set_option maxRecDepth 16384

noncomputable section

namespace Cert.Kernel3Ideal.Comb

open Cert.Kernel3Ideal Cert.Kernel3Ideal.Gen
open Idealize.ShloMosaic Idealize.ShloMosaic.TcCoe

theorem inbW (k : Fin 2) (r : Fin 4) : ∀ a, (![k.val, 256 * r.val] : Fin 2 → ℕ) a + S1x256.size a ≤ S2x1024.size a := by
  revert k r; decide
theorem inbX (r : Fin 4) : ∀ a, (![256 * r.val, 0] : Fin 2 → ℕ) a + S256x1024.size a ≤ S1024x1024.size a := by
  revert r; decide

/-- The rows of the four parts of a block. -/
abbrev rX (r : Fin 4) : Rect S1024x1024 := Rect.unit ![256 * r.val, 0] S256x1024.size (inbX r)

section body

variable {F : FTy → Type} [FloatOps F] [Named F]

/-- Chunk `c` of the words of part `r`'s rows. -/
def chunk (x : IVec S4096x128 32) (r c : Fin 4) : IVec S256x128 32 := fun j =>
  x (ix2 ⟨1024 * r.val + c.val + 4 * (j 0).val, by have : (j 0).val < 256 := (j 0).isLt; omega⟩ (j 1))

/-- Part `r`'s rows. -/
def part (x0 : Vec F S2x1024 .f32) (x1 : Vec F S1024x1024 .f32) (x2 : Vec F S1x1x6144 .f32) (x3 x4 : Vec F S1x1024 .f32) (x5 x6 : IVec S4096x128 32)
    (r : Fin 4) : FVec F S256x1024 .f32 :=
  sub (View.ld x0 (Rect.unit (s := S2x1024) ![0, 256 * r.val] S1x256.size (inbW 0 r))) (View.ld x0 (Rect.unit (s := S2x1024) ![1, 256 * r.val] S1x256.size (inbW 1 r)))
    (chunk x5 r) (chunk x6 r) (View.ld x2 (Rect.unit (s := S1x1x6144) ![0, 0, 5120] S1x1x1024.size inb_S1x1x6144_S1x1x1024_0_0_5120)) (View.ld x1 (rX r)) x3 x4

theorem load_chunk {m : Memref sig .tc .vmem S4096x128 .i32} (h : m.IsWhole) (x : Vec F S4096x128 .i32) (r c : Fin 4) (inb) :
    View.readAt (Elt F) m.view (⟨![1024 * r.val + c.val, 0], S256x128.size, ![4, 1], inb⟩ : LoadRect S4096x128) (h.unread x) = chunk x r c := by
  funext j
  refine (h.readAt_unread x _ j).trans (congrArg x (funext fun a => Fin.ext ?_))
  match a with
  | ⟨0, _⟩ => rfl
  | ⟨1, _⟩ => show 0 + 1 * (j 1).val = (j 1).val; omega

theorem load_row {m : Memref sig .tc .vmem S1x1024 .f32} (h : m.IsWhole) (x : Vec F S1x1024 .f32) (inb) :
    View.readAt (Elt F) m.view (Rect.unit (s := S1x1024) ![0, 0] S1x1024.size inb).toLoadRect (h.unread x) = x := by
  funext j
  refine (h.readAt_unread x _ j).trans (congrArg x (funext fun a => Fin.ext ?_))
  match a with
  | ⟨0, _⟩ => show 0 + 1 * (j 0).val = (j 0).val; omega
  | ⟨1, _⟩ => show 0 + 1 * (j 1).val = (j 1).val; omega

theorem load_rect {s : Shape} {e : EltTy} {m : Memref sig .tc .vmem s e} (h : m.IsWhole) (x : Vec F s e) (R : Rect s) :
    View.readAt (Elt F) m.view R.toLoadRect (h.unread x) = View.ld x R := by
  rw [View.readAt_eq_ld, h.read_unread]

variable (c : Dev nD) (i : grid0.Coords) (arg1 : Memref sig .tc .vmem S2x1024 .f32) (harg1 : arg1.IsWhole) (arg2 : Memref sig .tc .vmem S1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S4096x128 .i32) (harg6 : arg6.IsWhole) (arg7 : Memref sig .tc .vmem S4096x128 .i32) (harg7 : arg7.IsWhole) (arg8 : Memref sig .tc .vmem S1024x1024 .f32) (harg8 : arg8.IsWhole)
    (x0 : Vec F S2x1024 .f32) (x1 : Vec F S1024x1024 .f32) (x2 : Vec F S1x1x6144 .f32) (x3 : Vec F S1x1024 .f32) (x4 : Vec F S1x1024 .f32) (x5 : Vec F S4096x128 .i32) (x6 : Vec F S4096x128 .i32)

theorem inbP (r c : Fin 4) : ∀ a, S256x128.size a = 0
    ∨ (![1024 * r.val + c.val, 0] : Fin 2 → ℕ) a + (![4, 1] : Fin 2 → ℕ) a * (S256x128.size a - 1) < S4096x128.size a := by
  revert r c; decide

/-- Part `r` of the loads. -/
def loaded (r : Fin 4) : FVec F S256x1024 .f32 :=
  sub (arg1.view.readAt (Elt F) (Rect.unit (s := S2x1024) ![0, 256 * r.val] S1x256.size (inbW 0 r)).toLoadRect (harg1.unread x0))
    (arg1.view.readAt (Elt F) (Rect.unit (s := S2x1024) ![1, 256 * r.val] S1x256.size (inbW 1 r)).toLoadRect (harg1.unread x0))
    (fun c => arg6.view.readAt (Elt F) (⟨![1024 * r.val + c.val, 0], S256x128.size, ![4, 1], inbP r c⟩ : LoadRect S4096x128) (harg6.unread x5))
    (fun c => arg7.view.readAt (Elt F) (⟨![1024 * r.val + c.val, 0], S256x128.size, ![4, 1], inbP r c⟩ : LoadRect S4096x128) (harg7.unread x6))
    (arg3.view.readAt (Elt F) (Rect.unit (s := S1x1x6144) ![0, 0, 5120] S1x1x1024.size inb_S1x1x6144_S1x1x1024_0_0_5120).toLoadRect (harg3.unread x2))
    (arg2.view.readAt (Elt F) (rX r).toLoadRect (harg2.unread x1))
    (arg4.view.readAt (Elt F) (Rect.unit (s := S1x1024) ![0, 0] S1x1024.size inb_S1x1024_S1x1024_0_0).toLoadRect (harg4.unread x3))
    (arg5.view.readAt (Elt F) (Rect.unit (s := S1x1024) ![0, 0] S1x1024.size inb_S1x1024_S1x1024_0_0).toLoadRect (harg5.unread x4))

theorem loaded_eq (r : Fin 4) : loaded arg1 harg1 arg2 harg2 arg3 harg3 arg4 harg4 arg5 harg5 arg6 harg6 arg7 harg7 x0 x1 x2 x3 x4 x5 x6 r
    = part x0 x1 x2 x3 x4 x5 x6 r := by
  unfold loaded part
  congr 1
  · exact load_rect harg1 x0 _
  · exact load_rect harg1 x0 _
  · exact funext fun c => load_chunk harg6 x5 r c _
  · exact funext fun c => load_chunk harg7 x6 r c _
  · exact load_rect harg3 x2 _
  · exact load_rect harg2 x1 _
  · exact load_row harg4 x3 _
  · exact load_row harg5 x4 _

theorem stores :
    (kernelRun0_A c i arg1 harg1 arg2 harg2 arg3 harg3 arg4 harg4 arg5 harg5 arg6 harg6 arg7 harg7 arg8 harg8 x0 x1 x2 x3 x4 x5 x6).1
      = [⟨rX 3, loaded arg1 harg1 arg2 harg2 arg3 harg3 arg4 harg4 arg5 harg5 arg6 harg6 arg7 harg7 x0 x1 x2 x3 x4 x5 x6 3⟩,
        ⟨rX 2, loaded arg1 harg1 arg2 harg2 arg3 harg3 arg4 harg4 arg5 harg5 arg6 harg6 arg7 harg7 x0 x1 x2 x3 x4 x5 x6 2⟩,
        ⟨rX 1, loaded arg1 harg1 arg2 harg2 arg3 harg3 arg4 harg4 arg5 harg5 arg6 harg6 arg7 harg7 x0 x1 x2 x3 x4 x5 x6 1⟩,
        ⟨rX 0, loaded arg1 harg1 arg2 harg2 arg3 harg3 arg4 harg4 arg5 harg5 arg6 harg6 arg7 harg7 x0 x1 x2 x3 x4 x5 x6 0⟩] := rfl

end body

/-! ## The block at an element, over the extended reals -/

/-- The words of row `i` of a block: four lines of 128. -/
def lineWords (x : IVec S4096x128 32) (i : Fin 1024) (k : Fin 512) : BitVec 32 :=
  x (ix2 ⟨4 * i.val + k.val / 128, by omega⟩ ⟨k.val % 128, Nat.mod_lt _ (by decide)⟩)

variable (x0 : Vec Ideal S2x1024 .f32) (x1 : Vec Ideal S1024x1024 .f32) (x2 : Vec Ideal S1x1x6144 .f32) (x3 x4 : Vec Ideal S1x1024 .f32)
  (x5 x6 : IVec S4096x128 32)

/-- What a point leaves at row `i` and lane `d` of its block. -/
def elem (i d : Fin 1024) : EReal :=
  Residual.kernelOut (fun e => x1 (ix2 i e)) (fun e => x2 (ix3 0 0 ⟨5120 + e.val, by omega⟩))
    (Residual.mix (x0 (ix2 0 i)) (x0 (ix2 1 i)) (lineWords x5 i) (lineWords x6 i)) (fun e => x3 (ix2 0 e)) (fun e => x4 (ix2 0 e)) d

theorem words_chunk (x : IVec S4096x128 32) (r : Fin 4) (i : Fin 256) :
    words (chunk x r) i = lineWords x ⟨256 * r.val + i.val, by omega⟩ := by
  funext k
  unfold words lineWords chunk
  refine congrArg x (funext fun a => Fin.ext ?_)
  match a with
  | ⟨0, _⟩ => show 1024 * r.val + k.val / 128 + 4 * i.val = 4 * (256 * r.val + i.val) + k.val / 128; omega
  | ⟨1, _⟩ => rfl

theorem ld2 {n₀ n₁ m₀ m₁ : ℕ} {e : EltTy} (x : Vec Ideal ⟨2, ![n₀, n₁]⟩ e) (o₀ o₁ : ℕ) (inb) (i : Fin m₀) (j : Fin m₁) (i' : Fin n₀) (j' : Fin n₁)
    (h : o₀ + i.val = i'.val) (h' : o₁ + j.val = j'.val) :
    View.ld x (Rect.unit (s := ⟨2, ![n₀, n₁]⟩) ![o₀, o₁] ![m₀, m₁] inb) (ix2 i j) = x (ix2 i' j') := by
  refine congrArg x (funext fun a => Fin.ext ?_)
  match a with
  | ⟨0, _⟩ => show o₀ + 1 * i.val = i'.val; omega
  | ⟨1, _⟩ => show o₁ + 1 * j.val = j'.val; omega

theorem part_apply (r : Fin 4) (i : Fin 256) (d : Fin 1024) :
    part (F := Ideal) x0 x1 x2 x3 x4 x5 x6 r (ix2 i d) = elem x0 x1 x2 x3 x4 x5 x6 ⟨256 * r.val + i.val, by omega⟩ d := by
  unfold part elem
  rw [sub_apply, words_chunk, words_chunk]
  have hx : (fun e => View.ld x1 (rX r) (ix2 i e)) = fun e => x1 (ix2 ⟨256 * r.val + i.val, by omega⟩ e) :=
    funext fun e => ld2 x1 _ _ (inbX r) i e _ _ rfl (Nat.zero_add _)
  have hg : (fun e => View.ld x2 (Rect.unit (s := S1x1x6144) ![0, 0, 5120] S1x1x1024.size inb_S1x1x6144_S1x1x1024_0_0_5120) (ix3 0 0 e))
      = fun e : Fin 1024 => x2 (ix3 0 0 ⟨5120 + e.val, by omega⟩) := by
    funext e
    refine congrArg x2 (funext fun a => Fin.ext ?_)
    match a with
    | ⟨0, _⟩ => rfl
    | ⟨1, _⟩ => rfl
    | ⟨2, _⟩ => show 5120 + 1 * e.val = 5120 + e.val; omega
  have h0 : View.ld x0 (Rect.unit (s := S2x1024) ![0, 256 * r.val] S1x256.size (inbW 0 r)) (ix2 0 i) = x0 (ix2 0 ⟨256 * r.val + i.val, by omega⟩) :=
    ld2 x0 _ _ (inbW 0 r) 0 i _ _ rfl rfl
  have h1 : View.ld x0 (Rect.unit (s := S2x1024) ![1, 256 * r.val] S1x256.size (inbW 1 r)) (ix2 0 i) = x0 (ix2 1 ⟨256 * r.val + i.val, by omega⟩) :=
    ld2 x0 _ _ (inbW 1 r) 0 i _ _ rfl rfl
  rw [hx, hg, h0, h1]

/-- What a point leaves, row by row. -/
def block : Vec Ideal S1024x1024 .f32 := fun j => elem x0 x1 x2 x3 x4 x5 x6 (j 0) (j 1)

theorem part_at (r : Fin 4) (y : S256x1024.Idx) :
    part (F := Ideal) x0 x1 x2 x3 x4 x5 x6 r y = block x0 x1 x2 x3 x4 x5 x6 ((rX r).emb y) := by
  have hy : y = ix2 (y 0) (y 1) := by
    funext a
    match a with
    | ⟨0, _⟩ => rfl
    | ⟨1, _⟩ => rfl
  refine (congrArg (part x0 x1 x2 x3 x4 x5 x6 r) hy).trans ((part_apply x0 x1 x2 x3 x4 x5 x6 r (y 0) (y 1)).trans ?_)
  unfold block
  congr 1
  · exact Fin.ext (show 256 * r.val + (y 0).val = 256 * r.val + 1 * (y 0).val by omega)
  · exact Fin.ext (show (y 1).val = 0 + 1 * (y 1).val by omega)

theorem out_eq (c : Dev nD) (i : grid0.Coords) (arg1 : Memref sig .tc .vmem S2x1024 .f32) (harg1 : arg1.IsWhole) (arg2 : Memref sig .tc .vmem S1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S4096x128 .i32) (harg6 : arg6.IsWhole) (arg7 : Memref sig .tc .vmem S4096x128 .i32) (harg7 : arg7.IsWhole) (arg8 : Memref sig .tc .vmem S1024x1024 .f32) (harg8 : arg8.IsWhole) :
    out0_A_7 (F := Ideal) c i arg1 harg1 arg2 harg2 arg3 harg3 arg4 harg4 arg5 harg5 arg6 harg6 arg7 harg7 arg8 harg8 x0 x1 x2 x3 x4 x5 x6
      = block x0 x1 x2 x3 x4 x5 x6 := by
  unfold out0_A_7
  rw [stores]
  simp only [loaded_eq]
  refine funext fun y => View.read_writes_apply_of_pieces _ _ (block x0 x1 x2 x3 x4 x5 x6) _ (fun p hp => ?_) y ?_
  · simp only [List.mem_cons, List.not_mem_nil, or_false] at hp
    rcases hp with rfl | rfl | rfl | rfl <;> intro x
    · exact part_at x0 x1 x2 x3 x4 x5 x6 3 x
    · exact part_at x0 x1 x2 x3 x4 x5 x6 2 x
    · exact part_at x0 x1 x2 x3 x4 x5 x6 1 x
    · exact part_at x0 x1 x2 x3 x4 x5 x6 0 x
  · have h0 : (y 0).val < 1024 := (y 0).isLt
    have h1 : (y 1).val < 1024 := (y 1).isLt
    have key : ∀ r : Fin 4, (y 0).val / 256 = r.val → y ∈ (rX r).set := by
      intro r hr
      refine Rect.mem_set_unit.mpr fun a => ?_
      match a with
      | ⟨0, _⟩ => show 256 * r.val ≤ (y 0).val ∧ (y 0).val < 256 * r.val + 256; omega
      | ⟨1, _⟩ => show 0 ≤ (y 1).val ∧ (y 1).val < 0 + 1024; omega
    rcases (by omega : (y 0).val / 256 = 3 ∨ (y 0).val / 256 = 2 ∨ (y 0).val / 256 = 1 ∨ (y 0).val / 256 = 0) with h | h | h | h
    · exact ⟨_, List.mem_cons_self, key 3 h⟩
    · exact ⟨_, List.mem_cons_of_mem _ (List.mem_cons_self), key 2 h⟩
    · exact ⟨_, List.mem_cons_of_mem _ (List.mem_cons_of_mem _ (List.mem_cons_self)), key 1 h⟩
    · exact ⟨_, List.mem_cons_of_mem _ (List.mem_cons_of_mem _ (List.mem_cons_of_mem _ (List.mem_cons_self))), key 0 h⟩

end Cert.Kernel3Ideal.Comb

end
-- ==== Proof.CombArray.lean ====
/-
  THE COMBINATION'S RESULT, as a function of the arguments: what each grid point's windows hold of them, and that the sixteen blocks
  the points write make up the result.
-/
module

public import proofs.«01_k».proof.Proof.CombPoint
public import proofs.«01_k».proof.Proof.Gen.Kernel3Ideal.Value
public import Idealize.ShloMosaic.Lib.Pipeline.Value

@[expose] public section

set_option maxRecDepth 16384

noncomputable section

namespace Cert.Kernel3Ideal.Comb

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments: the router's weights, the activations, the modulation rows, the layer norm's two vectors, and the words of the
    gathered rows. -/
abbrev wtsA (c : Dev nD) : Vec Ideal S2x16384 .f32 := m ((c : Thread nD τ).loc main_arg0)
abbrev xA (c : Dev nD) : Vec Ideal S16384x1024 .f32 := m ((c : Thread nD τ).loc main_arg1)
abbrev gA (c : Dev nD) : Vec Ideal S2x1x6144 .f32 := m ((c : Thread nD τ).loc main_arg2)
abbrev lgA (c : Dev nD) : Vec Ideal S1024 .f32 := m ((c : Thread nD τ).loc main_arg3)
abbrev lbA (c : Dev nD) : Vec Ideal S1024 .f32 := m ((c : Thread nD τ).loc main_arg4)
abbrev wordsA (c : Dev nD) : IVec S131072x128 32 := m ((c : Thread nD τ).loc main_arg5)

/-- The words of the row that token `i`'s expert of rank `e` made: four lines of 128. -/
def rowWords (x : IVec S131072x128 32) (e : Fin 2) (i : Fin 16384) (k : Fin 512) : BitVec 32 :=
  x (ix2 ⟨4 * (16384 * e.val + i.val) + k.val / 128, by omega⟩ ⟨k.val % 128, Nat.mod_lt _ (by decide)⟩)

/-- The result, an element at a time. -/
def elemA (wts : Vec Ideal S2x16384 .f32) (x : Vec Ideal S16384x1024 .f32) (g : Vec Ideal S2x1x6144 .f32) (lg lb : Vec Ideal S1024 .f32)
    (w : IVec S131072x128 32) (i : Fin 16384) (d : Fin 1024) : EReal :=
  Residual.kernelOut (fun e => x (ix2 i e)) (fun e => g (ix3 ⟨i.val / 8192, by omega⟩ 0 ⟨5120 + e.val, by omega⟩))
    (Residual.mix (wts (ix2 0 i)) (wts (ix2 1 i)) (rowWords w 0 i) (rowWords w 1 i)) (fun e => lg (ix1 e)) (fun e => lb (ix1 e)) d

def resultA (c : Dev nD) : Vec Ideal S16384x1024 .f32 := fun j =>
  elemA (wtsA m c) (xA m c) (gA m c) (lgA m c) (lbA m c) (wordsA m c) (j 0) (j 1)

/-! ## The windows -/

theorem pt_lt (t : Fin cfg0.N) : t.val < 16 := lt_of_lt_of_eq t.isLt N_0

/-- Row `i` of grid point `t`. -/
def rowAt (t : Fin cfg0.N) (i : Fin 1024) : Fin 16384 := ⟨1024 * t.val + i.val, by have := pt_lt t; omega⟩

theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 16 + t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- The seven windows' blocks at a point. -/
abbrev b0 (c : Dev nD) (t : Fin cfg0.N) : Vec Ideal S2x1024 .f32 := iblk m c 0 t
abbrev b1 (c : Dev nD) (t : Fin cfg0.N) : Vec Ideal S1024x1024 .f32 := iblk m c 1 t
abbrev b2 (c : Dev nD) (t : Fin cfg0.N) : Vec Ideal S1x1x6144 .f32 := iblk m c 2 t
abbrev b3 (c : Dev nD) (t : Fin cfg0.N) : Vec Ideal S1x1024 .f32 := iblk m c 3 t
abbrev b4 (c : Dev nD) (t : Fin cfg0.N) : Vec Ideal S1x1024 .f32 := iblk m c 4 t
abbrev b5 (c : Dev nD) (t : Fin cfg0.N) : IVec S4096x128 32 := iblk m c 5 t
abbrev b6 (c : Dev nD) (t : Fin cfg0.N) : IVec S4096x128 32 := iblk m c 6 t

theorem window0 (c : Dev nD) (t : Fin cfg0.N) (e : Fin 2) (i : Fin 1024) : b0 m c t (ix2 e i) = wtsA m c (ix2 e (rowAt t i)) := by
  obtain ⟨h0, h1⟩ := index0 t
  unfold b0 iblk
  refine (congrFun (V_main_arg0 m c) _).trans (congrArg (m (c.tc.loc main_arg0)) (funext fun a => Fin.ext ?_))
  match a with
  | ⟨0, _⟩ => show win0_0.index t (0 : Fin 2) * 2 + 1 * e.val = e.val; rw [h0]; omega
  | ⟨1, _⟩ => show win0_0.index t (1 : Fin 2) * 1024 + 1 * i.val = 1024 * t.val + i.val; rw [h1]; omega

theorem window1 (c : Dev nD) (t : Fin cfg0.N) (i d : Fin 1024) : b1 m c t (ix2 i d) = xA m c (ix2 (rowAt t i) d) := by
  obtain ⟨h0, h1⟩ := index1 t
  unfold b1 iblk
  refine (congrFun (V_main_arg1 m c) _).trans (congrArg (m (c.tc.loc main_arg1)) (funext fun a => Fin.ext ?_))
  match a with
  | ⟨0, _⟩ => show win0_1.index t (0 : Fin 2) * 1024 + 1 * i.val = 1024 * t.val + i.val; rw [h0]; omega
  | ⟨1, _⟩ => show win0_1.index t (1 : Fin 2) * 1024 + 1 * d.val = d.val; rw [h1]; omega

theorem window2 (c : Dev nD) (t : Fin cfg0.N) (i : Fin 1024) (d : Fin 6144) :
    b2 m c t (ix3 0 0 d) = gA m c (ix3 ⟨(rowAt t i).val / 8192, by omega⟩ 0 d) := by
  obtain ⟨h0, h1, h2⟩ := index2 t
  unfold b2 iblk
  refine (congrFun (V_main_arg2 m c) _).trans (congrArg (m (c.tc.loc main_arg2)) (funext fun a => Fin.ext ?_))
  match a with
  | ⟨0, _⟩ => show win0_2.index t (0 : Fin 3) * 1 + 1 * 0 = (1024 * t.val + i.val) / 8192; rw [h0]; omega
  | ⟨1, _⟩ => show win0_2.index t (1 : Fin 3) * 1 + 1 * 0 = 0; rw [h1]
  | ⟨2, _⟩ => show win0_2.index t (2 : Fin 3) * 6144 + 1 * d.val = d.val; rw [h2]; omega

/-- The layer norm's two vectors reach their windows as one row each. -/
theorem V_main_v0 (c : Dev nD) : V m c main_v0 = shapeCast S1x1024 (lgA m c) shapeCasts_S1024_S1x1024 := by
  show StableHlo.after hostOps0 (fun b => m (c, b)) main_v0 = _
  simp only [hostOps0]
  after_results_simp <;> rfl
theorem V_main_v1 (c : Dev nD) : V m c main_v1 = shapeCast S1x1024 (lbA m c) shapeCasts_S1024_S1x1024 := by
  show StableHlo.after hostOps0 (fun b => m (c, b)) main_v1 = _
  simp only [hostOps0]
  after_results_simp <;> rfl

theorem asRow (x : Vec Ideal S1024 .f32) (d : Fin 1024) : shapeCast S1x1024 x shapeCasts_S1024_S1x1024 (ix2 0 d) = x (ix1 d) :=
  shapeCast_apply x shapeCasts_S1024_S1x1024 (ix2 0 d) (ix1 d) (by
    refine (Shape.rowMajor_val_one _).trans (Eq.trans ?_ (Shape.rowMajor_val_two _).symm)
    show d.val = 0 * 1024 + d.val
    omega)

theorem window3 (c : Dev nD) (t : Fin cfg0.N) (d : Fin 1024) : b3 m c t (ix2 0 d) = lgA m c (ix1 d) := by
  obtain ⟨h0, h1⟩ := index3 t
  refine Eq.trans ?_ (asRow (lgA m c) d)
  rw [← V_main_v0]
  unfold b3 iblk
  refine congrArg (V m c main_v0) (funext fun a => Fin.ext ?_)
  match a with
  | ⟨0, _⟩ => show win0_3.index t (0 : Fin 2) * 1 + 1 * 0 = 0; rw [h0]
  | ⟨1, _⟩ => show win0_3.index t (1 : Fin 2) * 1024 + 1 * d.val = d.val; rw [h1]; omega

theorem window4 (c : Dev nD) (t : Fin cfg0.N) (d : Fin 1024) : b4 m c t (ix2 0 d) = lbA m c (ix1 d) := by
  obtain ⟨h0, h1⟩ := index4 t
  refine Eq.trans ?_ (asRow (lbA m c) d)
  rw [← V_main_v1]
  unfold b4 iblk
  refine congrArg (V m c main_v1) (funext fun a => Fin.ext ?_)
  match a with
  | ⟨0, _⟩ => show win0_4.index t (0 : Fin 2) * 1 + 1 * 0 = 0; rw [h0]
  | ⟨1, _⟩ => show win0_4.index t (1 : Fin 2) * 1024 + 1 * d.val = d.val; rw [h1]; omega

theorem window5 (c : Dev nD) (t : Fin cfg0.N) (i : Fin 1024) : lineWords (b5 m c t) i = rowWords (wordsA m c) 0 (rowAt t i) := by
  obtain ⟨h0, h1⟩ := index5 t
  funext k
  unfold lineWords rowWords b5 iblk
  refine (congrFun (V_main_arg5 m c) _).trans (congrArg (m (c.tc.loc main_arg5)) (funext fun a => Fin.ext ?_))
  match a with
  | ⟨0, _⟩ =>
    show win0_5.index t (0 : Fin 2) * 4096 + 1 * (4 * i.val + k.val / 128) = 4 * (16384 * 0 + (1024 * t.val + i.val)) + k.val / 128
    rw [h0]; omega
  | ⟨1, _⟩ => show win0_5.index t (1 : Fin 2) * 128 + 1 * (k.val % 128) = k.val % 128; rw [h1]; omega

theorem window6 (c : Dev nD) (t : Fin cfg0.N) (i : Fin 1024) : lineWords (b6 m c t) i = rowWords (wordsA m c) 1 (rowAt t i) := by
  obtain ⟨h0, h1⟩ := index6 t
  funext k
  unfold lineWords rowWords b6 iblk
  refine (congrFun (V_main_arg5 m c) _).trans (congrArg (m (c.tc.loc main_arg5)) (funext fun a => Fin.ext ?_))
  match a with
  | ⟨0, _⟩ =>
    show win0_6.index t (0 : Fin 2) * 4096 + 1 * (4 * i.val + k.val / 128) = 4 * (16384 * 1 + (1024 * t.val + i.val)) + k.val / 128
    rw [h0]; omega
  | ⟨1, _⟩ => show win0_6.index t (1 : Fin 2) * 128 + 1 * (k.val % 128) = k.val % 128; rw [h1]; omega

/-- An element of a point's block is the result's at its row. -/
theorem elem_eq (c : Dev nD) (t : Fin cfg0.N) (i d : Fin 1024) :
    elem (b0 m c t) (b1 m c t) (b2 m c t) (b3 m c t) (b4 m c t) (b5 m c t) (b6 m c t) i d
      = elemA (wtsA m c) (xA m c) (gA m c) (lgA m c) (lbA m c) (wordsA m c) (rowAt t i) d := by
  unfold elem elemA
  rw [window0, window0, window5, window6]
  simp only [window1, window3, window4]
  congr 1
  funext e
  exact window2 m c t i _

/-! ## From the blocks to the array -/

/-- The point that writes row `i`, -/
def pointOf (i : Fin 16384) : Fin cfg0.N := ⟨i.val / 1024, lt_of_lt_of_eq (by omega) N_0.symm⟩

/-- and where element `y` of a point's block lies in the result. -/
def at7 (t : Fin cfg0.N) (y : S1024x1024.Idx) : S16384x1024.Idx := ((cfg0.win 7).blk t).view.emb y

theorem at7_eq (t : Fin cfg0.N) (y : S1024x1024.Idx) : at7 t y = (ix2 (rowAt t (y 0)) (y 1) : S16384x1024.Idx) := by
  obtain ⟨h0, h1⟩ := index7 t
  funext a
  apply Fin.ext
  match a with
  | ⟨0, _⟩ => show win0_7.index t (0 : Fin 2) * 1024 + 1 * (y 0).val = 1024 * t.val + (y 0).val; rw [h0]; omega
  | ⟨1, _⟩ => show win0_7.index t (1 : Fin 2) * 1024 + 1 * (y 1).val = (y 1).val; rw [h1]; omega

/-- What a point writes back is its block of the result. -/
theorem flushed7_eq (c : Dev nD) (t : Fin cfg0.N) (_ : (cfg0.win 7).flush t = true) :
    (dats m 0 c).flushed 7 t = ((cfg0.win 7).blk t).view.read (Elt Ideal) (resultA m c) := by
  refine (Value.flushed7_A m c t).trans ?_
  refine (congrArg ((cfg0.win 7).cut (grid0.coords t)) (out_eq (b0 m c t) (b1 m c t) (b2 m c t) (b3 m c t) (b4 m c t) (b5 m c t) (b6 m c t) c
    (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t))).trans ?_
  refine funext fun (y : S1024x1024.Idx) => ?_
  show elem (b0 m c t) (b1 m c t) (b2 m c t) (b3 m c t) (b4 m c t) (b5 m c t) (b6 m c t) (y 0) (y 1) = resultA m c (at7 t y)
  rw [at7_eq]
  exact elem_eq m c t (y 0) (y 1)

theorem mem_slice (r : Rect main_v2.ty.shape) (i : main_v2.ty.Idx) (h : i ∈ r.set) : i ∈ ((View.whole main_v2).slice r).set := by
  rw [View.set_slice_whole]
  exact h

/-- Every element of the result is in some point's block. -/
theorem covered7 (i : S16384x1024.Idx) : ∃ t : Fin cfg0.N, (cfg0.win 7).flush t = true ∧ i ∈ ((cfg0.win 7).blk t).view.set := by
  refine ⟨pointOf (i 0), flush0_7 _, ?_⟩
  refine mem_slice ((cfg0.win 7).rect (pointOf (i 0))) i (Rect.mem_set_unit.mpr fun a => ?_)
  have hi0 : (i 0).val < 16384 := (i 0).isLt
  have hi1 : (i 1).val < 1024 := (i 1).isLt
  obtain ⟨h0, h1⟩ := index7 (pointOf (i 0))
  match a with
  | ⟨0, _⟩ =>
    show win0_7.index (pointOf (i 0)) (0 : Fin 2) * 1024 ≤ (i 0).val ∧ (i 0).val < win0_7.index (pointOf (i 0)) (0 : Fin 2) * 1024 + 1024
    rw [h0]
    show (i 0).val / 1024 * 1024 ≤ (i 0).val ∧ (i 0).val < (i 0).val / 1024 * 1024 + 1024
    omega
  | ⟨1, _⟩ =>
    show win0_7.index (pointOf (i 0)) (1 : Fin 2) * 1024 ≤ (i 1).val ∧ (i 1).val < win0_7.index (pointOf (i 0)) (1 : Fin 2) * 1024 + 1024
    rw [h1]
    omega

/-- The points' blocks make up the result. -/
theorem final7 (c : Dev nD) : (dats m 0 c).arrAt 7 cfg0.N = resultA m c :=
  (dats m 0 c).arrAt_eq_of_cover 7 _ (fun t hf => flushed7_eq m c t hf) covered7

/-- Every run ends with the result there and the arguments as they began. -/
theorem run : θ_run defs (onTc (τ := τ) (main (F := Ideal))) ⟨m, fun _ => 0, ρ⟩ (fun r => ∀ c : Dev nD,
      r.2.mem ((c : Thread nD τ).loc main_v2) = resultA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (final7 m c), (h c).2⟩) (Value.run_blocks (F := Ideal) m ρ)

end Cert.Kernel3Ideal.Comb

end
-- ==== Proof.CombRef.lean ====
/-
  THE COMBINATION'S REFERENCE, its own terms named and read over the extended reals.
-/
module

public import proofs.«01_k».proof.Proof.Gen.Reference3Ideal.Run
public import proofs.«01_k».proof.Proof.Residual
public import Idealize.ShloMosaic.Lib.Pointwise
public import Idealize.ShloMosaic.PureOps.Ideal.Laws

@[expose] public section

set_option maxRecDepth 16384

noncomputable section

namespace Cert.Reference3Ideal.Comb

open Cert.Reference3Ideal Cert.Reference3Ideal.Gen
open Idealize.ShloMosaic Idealize.ShloMosaic.TcCoe

/-- The words, each of the two rows of a token; -/
def wordsR (x : IVec S131072x128 32) : IVec S2x16384x512 32 := shapeCast S2x16384x512 x shapeCasts_S131072x128_S2x16384x512

/-- the numbers they hold; -/
def rowsR (w : IVec S2x16384x512 32) : FVec Ideal S2x16384x1024 .f32 :=
  concatenate S2x16384x1024 2 [⟨S2x16384x512, bitcastToFloat (F := Ideal) .f32 (Host.shli w (broadcastInDim S2x16384x512 ![] bcast_S_S2x16384x512 (constantI S_ 32 16#32)))⟩,
    ⟨S2x16384x512, bitcastToFloat (F := Ideal) .f32 (andi w (broadcastInDim S2x16384x512 ![] bcast_S_S2x16384x512 (constantI S_ 32 4294901760#32)))⟩]
    concatenates_S2x16384x512_S2x16384x512_S2x16384x1024_d2

/-- weighted and added. -/
def mixedR (wts : FVec Ideal S2x16384 .f32) (R : FVec Ideal S2x16384x1024 .f32) : FVec Ideal S2x8192x1024 .f32 :=
  shapeCast S2x8192x1024 (addf
    (mulf (broadcastInDim S16384x1024 ![0, 1] bcast_S16384x1_S16384x1024_0_1 (broadcastInDim S16384x1 ![0] bcast_S16384_S16384x1_0
        (shapeCast S16384 (extractStridedSlice S1x16384 ![0, 0] wts slices_S2x16384_S1x16384_0_0) shapeCasts_S1x16384_S16384)))
      (shapeCast S16384x1024 (extractStridedSlice S1x16384x1024 ![0, 0, 0] R slices_S2x16384x1024_S1x16384x1024_0_0_0) shapeCasts_S1x16384x1024_S16384x1024))
    (mulf (broadcastInDim S16384x1024 ![0, 1] bcast_S16384x1_S16384x1024_0_1 (broadcastInDim S16384x1 ![0] bcast_S16384_S16384x1_0
        (shapeCast S16384 (extractStridedSlice S1x16384 ![1, 0] wts slices_S2x16384_S1x16384_1_0) shapeCasts_S1x16384_S16384)))
      (shapeCast S16384x1024 (extractStridedSlice S1x16384x1024 ![1, 0, 0] R slices_S2x16384x1024_S1x16384x1024_1_0_0) shapeCasts_S1x16384x1024_S16384x1024)))
    shapeCasts_S16384x1024_S2x8192x1024

/-- The residual sum. -/
def sumR (x : FVec Ideal S16384x1024 .f32) (g : FVec Ideal S2x1x6144 .f32) (y : FVec Ideal S2x8192x1024 .f32) : FVec Ideal S2x8192x1024 .f32 :=
  addf (mulf (broadcastInDim S2x8192x1024 ![] bcast_S_S2x8192x1024 (Host.sqrt (Host.sqrt (constant S_ .f32 0x40800000#32))))
      (shapeCast S2x8192x1024 x shapeCasts_S16384x1024_S2x8192x1024))
    (mulf (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 5120] g slices_S2x1x6144_S2x1x1024_0_0_5120))) y)

/-- The mean of every row. -/
def meanR (z : FVec Ideal S2x8192x1024 .f32) : FVec Ideal S2x8192x1 .f32 :=
  Host.divf (broadcastInDim S2x8192x1 ![0, 1] bcast_S2x8192_S2x8192x1_0_1
      (Host.reduceAdd z (constant S_ .f32 0x00000000#32) reducesTo_S2x8192x1024_S2x8192_d2 h_S_))
    (broadcastInDim S2x8192x1 ![] bcast_S_S2x8192x1 (constant S_ .f32 0x44800000#32))

/-- A row less its mean. -/
def lessMean (z : FVec Ideal S2x8192x1024 .f32) : FVec Ideal S2x8192x1024 .f32 :=
  subf z (broadcastInDim S2x8192x1024 ![0, 1, 2] bcast_S2x8192x1_S2x8192x1024_0_1_2 (meanR z))

/-- The layer norm. -/
def normR (z : FVec Ideal S2x8192x1024 .f32) (lg lb : FVec Ideal S1024 .f32) : FVec Ideal S2x8192x1024 .f32 :=
  addf (mulf (mulf (lessMean z) (broadcastInDim S2x8192x1024 ![0, 1, 2] bcast_S2x8192x1_S2x8192x1024_0_1_2
      (Host.rsqrt (addf (meanR (mulf (lessMean z) (lessMean z))) (broadcastInDim S2x8192x1 ![] bcast_S_S2x8192x1 (constant S_ .f32 0x3727C5AC#32))))))
      (broadcastInDim S2x8192x1024 ![0, 1, 2] bcast_S1x1x1024_S2x8192x1024_0_1_2 (broadcastInDim S1x1x1024 ![2] bcast_S1024_S1x1x1024_2 lg)))
    (broadcastInDim S2x8192x1024 ![0, 1, 2] bcast_S1x1x1024_S2x8192x1024_0_1_2 (broadcastInDim S1x1x1024 ![2] bcast_S1024_S1x1x1024_2 lb))

def result (wts : FVec Ideal S2x16384 .f32) (x : FVec Ideal S16384x1024 .f32) (g : FVec Ideal S2x1x6144 .f32) (lg lb : FVec Ideal S1024 .f32)
    (w : IVec S131072x128 32) : FVec Ideal S16384x1024 .f32 :=
  shapeCast S16384x1024 (normR (sumR x g (mixedR wts (rowsR (wordsR w)))) lg lb) shapeCasts_S2x8192x1024_S16384x1024

/-- Every run ends with this result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v59) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (by unfold Value.res_main_v59; rfl), (h c).2⟩) (Cert.Reference3Ideal.Value.run (F := Ideal) m ρ)

/-! ## At an element -/

/-- The words of pick `e` of token `i`. -/
def tokenWords (x : IVec S131072x128 32) (e : Fin 2) (i : Fin 16384) (k : Fin 512) : BitVec 32 :=
  x (ix2 ⟨4 * (16384 * e.val + i.val) + k.val / 128, by omega⟩ ⟨k.val % 128, Nat.mod_lt _ (by decide)⟩)

/-- Token `8192 b + i`. -/
abbrev tok (b : Fin 2) (i : Fin 8192) : Fin 16384 := ⟨8192 * b.val + i.val, by omega⟩

theorem wordsR_apply (x : IVec S131072x128 32) (e : Fin 2) (i : Fin 16384) (k : Fin 512) : wordsR x (ix3 e i k) = tokenWords x e i k := by
  pointwise [wordsR]
  unfold tokenWords
  refine congrArg x (funext fun a => Fin.ext ?_)
  match a with
  | ⟨0, _⟩ => show e.val * 65536 + i.val * 4 + k.val / 128 = 4 * (16384 * e.val + i.val) + k.val / 128; omega
  | ⟨1, _⟩ => rfl

theorem rowsR_apply (w : IVec S2x16384x512 32) (e : Fin 2) (i : Fin 16384) (d : Fin 1024) :
    rowsR w (ix3 e i d) = Residual.unpack (fun k => w (ix3 e i k)) d := by
  pointwise [rowsR]
  unfold Residual.unpack
  rfl

theorem mixedR_apply (wts : FVec Ideal S2x16384 .f32) (R : FVec Ideal S2x16384x1024 .f32) (b : Fin 2) (i : Fin 8192) (d : Fin 1024) :
    mixedR wts R (ix3 b i d) = wts (ix2 0 (tok b i)) * R (ix3 0 (tok b i) d) + wts (ix2 1 (tok b i)) * R (ix3 1 (tok b i) d) := by
  have ht : ∀ h, (⟨b.val * 8192 + i.val, h⟩ : Fin 16384) = tok b i := fun h => Fin.ext (show b.val * 8192 + i.val = 8192 * b.val + i.val by omega)
  pointwise [mixedR]
  simp only [ht]

theorem sumR_apply (x : FVec Ideal S16384x1024 .f32) (g : FVec Ideal S2x1x6144 .f32) (y : FVec Ideal S2x8192x1024 .f32) (b : Fin 2) (i : Fin 8192) (d : Fin 1024) :
    sumR x g y (ix3 b i d) = Residual.referenceRow (fun e => x (ix2 (tok b i) e)) (fun e => g (ix3 b 0 ⟨5120 + e.val, by omega⟩)) (fun e => y (ix3 b i e)) d := by
  have ht : ∀ h, (⟨b.val * 8192 + i.val, h⟩ : Fin 16384) = tok b i := fun h => Fin.ext (show b.val * 8192 + i.val = 8192 * b.val + i.val by omega)
  pointwise [sumR]
  rw [Residual.root_eq, ht]
  rfl

theorem meanR_apply (z : FVec Ideal S2x8192x1024 .f32) (b : Fin 2) (i : Fin 8192) : meanR z (ix3 b i 0) = Residual.mean (fun e => z (ix3 b i e)) := by
  pointwise [meanR]
  rfl

theorem normR_apply (z : FVec Ideal S2x8192x1024 .f32) (lg lb : FVec Ideal S1024 .f32) (b : Fin 2) (i : Fin 8192) (d : Fin 1024) :
    normR z lg lb (ix3 b i d) = Residual.norm (Ideal.ofBits .f32 0x3727C5AC#32) (fun e => z (ix3 b i e)) d * lg (ix1 d) + lb (ix1 d) := by
  have hm : ∀ e, lessMean z (ix3 b i e) = z (ix3 b i e) - Residual.mean (fun e => z (ix3 b i e)) := by
    intro e
    rw [← meanR_apply]
    pointwise [lessMean]
  have hs : (fun e => mulf (lessMean z) (lessMean z) (ix3 b i e))
      = fun e => (z (ix3 b i e) - Residual.mean (fun e => z (ix3 b i e))) * (z (ix3 b i e) - Residual.mean (fun e => z (ix3 b i e))) := by
    funext e
    rw [← hm]
    rfl
  generalize hl : lessMean z = L at hm hs ⊢
  have e1 : normR z lg lb (ix3 b i d) = (lessMean z (ix3 b i d) * Ideal.rsqrt (meanR (mulf (lessMean z) (lessMean z)) (ix3 b i 0)
      + Ideal.ofBits .f32 0x3727C5AC#32)) * lg (ix1 d) + lb (ix1 d) := by
    unfold normR
    generalize lessMean z = L
    generalize meanR (mulf L L) = M
    pointwise
  rw [e1, hl, hm, meanR_apply, hs]
  rfl

/-- An element of the result. -/
theorem result_apply (wts : FVec Ideal S2x16384 .f32) (x : FVec Ideal S16384x1024 .f32) (g : FVec Ideal S2x1x6144 .f32) (lg lb : FVec Ideal S1024 .f32)
    (w : IVec S131072x128 32) (b : Fin 2) (i : Fin 8192) (d : Fin 1024) :
    result wts x g lg lb w (ix2 (tok b i) d)
      = Residual.referenceOut (fun e => x (ix2 (tok b i) e)) (fun e => g (ix3 b 0 ⟨5120 + e.val, by omega⟩))
          (Residual.mix (wts (ix2 0 (tok b i))) (wts (ix2 1 (tok b i))) (tokenWords w 0 (tok b i)) (tokenWords w 1 (tok b i)))
          (fun e => lg (ix1 e)) (fun e => lb (ix1 e)) d := by
  have h : ∀ B : FVec Ideal S2x8192x1024 .f32, shapeCast S16384x1024 B shapeCasts_S2x8192x1024_S16384x1024 (ix2 (tok b i) d) = B (ix3 b i d) := by
    intro B
    pointwise
    refine congrArg B (funext fun a => Fin.ext ?_)
    match a with
    | ⟨0, _⟩ => show (8192 * b.val + i.val) / 8192 = b.val; omega
    | ⟨1, _⟩ => show (8192 * b.val + i.val) % 8192 = i.val; omega
    | ⟨2, _⟩ => rfl
  have hy : (fun e => mixedR wts (rowsR (wordsR w)) (ix3 b i e))
      = Residual.mix (wts (ix2 0 (tok b i))) (wts (ix2 1 (tok b i))) (tokenWords w 0 (tok b i)) (tokenWords w 1 (tok b i)) := by
    funext e
    rw [mixedR_apply, rowsR_apply, rowsR_apply]
    simp only [wordsR_apply]
    rfl
  refine (h _).trans ?_
  rw [normR_apply]
  simp only [sumR_apply]
  rw [hy]
  rfl

end Cert.Reference3Ideal.Comb

end
-- ==== Proof.Rotary.lean ====
/-
  A ROW OF THE PROJECTION, over the extended reals: the modulated activations times the weights and the bias; the queries and keys turned
  by the row's angles; the queries scaled.
-/
module

public import Idealize.ShloMosaic.PureOps.Ideal.Laws

@[expose] public section

noncomputable section

namespace Cert.Rotary

open Idealize.ShloMosaic

/-- Column `d` of the row's projection. -/
def projected (x sh sc : Fin 1024 → EReal) (w : Fin 1024 → Fin 1536 → EReal) (b : Fin 1536 → EReal) (d : Fin 1536) : EReal :=
  (∑ e, (x e * (1 + sc e) + sh e) * w e d) + b d

/-- The frequency a column turns with, -/
def freq {n : ℕ} (d : Fin n) : Fin 32 := ⟨d.val % 32, Nat.mod_lt _ (by decide)⟩

/-- and the column it turns with: the other half of its head. -/
def mate (d : Fin 1536) : Fin 1536 := if h : d.val % 64 < 32 then ⟨d.val + 32, by omega⟩ else ⟨d.val - 32, by omega⟩

theorem mate_val (d : Fin 1536) : (mate d).val = if d.val % 64 < 32 then d.val + 32 else d.val - 32 := by
  unfold mate
  split_ifs <;> rfl

/-- Column `d`, turned by the angles `a`. -/
def turn (p : Fin 1536 → EReal) (a : Fin 32 → EReal) (d : Fin 1536) : EReal :=
  p d * Ideal.cos (a (freq d)) + p (mate d) * (if d.val % 64 < 32 then 0 - Ideal.sin (a (freq d)) else Ideal.sin (a (freq d)))

/-- Column `d` of the result: a query, a key or a value. -/
def out (p : Fin 1536 → EReal) (a : Fin 32 → EReal) (s : EReal) (d : Fin 1536) : EReal :=
  if d.val < 1024 then turn p a d * s else if d.val < 1280 then turn p a d else p d

theorem turn_first (p : Fin 1536 → EReal) (a : Fin 32 → EReal) (d d' : Fin 1536) (k : Fin 32) (h : d.val % 64 < 32) (h' : d'.val = d.val + 32)
    (hk : k.val = d.val % 32) : turn p a d = p d * Ideal.cos (a k) - p d' * Ideal.sin (a k) := by
  have hf : freq d = k := Fin.ext hk.symm
  have hm : mate d = d' := by unfold mate; rw [dif_pos h]; exact Fin.ext h'.symm
  unfold turn
  rw [if_pos h, hf, hm, zero_sub, mul_neg, sub_eq_add_neg]

theorem turn_second (p : Fin 1536 → EReal) (a : Fin 32 → EReal) (d d' : Fin 1536) (k : Fin 32) (h : ¬ d.val % 64 < 32) (h' : d'.val + 32 = d.val)
    (hk : k.val = d.val % 32) : turn p a d = p d * Ideal.cos (a k) + p d' * Ideal.sin (a k) := by
  have hf : freq d = k := Fin.ext hk.symm
  have hm : mate d = d' := by unfold mate; rw [dif_neg h]; exact Fin.ext (show d.val - 32 = d'.val by omega)
  unfold turn
  rw [if_neg h, hf, hm]

end Cert.Rotary

end
-- ==== Proof.ProjBlock.lean ====
/-
  A BLOCK OF THE PROJECTION: the body projects 1024 rows and turns their queries and keys, 128 columns at a time; here is what one such
  turn makes, and what each array it is made from is at an element over the extended reals.
-/
module

public import proofs.«01_k».proof.Proof.Gen.Kernel4Ideal.Value
public import proofs.«01_k».proof.Proof.Rotary
public import Idealize.ShloMosaic.Lib.KernelVsHost
public import Idealize.ShloMosaic.Lib.Pointwise
public import Idealize.ShloMosaic.Lib.Pointwise.Tactic

@[expose] public section

set_option maxRecDepth 16384

noncomputable section

namespace Cert.Kernel4Ideal.Proj

open Cert.Kernel4Ideal Cert.Kernel4Ideal.Gen
open Idealize.ShloMosaic Idealize.ShloMosaic.TcCoe

section body

variable {F : FTy → Type} [FloatOps F]

/-- 128 columns turned: each column times its cosine, and the column half a head away times its sine. -/
def turned (s ct st : FVec F S1024x128 .f32) : FVec F S1024x128 .f32 :=
  addf (mulf s ct) (mulf (select k0_pay8 (dynamicRotate 1 96#32 none s rotates_S1024x128_d1) (dynamicRotate 1 32#32 none s rotates_S1024x128_d1)) st)

/-- The same, scaled as the queries are. -/
def scaled (s : FVec F S1024x128 .f32) : FVec F S1024x128 .bf16 :=
  truncf .bf16 (mulf s (broadcast S1024x128 (Scalar.ofBits .f32 0x3E000000#32))) bitsLt_bf16_f32

/-- The signed sines, one row to a column. -/
abbrev sines (v21 : Vec F S32x1 .f32) (v23 : Vec F S1x1x1024 .i32) : FVec F S1024x128 .f32 :=
  k0_pay7 (k0_pay4 v21 v23) (k0_pay6 v21 v23) (Scalar.ofBits .f32 0x00000000#32)

end body

/-! ## At an element -/

theorem mask_apply (i : Fin 1024) (l : Fin 128) : k0_pay8 (ix2 i l) = if l.val % 64 < 32 then 1#1 else 0#1 := by
  pointwise [k0_pay8]
  revert l
  decide

theorem rotated (sb : BitVec 32) (s : FVec Ideal S1024x128 .f32) (i : Fin 1024) (l l' : Fin 128)
    (h : l'.val = (l.val + 128 - sb.toNat % 128) % 128) :
    dynamicRotate 1 sb none s rotates_S1024x128_d1 (ix2 i l) = s (ix2 i l') :=
  dynamicRotate_apply (1 : Fin 2) sb s rotates_S1024x128_d1 _ _ fun b => by
    match b with
    | ⟨0, _⟩ => rfl
    | ⟨1, _⟩ => exact h

/-- The column half a head away. -/
def mate (l : Fin 128) : Fin 128 := if h : l.val % 64 < 32 then ⟨l.val + 32, by omega⟩ else ⟨l.val - 32, by omega⟩

theorem mate_val (l : Fin 128) : (mate l).val = if l.val % 64 < 32 then l.val + 32 else l.val - 32 := by
  unfold mate
  split_ifs <;> rfl

theorem turned_apply (s ct st : FVec Ideal S1024x128 .f32) (i : Fin 1024) (l : Fin 128) :
    turned s ct st (ix2 i l) = s (ix2 i l) * ct (ix2 i l) + s (ix2 i (mate l)) * st (ix2 i l) := by
  show s (ix2 i l) * ct (ix2 i l)
    + (if k0_pay8 (ix2 i l) = 1#1 then dynamicRotate 1 96#32 none s rotates_S1024x128_d1 (ix2 i l)
        else dynamicRotate 1 32#32 none s rotates_S1024x128_d1 (ix2 i l)) * st (ix2 i l) = _
  rw [mask_apply]
  by_cases h : l.val % 64 < 32
  · rw [if_pos h, if_pos rfl, rotated 96#32 s i l (mate l)]
    unfold mate
    rw [dif_pos h]
    show l.val + 32 = (l.val + 128 - 96) % 128
    omega
  · rw [if_neg h, if_neg (by decide), rotated 32#32 s i l (mate l)]
    unfold mate
    rw [dif_neg h]
    show l.val - 32 = (l.val + 128 - 32) % 128
    omega

variable (v3 v5 : Vec Ideal S1x1x1024 .f32) (v7 : Vec Ideal S1024x1024 .f32) (v15 : Vec Ideal S1024x1536 .bf16) (v17 : Vec Ideal S1x1536 .f32)
  (v21 : Vec Ideal S32x1 .f32) (v23 : IVec S1x1x1024 32)

theorem angle_apply (k : Fin 32) (i : Fin 1024) : k0_pay3 v21 v23 (ix2 k i) = v21 (ix2 k 0) * (((v23 (ix3 0 0 i)).toInt : ℝ) : EReal) := by
  pointwise [k0_pay3]
  rfl

theorem cosine_apply (i : Fin 1024) (l : Fin 128) :
    k0_pay5 v21 v23 (ix2 i l) = Ideal.cos (k0_pay3 v21 v23 (ix2 (Rotary.freq l) i)) := by
  pointwise [k0_pay5]
  have key : ∀ q : Fin 32, q.val = l.val % 32 → Ideal.cos (k0_pay3 v21 v23 (ix2 q i)) = Ideal.cos (k0_pay3 v21 v23 (ix2 (Rotary.freq l) i)) :=
    fun q hq => congrArg (fun k => Ideal.cos (k0_pay3 v21 v23 (ix2 k i))) (Fin.ext hq)
  split_ifs <;> (refine key _ ?_; dsimp only; omega)

theorem sine_apply (i : Fin 1024) (l : Fin 128) :
    sines v21 v23 (ix2 i l) = if l.val % 64 < 32 then 0 - Ideal.sin (k0_pay3 v21 v23 (ix2 (Rotary.freq l) i))
      else Ideal.sin (k0_pay3 v21 v23 (ix2 (Rotary.freq l) i)) := by
  have key : ∀ q : Fin 32, q.val = l.val % 32 → Ideal.sin (k0_pay3 v21 v23 (ix2 q i)) = Ideal.sin (k0_pay3 v21 v23 (ix2 (Rotary.freq l) i)) :=
    fun q hq => congrArg (fun k => Ideal.sin (k0_pay3 v21 v23 (ix2 k i))) (Fin.ext hq)
  by_cases hl : l.val % 64 < 32
  · rw [if_pos hl]
    pointwise [k0_pay7, k0_pay6, k0_pay4]
    split_ifs <;> first
      | (exfalso; omega)
      | (refine congrArg (fun z : EReal => 0 - z) (key _ ?_); dsimp only; omega)
  · rw [if_neg hl]
    pointwise [k0_pay7, k0_pay6, k0_pay4]
    split_ifs <;> first
      | (exfalso; omega)
      | (refine key _ ?_; dsimp only; omega)

theorem turn_at (v20 : FVec Ideal S1024x1536 .f32) (o : ℕ) (h : S1024x1536.Slices ![0, o] S1024x128) (ho : o % 128 = 0) (ho' : o + 128 ≤ 1536)
    (i : Fin 1024) (l : Fin 128) :
    turned (extractStridedSlice S1024x128 ![0, o] v20 h) (k0_pay5 v21 v23) (sines v21 v23) (ix2 i l)
      = Rotary.turn (fun d => v20 (ix2 i d)) (fun k => k0_pay3 v21 v23 (ix2 k i)) ⟨o + l.val, by omega⟩ := by
  have hs : ∀ l : Fin 128, extractStridedSlice S1024x128 ![0, o] v20 h (ix2 i l) = v20 (ix2 i ⟨o + l.val, by omega⟩) := by
    intro l
    refine congrArg v20 (funext fun a => Fin.ext ?_)
    match a with
    | ⟨0, _⟩ => show 0 + i.val = i.val; omega
    | ⟨1, _⟩ => rfl
  have hf : Rotary.freq (⟨o + l.val, by omega⟩ : Fin 1536) = Rotary.freq l := Fin.ext (show (o + l.val) % 32 = l.val % 32 by omega)
  have hm : (⟨o + (mate l).val, by omega⟩ : Fin 1536) = Rotary.mate ⟨o + l.val, by omega⟩ := by
    refine Fin.ext (Eq.trans ?_ (Rotary.mate_val _).symm)
    show o + (mate l).val = if (o + l.val) % 64 < 32 then o + l.val + 32 else o + l.val - 32
    have := mate_val l
    by_cases hl : l.val % 64 < 32
    · rw [if_pos hl] at this; rw [if_pos (by omega)]; omega
    · rw [if_neg hl] at this; rw [if_neg (by omega)]; omega
  rw [turned_apply, hs, hs, hm, cosine_apply, sine_apply]
  unfold Rotary.turn
  rw [hf]
  by_cases hl : l.val % 64 < 32
  · rw [if_pos hl, if_pos (show (o + l.val) % 64 < 32 by omega)]
  · rw [if_neg hl, if_neg (show ¬ (o + l.val) % 64 < 32 by omega)]

theorem projected_apply (i : Fin 1024) (d : Fin 1536) :
    k0_pay2 v3 v5 v7 v15 v17 (ix2 i d) = (∑ e : Fin 1024, (v7 (ix2 i e) * (1 + v5 (ix3 0 0 e)) + v3 (ix3 0 0 e)) * v15 (ix2 e d)) + v17 (ix2 0 d) := by
  pointwise [k0_pay2]

end Cert.Kernel4Ideal.Proj

end
-- ==== Proof.ProjPoint.lean ====
/-
  A GRID POINT OF THE PROJECTION: what the body loads of its arrays, and that its eleven stores leave the 1024 rows of its block, each
  element as Rotary.lean says. The first point puts the weights into a scratch, and every point reads them there.
-/
module

public import proofs.«01_k».proof.Proof.ProjBlock
public import Idealize.ShloMosaic.Lib.WholeRead
public import Idealize.ShloMosaic.Lib.Writes

@[expose] public section

set_option maxRecDepth 16384

noncomputable section

namespace Cert.Kernel4Ideal.Proj

open Cert.Kernel4Ideal Cert.Kernel4Ideal.Gen
open Idealize.ShloMosaic Idealize.ShloMosaic.TcCoe

section body

variable {F : FTy → Type} [FloatOps F]

/-- The block's stores, last first, from the projected rows, the cosines and the signed sines: the values, and the turned keys and queries. -/
def pieces (v20 : FVec F S1024x1536 .f32) (ct st : FVec F S1024x128 .f32) : List (View.Piece (Elt F) S1024x1536 .bf16) :=
  [⟨Rect.unit (s := S1024x1536) ![0, 1280] S1024x256.size inb_S1024x1536_S1024x256_0_1280, k0_pay22 v20⟩,
    ⟨Rect.unit (s := S1024x1536) ![0, 1152] S1024x128.size inb_S1024x1536_S1024x128_0_1152, truncf .bf16 (turned (extractStridedSlice S1024x128 ![0, 1152] v20 slices_S1024x1536_o0_1152_S1024x128) ct st) bitsLt_bf16_f32⟩,
    ⟨Rect.unit (s := S1024x1536) ![0, 1024] S1024x128.size inb_S1024x1536_S1024x128_0_1024, truncf .bf16 (turned (extractStridedSlice S1024x128 ![0, 1024] v20 slices_S1024x1536_o0_1024_S1024x128) ct st) bitsLt_bf16_f32⟩,
    ⟨Rect.unit (s := S1024x1536) ![0, 896] S1024x128.size inb_S1024x1536_S1024x128_0_896, scaled (turned (extractStridedSlice S1024x128 ![0, 896] v20 slices_S1024x1536_o0_896_S1024x128) ct st)⟩,
    ⟨Rect.unit (s := S1024x1536) ![0, 768] S1024x128.size inb_S1024x1536_S1024x128_0_768, scaled (turned (extractStridedSlice S1024x128 ![0, 768] v20 slices_S1024x1536_o0_768_S1024x128) ct st)⟩,
    ⟨Rect.unit (s := S1024x1536) ![0, 640] S1024x128.size inb_S1024x1536_S1024x128_0_640, scaled (turned (extractStridedSlice S1024x128 ![0, 640] v20 slices_S1024x1536_o0_640_S1024x128) ct st)⟩,
    ⟨Rect.unit (s := S1024x1536) ![0, 512] S1024x128.size inb_S1024x1536_S1024x128_0_512, scaled (turned (extractStridedSlice S1024x128 ![0, 512] v20 slices_S1024x1536_o0_512_S1024x128) ct st)⟩,
    ⟨Rect.unit (s := S1024x1536) ![0, 384] S1024x128.size inb_S1024x1536_S1024x128_0_384, scaled (turned (extractStridedSlice S1024x128 ![0, 384] v20 slices_S1024x1536_o0_384_S1024x128) ct st)⟩,
    ⟨Rect.unit (s := S1024x1536) ![0, 256] S1024x128.size inb_S1024x1536_S1024x128_0_256, scaled (turned (extractStridedSlice S1024x128 ![0, 256] v20 slices_S1024x1536_o0_256_S1024x128) ct st)⟩,
    ⟨Rect.unit (s := S1024x1536) ![0, 128] S1024x128.size inb_S1024x1536_S1024x128_0_128, scaled (turned (extractStridedSlice S1024x128 ![0, 128] v20 slices_S1024x1536_o0_128_S1024x128) ct st)⟩,
    ⟨Rect.unit (s := S1024x1536) ![0, 0] S1024x128.size inb_S1024x1536_S1024x128_0_0, scaled (turned (extractStridedSlice S1024x128 ![0, 0] v20 slices_S1024x1536_o0_0_S1024x128) ct st)⟩]

theorem load_rect {s : Shape} {e : EltTy} {m : Memref sig .tc .vmem s e} (h : m.IsWhole) (x : Vec F s e) (R : Rect s) :
    View.readAt (Elt F) m.view R.toLoadRect (h.unread x) = View.ld x R := by
  rw [View.readAt_eq_ld, h.read_unread]

/-- A load of a whole buffer is what it holds. -/
theorem ld_whole2 {n₀ n₁ : ℕ} {e : EltTy} (x : Vec F ⟨2, ![n₀, n₁]⟩ e) (inb) :
    View.ld x (Rect.unit (s := ⟨2, ![n₀, n₁]⟩) ![0, 0] ![n₀, n₁] inb) = x := by
  funext j
  refine congrArg x (funext fun a => Fin.ext ?_)
  match a with
  | ⟨0, _⟩ => show 0 + 1 * (j 0).val = (j 0).val; omega
  | ⟨1, _⟩ => show 0 + 1 * (j 1).val = (j 1).val; omega
theorem ld_whole3 {n₀ n₁ n₂ : ℕ} {e : EltTy} (x : Vec F ⟨3, ![n₀, n₁, n₂]⟩ e) (inb) :
    View.ld x (Rect.unit (s := ⟨3, ![n₀, n₁, n₂]⟩) ![0, 0, 0] ![n₀, n₁, n₂] inb) = x := by
  funext j
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

variable (c : Dev nD) (i : grid0.Coords) (arg1 : Memref sig .tc .vmem S1024x1024 .f32) (harg1 : arg1.IsWhole) (arg2 : Memref sig .tc .vmem S1x1x6144 .f32) (harg2 : arg2.IsWhole) (arg3 : Memref sig .tc .vmem S1x1x1024 .i32) (harg3 : arg3.IsWhole) (arg4 : Memref sig .tc .vmem S1024x1536 .f32) (harg4 : arg4.IsWhole) (arg5 : Memref sig .tc .vmem S1x1536 .f32) (harg5 : arg5.IsWhole) (arg6 : Memref sig .tc .vmem S32x1 .f32) (harg6 : arg6.IsWhole) (arg7 : Memref sig .tc .vmem S1024x1536 .bf16) (harg7 : arg7.IsWhole) (arg8 : Memref sig .tc .vmem S1024x1536 .bf16) (harg8 : arg8.IsWhole)
    (x0 : Vec F S1024x1024 .f32) (x1 : Vec F S1x1x6144 .f32) (x2 : Vec F S1x1x1024 .i32) (x3 : Vec F S1024x1536 .f32) (x4 : Vec F S1x1536 .f32) (x5 : Vec F S32x1 .f32)

/-- The shift's and the scale's parts of a block's modulation row. -/
abbrev shift (x1 : Vec F S1x1x6144 .f32) : Vec F S1x1x1024 .f32 := View.ld x1 (Rect.unit (s := S1x1x6144) ![0, 0, 0] S1x1x1024.size inb_S1x1x6144_S1x1x1024_0_0_0)
abbrev scale (x1 : Vec F S1x1x6144 .f32) : Vec F S1x1x1024 .f32 := View.ld x1 (Rect.unit (s := S1x1x6144) ![0, 0, 1024] S1x1x1024.size inb_S1x1x6144_S1x1x1024_0_0_1024)

/-- The stores of a point whose scratch holds the weights `w`. -/
abbrev piecesOf (w : Vec F S1024x1536 .bf16) : List (View.Piece (Elt F) S1024x1536 .bf16) :=
  pieces (k0_pay2 (shift x1) (scale x1) x0 w x4) (k0_pay5 x5 x2) (sines x5 x2)

theorem stores_A (hc0 : cond0_0 i) :
    (kernelRun0_A c i arg1 harg1 arg2 harg2 arg3 harg3 arg4 harg4 arg5 harg5 arg6 harg6 arg7 harg7 arg8 harg8 hc0 x0 x1 x2 x3 x4 x5).1
      = pieces (k0_pay2 (arg2.view.readAt (Elt F) (Rect.unit (s := S1x1x6144) ![0, 0, 0] S1x1x1024.size inb_S1x1x6144_S1x1x1024_0_0_0).toLoadRect (harg2.unread x1))
          (arg2.view.readAt (Elt F) (Rect.unit (s := S1x1x6144) ![0, 0, 1024] S1x1x1024.size inb_S1x1x6144_S1x1x1024_0_0_1024).toLoadRect (harg2.unread x1))
          (arg1.view.readAt (Elt F) (Rect.unit (s := S1024x1024) ![0, 0] S1024x1024.size inb_S1024x1024_S1024x1024_0_0).toLoadRect (harg1.unread x0))
          (arg8.view.readCov [⟨Rect.unit (s := S1024x1536) ![0, 0] S1024x1536.size inb_S1024x1536_S1024x1536_0_0, (k0_pay1 (arg4.view.readAt (Elt F) (Rect.unit (s := S1024x1536) ![0, 0] S1024x1536.size inb_S1024x1536_S1024x1536_0_0).toLoadRect (harg4.unread x3)))⟩] (Rect.unit (s := S1024x1536) ![0, 0] S1024x1536.size inb_S1024x1536_S1024x1536_0_0).toLoadRect)
          (arg5.view.readAt (Elt F) (Rect.unit (s := S1x1536) ![0, 0] S1x1536.size inb_S1x1536_S1x1536_0_0).toLoadRect (harg5.unread x4)))
        (k0_pay5 (arg6.view.readAt (Elt F) (Rect.unit (s := S32x1) ![0, 0] S32x1.size inb_S32x1_S32x1_0_0).toLoadRect (harg6.unread x5)) (arg3.view.readAt (Elt F) (Rect.unit (s := S1x1x1024) ![0, 0, 0] S1x1x1024.size inb_S1x1x1024_S1x1x1024_0_0_0).toLoadRect (harg3.unread x2))) (sines (arg6.view.readAt (Elt F) (Rect.unit (s := S32x1) ![0, 0] S32x1.size inb_S32x1_S32x1_0_0).toLoadRect (harg6.unread x5)) (arg3.view.readAt (Elt F) (Rect.unit (s := S1x1x1024) ![0, 0, 0] S1x1x1024.size inb_S1x1x1024_S1x1x1024_0_0_0).toLoadRect (harg3.unread x2))) := rfl

theorem stores_B (hc0 : ¬cond0_0 i) (xs : Vec F S1024x1536 .bf16) :
    (kernelRun0_B c i arg1 harg1 arg2 harg2 arg3 harg3 arg4 harg4 arg5 harg5 arg6 harg6 arg7 harg7 arg8 harg8 hc0 x0 x1 x2 x3 x4 x5 xs).1
      = pieces (k0_pay2 (arg2.view.readAt (Elt F) (Rect.unit (s := S1x1x6144) ![0, 0, 0] S1x1x1024.size inb_S1x1x6144_S1x1x1024_0_0_0).toLoadRect (harg2.unread x1))
          (arg2.view.readAt (Elt F) (Rect.unit (s := S1x1x6144) ![0, 0, 1024] S1x1x1024.size inb_S1x1x6144_S1x1x1024_0_0_1024).toLoadRect (harg2.unread x1))
          (arg1.view.readAt (Elt F) (Rect.unit (s := S1024x1024) ![0, 0] S1024x1024.size inb_S1024x1024_S1024x1024_0_0).toLoadRect (harg1.unread x0))
          (arg8.view.readAt (Elt F) (Rect.unit (s := S1024x1536) ![0, 0] S1024x1536.size inb_S1024x1536_S1024x1536_0_0).toLoadRect (harg8.unread xs))
          (arg5.view.readAt (Elt F) (Rect.unit (s := S1x1536) ![0, 0] S1x1536.size inb_S1x1536_S1x1536_0_0).toLoadRect (harg5.unread x4)))
        (k0_pay5 (arg6.view.readAt (Elt F) (Rect.unit (s := S32x1) ![0, 0] S32x1.size inb_S32x1_S32x1_0_0).toLoadRect (harg6.unread x5)) (arg3.view.readAt (Elt F) (Rect.unit (s := S1x1x1024) ![0, 0, 0] S1x1x1024.size inb_S1x1x1024_S1x1x1024_0_0_0).toLoadRect (harg3.unread x2))) (sines (arg6.view.readAt (Elt F) (Rect.unit (s := S32x1) ![0, 0] S32x1.size inb_S32x1_S32x1_0_0).toLoadRect (harg6.unread x5)) (arg3.view.readAt (Elt F) (Rect.unit (s := S1x1x1024) ![0, 0, 0] S1x1x1024.size inb_S1x1x1024_S1x1x1024_0_0_0).toLoadRect (harg3.unread x2))) := rfl

theorem keeps_A (hc0 : cond0_0 i) :
    (kernelRun0_A c i arg1 harg1 arg2 harg2 arg3 harg3 arg4 harg4 arg5 harg5 arg6 harg6 arg7 harg7 arg8 harg8 hc0 x0 x1 x2 x3 x4 x5).2.1
      = [⟨Rect.unit (s := S1024x1536) ![0, 0] S1024x1536.size inb_S1024x1536_S1024x1536_0_0, (k0_pay1 (arg4.view.readAt (Elt F) (Rect.unit (s := S1024x1536) ![0, 0] S1024x1536.size inb_S1024x1536_S1024x1536_0_0).toLoadRect (harg4.unread x3)))⟩] := rfl

theorem stored_A (hc0 : cond0_0 i) :
    (kernelRun0_A c i arg1 harg1 arg2 harg2 arg3 harg3 arg4 harg4 arg5 harg5 arg6 harg6 arg7 harg7 arg8 harg8 hc0 x0 x1 x2 x3 x4 x5).1 = piecesOf x0 x1 x2 x4 x5 (k0_pay1 x3) := by
  rw [stores_A, View.readCov_cons_toLoadRect]
  simp only [load_rect, piecesOf]
  rw [ld_whole2, ld_whole2, ld_whole2, ld_whole2, ld_whole3]

theorem stored_B (hc0 : ¬cond0_0 i) (xs : Vec F S1024x1536 .bf16) :
    (kernelRun0_B c i arg1 harg1 arg2 harg2 arg3 harg3 arg4 harg4 arg5 harg5 arg6 harg6 arg7 harg7 arg8 harg8 hc0 x0 x1 x2 x3 x4 x5 xs).1 = piecesOf x0 x1 x2 x4 x5 xs := by
  rw [stores_B]
  simp only [load_rect, piecesOf]
  rw [ld_whole2, ld_whole2, ld_whole2, ld_whole2, ld_whole3]

/-- A store of a whole buffer leaves what was stored. -/
theorem read_whole {κ : Kind} {sp : Space} (v : View sig κ sp S1024x1536 .bf16) (b) (q : Vec F S1024x1536 .bf16) :
    v.read (Elt F) (v.writes (Elt F) b [(⟨Rect.unit (s := S1024x1536) ![0, 0] S1024x1536.size inb_S1024x1536_S1024x1536_0_0, q⟩ : View.Piece (Elt F) S1024x1536 .bf16)]) = q := by
  refine funext fun y => View.read_writes_apply_of_pieces _ _ q _ (fun p hp => ?_) y ?_
  · rw [List.mem_singleton] at hp
    subst hp
    intro z
    refine congrArg q (funext fun a => Fin.ext ?_)
    match a with
    | ⟨0, _⟩ => show (z 0).val = 0 + 1 * (z 0).val; omega
    | ⟨1, _⟩ => show (z 1).val = 0 + 1 * (z 1).val; omega
  · have h0 : (y 0).val < 1024 := (y 0).isLt
    have h1 : (y 1).val < 1536 := (y 1).isLt
    have hm : y ∈ (Rect.unit (s := S1024x1536) ![0, 0] S1024x1536.size inb_S1024x1536_S1024x1536_0_0).set := by
      refine Rect.mem_set_unit.mpr fun a => ?_
      match a with
      | ⟨0, _⟩ => show 0 ≤ (y 0).val ∧ (y 0).val < 0 + 1024; omega
      | ⟨1, _⟩ => show 0 ≤ (y 1).val ∧ (y 1).val < 0 + 1536; omega
    exact ⟨_, List.mem_cons_self, hm⟩

theorem kept_A (hc0 : cond0_0 i) : sout0_A_0 c i arg1 harg1 arg2 harg2 arg3 harg3 arg4 harg4 arg5 harg5 arg6 harg6 arg7 harg7 arg8 harg8 hc0 x0 x1 x2 x3 x4 x5 = k0_pay1 x3 := by
  unfold sout0_A_0
  rw [keeps_A, load_rect, ld_whole2]
  exact read_whole ..

end body

/-! ## The block at an element, over the extended reals -/

variable (x0 : Vec Ideal S1024x1024 .f32) (x1 : Vec Ideal S1x1x6144 .f32) (x2 : IVec S1x1x1024 32) (w : Vec Ideal S1024x1536 .bf16)
  (x4 : Vec Ideal S1x1536 .f32) (x5 : Vec Ideal S32x1 .f32)

/-- Row `i` of the block's projection, and the angles it turns by. -/
def row (i : Fin 1024) : Fin 1536 → EReal :=
  Rotary.projected (fun e => x0 (ix2 i e)) (fun e => x1 (ix3 0 0 ⟨e.val, by omega⟩)) (fun e => x1 (ix3 0 0 ⟨1024 + e.val, by omega⟩))
    (fun e d => w (ix2 e d)) (fun d => x4 (ix2 0 d))
def angles (i : Fin 1024) (k : Fin 32) : EReal := x5 (ix2 k 0) * (((x2 (ix3 0 0 i)).toInt : ℝ) : EReal)

/-- What a point leaves, an element at a time. -/
def elem (i : Fin 1024) (d : Fin 1536) : EReal := Rotary.out (row x0 x1 w x4 i) (angles x2 x5 i) (Scalar.ofBits (F := Ideal) .f32 0x3E000000#32) d
def block : Vec Ideal S1024x1536 .bf16 := fun j => elem x0 x1 x2 w x4 x5 (j 0) (j 1)

theorem row_eq (i : Fin 1024) (d : Fin 1536) : k0_pay2 (shift x1) (scale x1) x0 w x4 (ix2 i d) = row x0 x1 w x4 i d := by
  refine (projected_apply ..).trans ?_
  have hs : ∀ e : Fin 1024, shift x1 (ix3 0 0 e) = x1 (ix3 0 0 ⟨e.val, by omega⟩) := by
    intro e
    refine congrArg x1 (funext fun a => Fin.ext ?_)
    match a with
    | ⟨0, _⟩ => rfl
    | ⟨1, _⟩ => rfl
    | ⟨2, _⟩ => show 0 + 1 * e.val = e.val; omega
  have hc : ∀ e : Fin 1024, scale x1 (ix3 0 0 e) = x1 (ix3 0 0 ⟨1024 + e.val, by omega⟩) := by
    intro e
    refine congrArg x1 (funext fun a => Fin.ext ?_)
    match a with
    | ⟨0, _⟩ => rfl
    | ⟨1, _⟩ => rfl
    | ⟨2, _⟩ => show 1024 + 1 * e.val = 1024 + e.val; omega
  simp only [hs, hc]
  rfl

theorem turned_eq (o : ℕ) (h : S1024x1536.Slices ![0, o] S1024x128) (ho : o % 128 = 0) (ho' : o + 128 ≤ 1536) (i : Fin 1024) (l : Fin 128) :
    turned (extractStridedSlice S1024x128 ![0, o] (k0_pay2 (shift x1) (scale x1) x0 w x4) h) (k0_pay5 x5 x2) (sines x5 x2) (ix2 i l)
      = Rotary.turn (row x0 x1 w x4 i) (angles x2 x5 i) ⟨o + l.val, by omega⟩ := by
  rw [turn_at x5 x2 _ o h ho ho' i l]
  exact congrArg₂ (fun p a => Rotary.turn p a _) (funext fun d => row_eq x0 x1 w x4 i d) (funext fun k => angle_apply x5 x2 k i)

theorem idx2 {n₀ n₁ : ℕ} (z : (⟨2, ![n₀, n₁]⟩ : Shape).Idx) : z = ix2 (z 0) (z 1) := by
  funext a
  match a with
  | ⟨0, _⟩ => rfl
  | ⟨1, _⟩ => rfl

theorem part_query (o : ℕ) (h : S1024x1536.Slices ![0, o] S1024x128) (inb) (ho : o % 128 = 0) (ho' : o + 128 ≤ 1024) (z : S1024x128.Idx) :
    scaled (turned (extractStridedSlice S1024x128 ![0, o] (k0_pay2 (shift x1) (scale x1) x0 w x4) h) (k0_pay5 x5 x2) (sines x5 x2)) z
      = block x0 x1 x2 w x4 x5 ((Rect.unit (s := S1024x1536) ![0, o] S1024x128.size inb).emb z) := by
  have hz : (z 1).val < 128 := (z 1).isLt
  have hr : elem x0 x1 x2 w x4 x5 (z 0) ⟨o + (z 1).val, by omega⟩
      = block x0 x1 x2 w x4 x5 ((Rect.unit (s := S1024x1536) ![0, o] S1024x128.size inb).emb z) :=
    congrArg₂ (elem x0 x1 x2 w x4 x5) (Fin.ext (show (z 0).val = 0 + 1 * (z 0).val by omega)) (Fin.ext (show o + (z 1).val = o + 1 * (z 1).val by omega))
  refine Eq.trans ?_ hr
  unfold elem Rotary.out
  rw [if_pos (show o + (z 1).val < 1024 by omega)]
  refine congrArg (· * (Scalar.ofBits (F := Ideal) .f32 0x3E000000#32 : EReal)) ?_
  exact (congrArg (turned _ _ _) (idx2 z)).trans (turned_eq x0 x1 x2 w x4 x5 o h ho (by omega) (z 0) (z 1))

theorem part_key (o : ℕ) (h : S1024x1536.Slices ![0, o] S1024x128) (inb) (ho : o % 128 = 0) (ho' : 1024 ≤ o) (ho'' : o + 128 ≤ 1280) (z : S1024x128.Idx) :
    (truncf .bf16 (turned (extractStridedSlice S1024x128 ![0, o] (k0_pay2 (shift x1) (scale x1) x0 w x4) h) (k0_pay5 x5 x2) (sines x5 x2)) bitsLt_bf16_f32
        : FVec Ideal S1024x128 .bf16) z
      = block x0 x1 x2 w x4 x5 ((Rect.unit (s := S1024x1536) ![0, o] S1024x128.size inb).emb z) := by
  have hz : (z 1).val < 128 := (z 1).isLt
  have hr : elem x0 x1 x2 w x4 x5 (z 0) ⟨o + (z 1).val, by omega⟩
      = block x0 x1 x2 w x4 x5 ((Rect.unit (s := S1024x1536) ![0, o] S1024x128.size inb).emb z) :=
    congrArg₂ (elem x0 x1 x2 w x4 x5) (Fin.ext (show (z 0).val = 0 + 1 * (z 0).val by omega)) (Fin.ext (show o + (z 1).val = o + 1 * (z 1).val by omega))
  refine Eq.trans ?_ hr
  unfold elem Rotary.out
  rw [if_neg (show ¬ o + (z 1).val < 1024 by omega), if_pos (show o + (z 1).val < 1280 by omega)]
  exact (congrArg (turned _ _ _) (idx2 z)).trans (turned_eq x0 x1 x2 w x4 x5 o h ho (by omega) (z 0) (z 1))

theorem part_values (z : S1024x256.Idx) :
    (k0_pay22 (k0_pay2 (shift x1) (scale x1) x0 w x4) : FVec Ideal S1024x256 .bf16) z
      = block x0 x1 x2 w x4 x5 ((Rect.unit (s := S1024x1536) ![0, 1280] S1024x256.size inb_S1024x1536_S1024x256_0_1280).emb z) := by
  have hz : (z 1).val < 256 := (z 1).isLt
  have hr : elem x0 x1 x2 w x4 x5 (z 0) ⟨1280 + (z 1).val, by omega⟩
      = block x0 x1 x2 w x4 x5 ((Rect.unit (s := S1024x1536) ![0, 1280] S1024x256.size inb_S1024x1536_S1024x256_0_1280).emb z) :=
    congrArg₂ (elem x0 x1 x2 w x4 x5) (Fin.ext (show (z 0).val = 0 + 1 * (z 0).val by omega)) (Fin.ext (show 1280 + (z 1).val = 1280 + 1 * (z 1).val by omega))
  refine Eq.trans ?_ hr
  unfold elem Rotary.out
  rw [if_neg (show ¬ 1280 + (z 1).val < 1024 by omega), if_neg (show ¬ 1280 + (z 1).val < 1280 by omega)]
  refine Eq.trans ?_ (row_eq x0 x1 w x4 (z 0) ⟨1280 + (z 1).val, by omega⟩)
  refine congrArg (k0_pay2 (shift x1) (scale x1) x0 w x4) (funext fun a => Fin.ext ?_)
  match a with
  | ⟨0, _⟩ => show 0 + (z 0).val = (z 0).val; omega
  | ⟨1, _⟩ => rfl

/-- The eleven stores leave the block. -/
theorem read_pieces {κ : Kind} {sp : Space} (v : View sig κ sp S1024x1536 .bf16) (b) :
    v.read (Elt Ideal) (v.writes (Elt Ideal) b (piecesOf x0 x1 x2 x4 x5 w)) = block x0 x1 x2 w x4 x5 := by
  refine funext fun y => View.read_writes_apply_of_pieces _ _ (block x0 x1 x2 w x4 x5) _ (fun p hp => ?_) y ?_
  · simp only [piecesOf, pieces, List.mem_cons, List.not_mem_nil, or_false] at hp
    rcases hp with rfl | rfl | rfl | rfl | rfl | rfl | rfl | rfl | rfl | rfl | rfl <;> intro z
    · exact part_values x0 x1 x2 w x4 x5 z
    · exact part_key x0 x1 x2 w x4 x5 1152 slices_S1024x1536_o0_1152_S1024x128 inb_S1024x1536_S1024x128_0_1152 (by decide) (by decide) (by decide) z
    · exact part_key x0 x1 x2 w x4 x5 1024 slices_S1024x1536_o0_1024_S1024x128 inb_S1024x1536_S1024x128_0_1024 (by decide) (by decide) (by decide) z
    · exact part_query x0 x1 x2 w x4 x5 896 slices_S1024x1536_o0_896_S1024x128 inb_S1024x1536_S1024x128_0_896 (by decide) (by decide) z
    · exact part_query x0 x1 x2 w x4 x5 768 slices_S1024x1536_o0_768_S1024x128 inb_S1024x1536_S1024x128_0_768 (by decide) (by decide) z
    · exact part_query x0 x1 x2 w x4 x5 640 slices_S1024x1536_o0_640_S1024x128 inb_S1024x1536_S1024x128_0_640 (by decide) (by decide) z
    · exact part_query x0 x1 x2 w x4 x5 512 slices_S1024x1536_o0_512_S1024x128 inb_S1024x1536_S1024x128_0_512 (by decide) (by decide) z
    · exact part_query x0 x1 x2 w x4 x5 384 slices_S1024x1536_o0_384_S1024x128 inb_S1024x1536_S1024x128_0_384 (by decide) (by decide) z
    · exact part_query x0 x1 x2 w x4 x5 256 slices_S1024x1536_o0_256_S1024x128 inb_S1024x1536_S1024x128_0_256 (by decide) (by decide) z
    · exact part_query x0 x1 x2 w x4 x5 128 slices_S1024x1536_o0_128_S1024x128 inb_S1024x1536_S1024x128_0_128 (by decide) (by decide) z
    · exact part_query x0 x1 x2 w x4 x5 0 slices_S1024x1536_o0_0_S1024x128 inb_S1024x1536_S1024x128_0_0 (by decide) (by decide) z
  · have h0 : (y 0).val < 1024 := (y 0).isLt
    have h1 : (y 1).val < 1536 := (y 1).isLt
    have wide : 1280 ≤ (y 1).val → y ∈ (Rect.unit (s := S1024x1536) ![0, 1280] S1024x256.size inb_S1024x1536_S1024x256_0_1280).set := by
      intro h
      refine Rect.mem_set_unit.mpr fun a => ?_
      match a with
      | ⟨0, _⟩ => show 0 ≤ (y 0).val ∧ (y 0).val < 0 + 1024; omega
      | ⟨1, _⟩ => show 1280 ≤ (y 1).val ∧ (y 1).val < 1280 + 256; omega
    have key : ∀ (o : ℕ) (inb), o ≤ (y 1).val ∧ (y 1).val < o + 128 → y ∈ (Rect.unit (s := S1024x1536) ![0, o] S1024x128.size inb).set := by
      intro o inb h
      refine Rect.mem_set_unit.mpr fun a => ?_
      match a with
      | ⟨0, _⟩ => show 0 ≤ (y 0).val ∧ (y 0).val < 0 + 1024; omega
      | ⟨1, _⟩ => show o ≤ (y 1).val ∧ (y 1).val < o + 128; omega
    rcases (by omega : 1280 ≤ (y 1).val ∨ (1152 ≤ (y 1).val ∧ (y 1).val < 1152 + 128) ∨ (1024 ≤ (y 1).val ∧ (y 1).val < 1024 + 128) ∨ (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128)) with
      h | h | h | h | h | h | h | h | h | h | h
    · exact ⟨_, List.mem_cons_self, wide h⟩
    · exact ⟨_, List.mem_cons_of_mem _ (List.mem_cons_self), key 1152 inb_S1024x1536_S1024x128_0_1152 h⟩
    · exact ⟨_, List.mem_cons_of_mem _ (List.mem_cons_of_mem _ (List.mem_cons_self)), key 1024 inb_S1024x1536_S1024x128_0_1024 h⟩
    · exact ⟨_, List.mem_cons_of_mem _ (List.mem_cons_of_mem _ (List.mem_cons_of_mem _ (List.mem_cons_self))), key 896 inb_S1024x1536_S1024x128_0_896 h⟩
    · exact ⟨_, List.mem_cons_of_mem _ (List.mem_cons_of_mem _ (List.mem_cons_of_mem _ (List.mem_cons_of_mem _ (List.mem_cons_self)))), key 768 inb_S1024x1536_S1024x128_0_768 h⟩
    · exact ⟨_, List.mem_cons_of_mem _ (List.mem_cons_of_mem _ (List.mem_cons_of_mem _ (List.mem_cons_of_mem _ (List.mem_cons_of_mem _ (List.mem_cons_self))))), key 640 inb_S1024x1536_S1024x128_0_640 h⟩
    · exact ⟨_, List.mem_cons_of_mem _ (List.mem_cons_of_mem _ (List.mem_cons_of_mem _ (List.mem_cons_of_mem _ (List.mem_cons_of_mem _ (List.mem_cons_of_mem _ (List.mem_cons_self)))))), key 512 inb_S1024x1536_S1024x128_0_512 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 384 inb_S1024x1536_S1024x128_0_384 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), key 256 inb_S1024x1536_S1024x128_0_256 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key 128 inb_S1024x1536_S1024x128_0_128 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key 0 inb_S1024x1536_S1024x128_0_0 h⟩

theorem weights_eq (x3 : Vec Ideal S1024x1536 .f32) (e : Fin 1024) (d : Fin 1536) : k0_pay1 x3 (ix2 e d) = x3 (ix2 e d) := by
  pointwise [k0_pay1]

variable (c : Dev nD) (i : grid0.Coords) (arg1 : Memref sig .tc .vmem S1024x1024 .f32) (harg1 : arg1.IsWhole) (arg2 : Memref sig .tc .vmem S1x1x6144 .f32) (harg2 : arg2.IsWhole) (arg3 : Memref sig .tc .vmem S1x1x1024 .i32) (harg3 : arg3.IsWhole) (arg4 : Memref sig .tc .vmem S1024x1536 .f32) (harg4 : arg4.IsWhole) (arg5 : Memref sig .tc .vmem S1x1536 .f32) (harg5 : arg5.IsWhole) (arg6 : Memref sig .tc .vmem S32x1 .f32) (harg6 : arg6.IsWhole) (arg7 : Memref sig .tc .vmem S1024x1536 .bf16) (harg7 : arg7.IsWhole) (arg8 : Memref sig .tc .vmem S1024x1536 .bf16) (harg8 : arg8.IsWhole)

theorem out_A (hc0 : cond0_0 i) (x3 : Vec Ideal S1024x1536 .f32) :
    out0_A_6 (F := Ideal) c i arg1 harg1 arg2 harg2 arg3 harg3 arg4 harg4 arg5 harg5 arg6 harg6 arg7 harg7 arg8 harg8 hc0 x0 x1 x2 x3 x4 x5 = block x0 x1 x2 (k0_pay1 x3) x4 x5 := by
  unfold out0_A_6
  rw [stored_A]
  exact read_pieces ..

theorem out_B (hc0 : ¬cond0_0 i) (x3 : Vec Ideal S1024x1536 .f32) :
    out0_B_6 (F := Ideal) c i arg1 harg1 arg2 harg2 arg3 harg3 arg4 harg4 arg5 harg5 arg6 harg6 arg7 harg7 arg8 harg8 hc0 x0 x1 x2 x3 x4 x5 w = block x0 x1 x2 w x4 x5 := by
  unfold out0_B_6
  rw [stored_B]
  exact read_pieces ..

end Cert.Kernel4Ideal.Proj

end
-- ==== Proof.ProjArray.lean ====
/-
  THE PROJECTION'S RESULT, as a function of the arguments: what each grid point's windows and the scratch hold of them, and that the sixteen
  blocks the points write make up the result.
-/
module

public import proofs.«01_k».proof.Proof.ProjPoint
public import proofs.«01_k».proof.Proof.Gen.Kernel4Ideal.Value
public import Idealize.ShloMosaic.Lib.Pipeline.Value

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments: the activations, the modulation rows, the positions, the weights and the bias. -/
abbrev xA (c : Dev nD) : Vec Ideal S16384x1024 .f32 := m ((c : Thread nD τ).loc main_arg0)
abbrev gA (c : Dev nD) : Vec Ideal S2x1x6144 .f32 := m ((c : Thread nD τ).loc main_arg1)
abbrev posA (c : Dev nD) : IVec S2x8192 32 := m ((c : Thread nD τ).loc main_arg2)
abbrev wA (c : Dev nD) : Vec Ideal S1024x1536 .f32 := m ((c : Thread nD τ).loc main_arg3)
abbrev bA (c : Dev nD) : Vec Ideal S1536 .f32 := m ((c : Thread nD τ).loc main_arg4)

/-- The frequencies the host code prepares: `10000` to the power of minus `2 k / 64`. -/
def freqs : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- The result, an element at a time. -/
def elemA (x : Vec Ideal S16384x1024 .f32) (g : Vec Ideal S2x1x6144 .f32) (p : IVec S2x8192 32) (w : Vec Ideal S1024x1536 .f32) (b : Vec Ideal S1536 .f32)
    (i : Fin 16384) (d : Fin 1536) : EReal :=
  Rotary.out (Rotary.projected (fun e => x (ix2 i e)) (fun e => g (ix3 ⟨i.val / 8192, by omega⟩ 0 ⟨e.val, by omega⟩))
      (fun e => g (ix3 ⟨i.val / 8192, by omega⟩ 0 ⟨1024 + e.val, by omega⟩)) (fun e d => w (ix2 e d)) (fun d => b (ix1 d)))
    (fun k => freqs (ix1 k) * (((p (ix2 ⟨i.val / 8192, by omega⟩ ⟨i.val % 8192, by omega⟩)).toInt : ℝ) : EReal))
    (Scalar.ofBits (F := Ideal) .f32 0x3E000000#32) d

def resultA (c : Dev nD) : Vec Ideal S16384x1536 .bf16 := fun j => elemA (xA m c) (gA m c) (posA m c) (wA m c) (bA m c) (j 0) (j 1)

/-! ## The windows -/

theorem pt_lt (t : Fin cfg0.N) : t.val < 16 := lt_of_lt_of_eq t.isLt N_0

/-- Row `i` of grid point `t`. -/
def rowAt (t : Fin cfg0.N) (i : Fin 1024) : Fin 16384 := ⟨1024 * t.val + i.val, by have := pt_lt t; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

/-- The six windows' blocks at a point. -/
abbrev b0 (c : Dev nD) (t : Fin cfg0.N) : Vec Ideal S1024x1024 .f32 := iblk m c 0 t
abbrev b1 (c : Dev nD) (t : Fin cfg0.N) : Vec Ideal S1x1x6144 .f32 := iblk m c 1 t
abbrev b2 (c : Dev nD) (t : Fin cfg0.N) : IVec S1x1x1024 32 := iblk m c 2 t
abbrev b3 (c : Dev nD) (t : Fin cfg0.N) : Vec Ideal S1024x1536 .f32 := iblk m c 3 t
abbrev b4 (c : Dev nD) (t : Fin cfg0.N) : Vec Ideal S1x1536 .f32 := iblk m c 4 t
abbrev b5 (c : Dev nD) (t : Fin cfg0.N) : Vec Ideal S32x1 .f32 := iblk m c 5 t

theorem window0 (c : Dev nD) (t : Fin cfg0.N) (i d : Fin 1024) : b0 m c t (ix2 i d) = xA m c (ix2 (rowAt t i) d) := by
  obtain ⟨h0, h1⟩ := index0 t
  unfold b0 iblk
  refine (congrFun (V_main_arg0 m c) _).trans (congrArg (m (c.tc.loc main_arg0)) (funext fun a => Fin.ext ?_))
  match a with
  | ⟨0, _⟩ => show win0_0.index t (0 : Fin 2) * 1024 + 1 * i.val = 1024 * t.val + i.val; rw [h0]; omega
  | ⟨1, _⟩ => show win0_0.index t (1 : Fin 2) * 1024 + 1 * d.val = d.val; rw [h1]; omega

theorem window1 (c : Dev nD) (t : Fin cfg0.N) (i : Fin 1024) (d : Fin 6144) :
    b1 m c t (ix3 0 0 d) = gA m c (ix3 ⟨(rowAt t i).val / 8192, by omega⟩ 0 d) := by
  obtain ⟨h0, h1, h2⟩ := index1 t
  unfold b1 iblk
  refine (congrFun (V_main_arg1 m c) _).trans (congrArg (m (c.tc.loc main_arg1)) (funext fun a => Fin.ext ?_))
  match a with
  | ⟨0, _⟩ => show win0_1.index t (0 : Fin 3) * 1 + 1 * 0 = (1024 * t.val + i.val) / 8192; rw [h0]; omega
  | ⟨1, _⟩ => show win0_1.index t (1 : Fin 3) * 1 + 1 * 0 = 0; rw [h1]
  | ⟨2, _⟩ => show win0_1.index t (2 : Fin 3) * 6144 + 1 * d.val = d.val; rw [h2]; omega

/-- The positions, the bias and the frequencies reach their windows reshaped. -/
theorem V_main_v10 (c : Dev nD) : V m c main_v10 = shapeCast S16x1x1024 (posA m c) shapeCasts_S2x8192_S16x1x1024 := by
  show StableHlo.after hostOps0 (fun b => m (c, b)) main_v10 = _
  simp only [hostOps0]
  after_results_simp <;> rfl
theorem V_main_v11 (c : Dev nD) : V m c main_v11 = shapeCast S1x1536 (bA m c) shapeCasts_S1536_S1x1536 := by
  show StableHlo.after hostOps0 (fun b => m (c, b)) main_v11 = _
  simp only [hostOps0]
  after_results_simp <;> rfl
theorem V_main_v12 (c : Dev nD) : V m c main_v12 = shapeCast S32x1 freqs shapeCasts_S32_S32x1 := by
  show StableHlo.after hostOps0 (fun b => m (c, b)) main_v12 = _
  simp only [hostOps0]
  after_results_simp <;> rfl

theorem asBlocks (p : IVec S2x8192 32) (t : Fin 16) (i : Fin 1024) (i' : Fin 16384) (h : i'.val = 1024 * t.val + i.val) :
    shapeCast S16x1x1024 p shapeCasts_S2x8192_S16x1x1024 (ix3 t 0 i) = p (ix2 ⟨i'.val / 8192, by omega⟩ ⟨i'.val % 8192, by omega⟩) :=
  shapeCast_apply p shapeCasts_S2x8192_S16x1x1024 (ix3 t 0 i) (ix2 _ _) (by
    refine (Shape.rowMajor_val_two _).trans (Eq.trans ?_ (Shape.rowMajor_val_three _).symm)
    show i'.val / 8192 * 8192 + i'.val % 8192 = (t.val * 1 + 0) * 1024 + i.val
    omega)

theorem asRow (x : Vec Ideal S1536 .f32) (d : Fin 1536) : shapeCast S1x1536 x shapeCasts_S1536_S1x1536 (ix2 0 d) = x (ix1 d) :=
  shapeCast_apply x shapeCasts_S1536_S1x1536 (ix2 0 d) (ix1 d) (by
    refine (Shape.rowMajor_val_one _).trans (Eq.trans ?_ (Shape.rowMajor_val_two _).symm)
    show d.val = 0 * 1536 + d.val
    omega)

theorem asColumn (x : Vec Ideal S32 .f32) (k : Fin 32) : shapeCast S32x1 x shapeCasts_S32_S32x1 (ix2 k 0) = x (ix1 k) :=
  shapeCast_apply x shapeCasts_S32_S32x1 (ix2 k 0) (ix1 k) (by
    refine (Shape.rowMajor_val_one _).trans (Eq.trans ?_ (Shape.rowMajor_val_two _).symm)
    show k.val = k.val * 1 + 0
    omega)

theorem window2 (c : Dev nD) (t : Fin cfg0.N) (i : Fin 1024) :
    b2 m c t (ix3 0 0 i) = posA m c (ix2 ⟨(rowAt t i).val / 8192, by omega⟩ ⟨(rowAt t i).val % 8192, by omega⟩) := by
  obtain ⟨h0, h1, h2⟩ := index2 t
  refine Eq.trans ?_ (asBlocks (posA m c) ⟨t.val, pt_lt t⟩ i (rowAt t i) rfl)
  rw [← V_main_v10]
  unfold b2 iblk
  refine congrArg (V m c main_v10) (funext fun a => Fin.ext ?_)
  match a with
  | ⟨0, _⟩ => show win0_2.index t (0 : Fin 3) * 1 + 1 * 0 = t.val; rw [h0]; omega
  | ⟨1, _⟩ => show win0_2.index t (1 : Fin 3) * 1 + 1 * 0 = 0; rw [h1]
  | ⟨2, _⟩ => show win0_2.index t (2 : Fin 3) * 1024 + 1 * i.val = i.val; rw [h2]; omega

theorem window3 (c : Dev nD) (t : Fin cfg0.N) (e : Fin 1024) (d : Fin 1536) : b3 m c t (ix2 e d) = wA m c (ix2 e d) := by
  obtain ⟨h0, h1⟩ := index3 t
  unfold b3 iblk
  refine (congrFun (V_main_arg3 m c) _).trans (congrArg (m (c.tc.loc main_arg3)) (funext fun a => Fin.ext ?_))
  match a with
  | ⟨0, _⟩ => show win0_3.index t (0 : Fin 2) * 1024 + 1 * e.val = e.val; rw [h0]; omega
  | ⟨1, _⟩ => show win0_3.index t (1 : Fin 2) * 1536 + 1 * d.val = d.val; rw [h1]; omega

theorem window4 (c : Dev nD) (t : Fin cfg0.N) (d : Fin 1536) : b4 m c t (ix2 0 d) = bA m c (ix1 d) := by
  obtain ⟨h0, h1⟩ := index4 t
  refine Eq.trans ?_ (asRow (bA m c) d)
  rw [← V_main_v11]
  unfold b4 iblk
  refine congrArg (V m c main_v11) (funext fun a => Fin.ext ?_)
  match a with
  | ⟨0, _⟩ => show win0_4.index t (0 : Fin 2) * 1 + 1 * 0 = 0; rw [h0]
  | ⟨1, _⟩ => show win0_4.index t (1 : Fin 2) * 1536 + 1 * d.val = d.val; rw [h1]; omega

theorem window5 (c : Dev nD) (t : Fin cfg0.N) (k : Fin 32) : b5 m c t (ix2 k 0) = freqs (ix1 k) := by
  obtain ⟨h0, h1⟩ := index5 t
  refine Eq.trans ?_ (asColumn freqs k)
  rw [← V_main_v12 m c]
  unfold b5 iblk
  refine congrArg (V m c main_v12) (funext fun a => Fin.ext ?_)
  match a with
  | ⟨0, _⟩ => show win0_5.index t (0 : Fin 2) * 32 + 1 * k.val = k.val; rw [h0]; omega
  | ⟨1, _⟩ => show win0_5.index t (1 : Fin 2) * 1 + 1 * 0 = 0; rw [h1]

/-! ## The scratch -/

/-- The weights, as the scratch holds them. -/
def held (c : Dev nD) : Vec Ideal S1024x1536 .bf16 := fun j => wA m c (ix2 (j 0) (j 1))

theorem stored (c : Dev nD) (t : Fin cfg0.N) : k0_pay1 (b3 m c t) = held m c := by
  funext j
  refine (congrArg (k0_pay1 (b3 m c t)) (idx2 j)).trans ((weights_eq (b3 m c t) (j 0) (j 1)).trans (window3 m c t (j 0) (j 1)))

theorem scratch (c : Dev nD) : ∀ (n : ℕ) (h : n < cfg0.N), (outsAt0 m c n h).2 = held m c := by
  have first : ∀ t : Fin cfg0.N, t.val % 16 = 0 → (outsAt0 m c t.val t.isLt).2 = held m c := by
    intro t h0
    refine (congrArg Prod.snd (outsAt0_A m c t h0)).trans ?_
    dsimp only
    exact (kept_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (b0 m c t) (b1 m c t) (b2 m c t) (b3 m c t) (b4 m c t) (b5 m c t) ((hcond0_0 t).mpr h0)).trans (stored m c t)
  intro n
  induction n with
  | zero => exact fun h => first ⟨0, h⟩ rfl
  | succ n ih =>
    intro h
    by_cases h0 : (n + 1) % 16 = 0
    · exact first ⟨n + 1, h⟩ h0
    · have hb := outsAt0_B m c ⟨n + 1, h⟩ h0
      refine (congrArg Prod.snd hb).trans ?_
      dsimp only
      unfold sout0_B_0
      exact ih _

/-- An element of a point's block is the result's at its row. -/
theorem elem_eq (c : Dev nD) (t : Fin cfg0.N) (i : Fin 1024) (d : Fin 1536) :
    elem (b0 m c t) (b1 m c t) (b2 m c t) (held m c) (b4 m c t) (b5 m c t) i d
      = elemA (xA m c) (gA m c) (posA m c) (wA m c) (bA m c) (rowAt t i) d := by
  unfold elem elemA row
  have ha : angles (b2 m c t) (b5 m c t) i = fun k => freqs (ix1 k) * (((posA m c (ix2 ⟨(rowAt t i).val / 8192, by omega⟩ ⟨(rowAt t i).val % 8192, by omega⟩)).toInt : ℝ) : EReal) := by
    funext k
    unfold angles
    rw [window2, window5]
  rw [ha]
  simp only [window0, window4, window1 m c t i]
  rfl

/-! ## From the blocks to the array -/

/-- The point that writes row `i`, -/
def pointOf (i : Fin 16384) : Fin cfg0.N := ⟨i.val / 1024, lt_of_lt_of_eq (by omega) N_0.symm⟩

/-- and where element `y` of a point's block lies in the result. -/
def at6 (t : Fin cfg0.N) (y : S1024x1536.Idx) : S16384x1536.Idx := ((cfg0.win 6).blk t).view.emb y

theorem at6_eq (t : Fin cfg0.N) (y : S1024x1536.Idx) : at6 t y = (ix2 (rowAt t (y 0)) (y 1) : S16384x1536.Idx) := by
  obtain ⟨h0, h1⟩ := index6 t
  funext a
  apply Fin.ext
  match a with
  | ⟨0, _⟩ => show win0_6.index t (0 : Fin 2) * 1024 + 1 * (y 0).val = 1024 * t.val + (y 0).val; rw [h0]; omega
  | ⟨1, _⟩ => show win0_6.index t (1 : Fin 2) * 1536 + 1 * (y 1).val = (y 1).val; rw [h1]; omega

/-- What a point writes back is its block. -/
theorem flushed_block (c : Dev nD) (t : Fin cfg0.N) :
    (dats m 0 c).flushed 6 t = (cfg0.win 6).cut (grid0.coords t) (block (b0 m c t) (b1 m c t) (b2 m c t) (held m c) (b4 m c t) (b5 m c t)) := by
  by_cases h0 : t.val % 16 = 0
  · refine (Value.flushed6_A m c t h0).trans (congrArg ((cfg0.win 6).cut (grid0.coords t)) ?_)
    refine (out_A (b0 m c t) (b1 m c t) (b2 m c t) (b4 m c t) (b5 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (b3 m c t)).trans ?_
    rw [stored]
  · refine (Value.flushed6_B m c t h0).trans (congrArg ((cfg0.win 6).cut (grid0.coords t)) ?_)
    refine (out_B (b0 m c t) (b1 m c t) (b2 m c t) _ (b4 m c t) (b5 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (b3 m c t)).trans ?_
    rw [scratch]

theorem flushed6_eq (c : Dev nD) (t : Fin cfg0.N) (_ : (cfg0.win 6).flush t = true) :
    (dats m 0 c).flushed 6 t = ((cfg0.win 6).blk t).view.read (Elt Ideal) (resultA m c) := by
  refine (flushed_block m c t).trans ?_
  refine funext fun (y : S1024x1536.Idx) => ?_
  show elem (b0 m c t) (b1 m c t) (b2 m c t) (held m c) (b4 m c t) (b5 m c t) (y 0) (y 1) = resultA m c (at6 t y)
  rw [at6_eq]
  exact elem_eq m c t (y 0) (y 1)

theorem mem_slice (r : Rect main_v13.ty.shape) (i : main_v13.ty.Idx) (h : i ∈ r.set) : i ∈ ((View.whole main_v13).slice r).set := by
  rw [View.set_slice_whole]
  exact h

/-- Every element of the result is in some point's block. -/
theorem covered6 (i : S16384x1536.Idx) : ∃ t : Fin cfg0.N, (cfg0.win 6).flush t = true ∧ i ∈ ((cfg0.win 6).blk t).view.set := by
  refine ⟨pointOf (i 0), flush0_6 _, ?_⟩
  refine mem_slice ((cfg0.win 6).rect (pointOf (i 0))) i (Rect.mem_set_unit.mpr fun a => ?_)
  have hi0 : (i 0).val < 16384 := (i 0).isLt
  have hi1 : (i 1).val < 1536 := (i 1).isLt
  obtain ⟨h0, h1⟩ := index6 (pointOf (i 0))
  match a with
  | ⟨0, _⟩ =>
    show win0_6.index (pointOf (i 0)) (0 : Fin 2) * 1024 ≤ (i 0).val ∧ (i 0).val < win0_6.index (pointOf (i 0)) (0 : Fin 2) * 1024 + 1024
    rw [h0]
    show (i 0).val / 1024 * 1024 ≤ (i 0).val ∧ (i 0).val < (i 0).val / 1024 * 1024 + 1024
    omega
  | ⟨1, _⟩ =>
    show win0_6.index (pointOf (i 0)) (1 : Fin 2) * 1536 ≤ (i 1).val ∧ (i 1).val < win0_6.index (pointOf (i 0)) (1 : Fin 2) * 1536 + 1536
    rw [h1]
    omega

/-- The points' blocks make up the result. -/
theorem final6 (c : Dev nD) : (dats m 0 c).arrAt 6 cfg0.N = resultA m c :=
  (dats m 0 c).arrAt_eq_of_cover 6 _ (fun t hf => flushed6_eq m c t hf) covered6

/-- Every run ends with the result there and the arguments as they began. -/
theorem run : θ_run defs (onTc (τ := τ) (main (F := Ideal))) ⟨m, fun _ => 0, ρ⟩ (fun r => ∀ c : Dev nD,
      r.2.mem ((c : Thread nD τ).loc main_v13) = resultA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (final6 m c), (h c).2⟩) (Value.run_blocks (F := Ideal) m ρ)

end Cert.Kernel4Ideal.Proj

end
-- ==== Proof.ProjRef.lean ====
/-
  THE PROJECTION'S REFERENCE, its own terms named and read over the extended reals.
-/
module

public import proofs.«01_k».proof.Proof.Gen.Reference4Ideal.Run
public import proofs.«01_k».proof.Proof.Rotary
public import Idealize.ShloMosaic.Lib.Pointwise
public import Idealize.ShloMosaic.PureOps.Ideal.Laws

@[expose] public section

set_option maxRecDepth 16384

noncomputable section

namespace Cert.Reference4Ideal.Proj

open Cert.Reference4Ideal Cert.Reference4Ideal.Gen
open Idealize.ShloMosaic Idealize.ShloMosaic.TcCoe

/-- The frequencies; -/
def freqs : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- the angles. -/
def angleR (p : IVec S2x8192 32) (f : FVec Ideal S32 .f32) : FVec Ideal S2x8192x32 .f32 :=
  mulf (broadcastInDim S2x8192x32 ![0, 1, 2] bcast_S2x8192x1_S2x8192x32_0_1_2 (broadcastInDim S2x8192x1 ![0, 1] bcast_S2x8192_S2x8192x1_0_1 (sitofp .f32 p)))
    (broadcastInDim S2x8192x32 ![0, 1, 2] bcast_S1x1x32_S2x8192x32_0_1_2 (broadcastInDim S1x1x32 ![2] bcast_S32_S1x1x32_2 f))

/-- The projection of the modulated activations. -/
def projR (x : FVec Ideal S16384x1024 .f32) (g : FVec Ideal S2x1x6144 .f32) (w : FVec Ideal S1024x1536 .f32) (b : FVec Ideal S1536 .f32) : FVec Ideal S2x8192x1536 .f32 :=
  addf (Host.dotGeneral dot_S2x8192x1024_S1024x1536_S2x8192x1536_2_0_01_1_n_n none
      (addf (mulf (shapeCast S2x8192x1024 x shapeCasts_S16384x1024_S2x8192x1024)
          (broadcastInDim S2x8192x1024 ![0, 1, 2] bcast_S2x1x1024_S2x8192x1024_0_1_2
            (addf (broadcastInDim S2x1x1024 ![] bcast_S_S2x1x1024 (constant S_ .f32 0x3F800000#32)) (extractStridedSlice S2x1x1024 ![0, 0, 1024] g slices_S2x1x6144_S2x1x1024_0_0_1024))))
        (broadcastInDim S2x8192x1024 ![0, 1, 2] bcast_S2x1x1024_S2x8192x1024_0_1_2 (extractStridedSlice S2x1x1024 ![0, 0, 0] g slices_S2x1x6144_S2x1x1024_0_0_0))) w)
    (broadcastInDim S2x8192x1536 ![0, 1, 2] bcast_S1x1x1536_S2x8192x1536_0_1_2 (broadcastInDim S1x1x1536 ![2] bcast_S1536_S1x1x1536_2 b))

/-- The queries' heads turned. -/
def turn16 (q : FVec Ideal S2x8192x16x64 .f32) (a : FVec Ideal S2x8192x32 .f32) : FVec Ideal S2x8192x16x64 .f32 :=
  concatenate S2x8192x16x64 3
    [⟨S2x8192x16x32, subf
      (mulf (extractStridedSlice S2x8192x16x32 ![0, 0, 0, 0] q slices_S2x8192x16x64_S2x8192x16x32_0_0_0_0)
        (broadcastInDim S2x8192x16x32 ![0, 1, 2, 3] bcast_S2x8192x1x32_S2x8192x16x32_0_1_2_3 (broadcastInDim S2x8192x1x32 ![0, 1, 3] bcast_S2x8192x32_S2x8192x1x32_0_1_3 (Host.cos a))))
      (mulf (extractStridedSlice S2x8192x16x32 ![0, 0, 0, 32] q slices_S2x8192x16x64_S2x8192x16x32_0_0_0_32)
        (broadcastInDim S2x8192x16x32 ![0, 1, 2, 3] bcast_S2x8192x1x32_S2x8192x16x32_0_1_2_3 (broadcastInDim S2x8192x1x32 ![0, 1, 3] bcast_S2x8192x32_S2x8192x1x32_0_1_3 (Host.sin a))))⟩,
     ⟨S2x8192x16x32, addf
      (mulf (extractStridedSlice S2x8192x16x32 ![0, 0, 0, 32] q slices_S2x8192x16x64_S2x8192x16x32_0_0_0_32)
        (broadcastInDim S2x8192x16x32 ![0, 1, 2, 3] bcast_S2x8192x1x32_S2x8192x16x32_0_1_2_3 (broadcastInDim S2x8192x1x32 ![0, 1, 3] bcast_S2x8192x32_S2x8192x1x32_0_1_3 (Host.cos a))))
      (mulf (extractStridedSlice S2x8192x16x32 ![0, 0, 0, 0] q slices_S2x8192x16x64_S2x8192x16x32_0_0_0_0)
        (broadcastInDim S2x8192x16x32 ![0, 1, 2, 3] bcast_S2x8192x1x32_S2x8192x16x32_0_1_2_3 (broadcastInDim S2x8192x1x32 ![0, 1, 3] bcast_S2x8192x32_S2x8192x1x32_0_1_3 (Host.sin a))))⟩]
    concatenates_S2x8192x16x32_S2x8192x16x32_S2x8192x16x64_d3

/-- The keys' heads turned. -/
def turn4 (q : FVec Ideal S2x8192x4x64 .f32) (a : FVec Ideal S2x8192x32 .f32) : FVec Ideal S2x8192x4x64 .f32 :=
  concatenate S2x8192x4x64 3
    [⟨S2x8192x4x32, subf
      (mulf (extractStridedSlice S2x8192x4x32 ![0, 0, 0, 0] q slices_S2x8192x4x64_S2x8192x4x32_0_0_0_0)
        (broadcastInDim S2x8192x4x32 ![0, 1, 2, 3] bcast_S2x8192x1x32_S2x8192x4x32_0_1_2_3 (broadcastInDim S2x8192x1x32 ![0, 1, 3] bcast_S2x8192x32_S2x8192x1x32_0_1_3 (Host.cos a))))
      (mulf (extractStridedSlice S2x8192x4x32 ![0, 0, 0, 32] q slices_S2x8192x4x64_S2x8192x4x32_0_0_0_32)
        (broadcastInDim S2x8192x4x32 ![0, 1, 2, 3] bcast_S2x8192x1x32_S2x8192x4x32_0_1_2_3 (broadcastInDim S2x8192x1x32 ![0, 1, 3] bcast_S2x8192x32_S2x8192x1x32_0_1_3 (Host.sin a))))⟩,
     ⟨S2x8192x4x32, addf
      (mulf (extractStridedSlice S2x8192x4x32 ![0, 0, 0, 32] q slices_S2x8192x4x64_S2x8192x4x32_0_0_0_32)
        (broadcastInDim S2x8192x4x32 ![0, 1, 2, 3] bcast_S2x8192x1x32_S2x8192x4x32_0_1_2_3 (broadcastInDim S2x8192x1x32 ![0, 1, 3] bcast_S2x8192x32_S2x8192x1x32_0_1_3 (Host.cos a))))
      (mulf (extractStridedSlice S2x8192x4x32 ![0, 0, 0, 0] q slices_S2x8192x4x64_S2x8192x4x32_0_0_0_0)
        (broadcastInDim S2x8192x4x32 ![0, 1, 2, 3] bcast_S2x8192x1x32_S2x8192x4x32_0_1_2_3 (broadcastInDim S2x8192x1x32 ![0, 1, 3] bcast_S2x8192x32_S2x8192x1x32_0_1_3 (Host.sin a))))⟩]
    concatenates_S2x8192x4x32_S2x8192x4x32_S2x8192x4x64_d3

/-- The result's columns: the queries, turned and scaled; -/
def queriesR (p : FVec Ideal S2x8192x1536 .f32) (a : FVec Ideal S2x8192x32 .f32) : FVec Ideal S2x8192x1024 .f32 :=
  shapeCast S2x8192x1024 (mulf (turn16 (shapeCast S2x8192x16x64 (extractStridedSlice S2x8192x1024 ![0, 0, 0] p slices_S2x8192x1536_S2x8192x1024_0_0_0) shapeCasts_S2x8192x1024_S2x8192x16x64) a)
    (broadcastInDim S2x8192x16x64 ![] bcast_S_S2x8192x16x64 (constant S_ .f32 0x3E000000#32))) shapeCasts_S2x8192x16x64_S2x8192x1024

/-- the keys, turned; -/
def keysR (p : FVec Ideal S2x8192x1536 .f32) (a : FVec Ideal S2x8192x32 .f32) : FVec Ideal S2x8192x256 .f32 :=
  shapeCast S2x8192x256 (turn4 (shapeCast S2x8192x4x64 (extractStridedSlice S2x8192x256 ![0, 0, 1024] p slices_S2x8192x1536_S2x8192x256_0_0_1024) shapeCasts_S2x8192x256_S2x8192x4x64) a)
    shapeCasts_S2x8192x4x64_S2x8192x256

/-- and the values. -/
def joinR (q : FVec Ideal S2x8192x1024 .f32) (k : FVec Ideal S2x8192x256 .f32) (p : FVec Ideal S2x8192x1536 .f32) : FVec Ideal S2x8192x1536 .f32 :=
  concatenate S2x8192x1536 2 [⟨S2x8192x1024, q⟩, ⟨S2x8192x256, k⟩,
    ⟨S2x8192x256, extractStridedSlice S2x8192x256 ![0, 0, 1280] p slices_S2x8192x1536_S2x8192x256_0_0_1280⟩] concatenates_S2x8192x1024_S2x8192x256_S2x8192x256_S2x8192x1536_d2

def result (x : FVec Ideal S16384x1024 .f32) (g : FVec Ideal S2x1x6144 .f32) (pos : IVec S2x8192 32) (w : FVec Ideal S1024x1536 .f32) (b : FVec Ideal S1536 .f32) :
    FVec Ideal S16384x1536 .bf16 :=
  truncf .bf16 (shapeCast S16384x1536 (joinR (queriesR (projR x g w b) (angleR pos freqs)) (keysR (projR x g w b) (angleR pos freqs)) (projR x g w b))
    shapeCasts_S2x8192x1536_S16384x1536) bitsLt_bf16_f32

/-- Every run ends with this result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v70) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (by unfold Value.res_main_v70; rfl), (h c).2⟩) (Cert.Reference4Ideal.Value.run (F := Ideal) m ρ)

/-! ## At an element -/

/-- Token `8192 b + i`. -/
abbrev tok (b : Fin 2) (i : Fin 8192) : Fin 16384 := ⟨8192 * b.val + i.val, by omega⟩

theorem angleR_apply (p : IVec S2x8192 32) (f : FVec Ideal S32 .f32) (b : Fin 2) (i : Fin 8192) (k : Fin 32) :
    angleR p f (ix3 b i k) = f (ix1 k) * (((p (ix2 b i)).toInt : ℝ) : EReal) := by
  pointwise [angleR]
  exact mul_comm _ _

theorem projR_apply (x : FVec Ideal S16384x1024 .f32) (g : FVec Ideal S2x1x6144 .f32) (w : FVec Ideal S1024x1536 .f32) (bias : FVec Ideal S1536 .f32)
    (b : Fin 2) (i : Fin 8192) (d : Fin 1536) :
    projR x g w bias (ix3 b i d) = Rotary.projected (fun e => x (ix2 (tok b i) e)) (fun e => g (ix3 b 0 ⟨e.val, by omega⟩))
      (fun e => g (ix3 b 0 ⟨1024 + e.val, by omega⟩)) (fun e d => w (ix2 e d)) (fun d => bias (ix1 d)) d := by
  have ht : ∀ h, (⟨b.val * 8192 + i.val, h⟩ : Fin 16384) = tok b i := fun h => Fin.ext (show b.val * 8192 + i.val = 8192 * b.val + i.val by omega)
  pointwise [projR]
  simp only [ht]
  rfl

theorem queriesR_apply (p : FVec Ideal S2x8192x1536 .f32) (a : FVec Ideal S2x8192x32 .f32) (b : Fin 2) (i : Fin 8192) (d : Fin 1024) :
    queriesR p a (ix3 b i d) = Rotary.turn (fun d => p (ix3 b i d)) (fun k => a (ix3 b i k)) ⟨d.val, by omega⟩ * Scalar.ofBits (F := Ideal) .f32 0x3E000000#32 := by
  pointwise [queriesR, turn16]
  refine congrArg (fun z : EReal => z * Ideal.ofBits .f32 0x3E000000#32) ?_
  by_cases h : d.val % 64 < 32
  · refine (dif_pos h).trans ?_
    exact (Rotary.turn_first (fun d => p (ix3 b i d)) (fun k => a (ix3 b i k)) ⟨d.val, by omega⟩ ⟨d.val / 64 * 64 + (32 + d.val % 64), by omega⟩ ⟨d.val % 64, h⟩ h
      (by show d.val / 64 * 64 + (32 + d.val % 64) = d.val + 32; omega) (by show d.val % 64 = d.val % 32; omega)).symm
  · refine (dif_neg h).trans ?_
    refine Eq.trans ?_ (Rotary.turn_second (fun d => p (ix3 b i d)) (fun k => a (ix3 b i k)) ⟨d.val, by omega⟩ ⟨d.val / 64 * 64 + (d.val % 64 - 32), by omega⟩
      ⟨d.val % 64 - 32, by omega⟩ h (by show d.val / 64 * 64 + (d.val % 64 - 32) + 32 = d.val; omega) (by show d.val % 64 - 32 = d.val % 32; omega)).symm
    exact congrArg₂ (fun y z : EReal => y + z) (congrArg (fun y : EReal => y * _) (congrArg (fun d => p (ix3 b i d)) (Fin.ext (show d.val / 64 * 64 + (32 + (d.val % 64 - 32)) = d.val by omega)))) rfl

theorem keysR_apply (p : FVec Ideal S2x8192x1536 .f32) (a : FVec Ideal S2x8192x32 .f32) (b : Fin 2) (i : Fin 8192) (d : Fin 256) :
    keysR p a (ix3 b i d) = Rotary.turn (fun d => p (ix3 b i d)) (fun k => a (ix3 b i k)) ⟨1024 + d.val, by omega⟩ := by
  pointwise [keysR, turn4]
  by_cases h : d.val % 64 < 32
  · refine (dif_pos h).trans ?_
    exact (Rotary.turn_first (fun d => p (ix3 b i d)) (fun k => a (ix3 b i k)) ⟨1024 + d.val, by omega⟩ ⟨1024 + (d.val / 64 * 64 + (32 + d.val % 64)), by omega⟩ ⟨d.val % 64, h⟩
      (show (1024 + d.val) % 64 < 32 by omega) (by show 1024 + (d.val / 64 * 64 + (32 + d.val % 64)) = 1024 + d.val + 32; omega)
      (by show d.val % 64 = (1024 + d.val) % 32; omega)).symm
  · refine (dif_neg h).trans ?_
    refine Eq.trans ?_ (Rotary.turn_second (fun d => p (ix3 b i d)) (fun k => a (ix3 b i k)) ⟨1024 + d.val, by omega⟩ ⟨1024 + (d.val / 64 * 64 + (d.val % 64 - 32)), by omega⟩
      ⟨d.val % 64 - 32, by omega⟩ (show ¬ (1024 + d.val) % 64 < 32 by omega) (by show 1024 + (d.val / 64 * 64 + (d.val % 64 - 32)) + 32 = 1024 + d.val; omega)
      (by show d.val % 64 - 32 = (1024 + d.val) % 32; omega)).symm
    exact congrArg₂ (fun y z : EReal => y + z) (congrArg (fun y : EReal => y * _) (congrArg (fun d => p (ix3 b i d))
      (Fin.ext (show 1024 + (d.val / 64 * 64 + (32 + (d.val % 64 - 32))) = 1024 + d.val by omega)))) rfl

theorem joinR_apply (q : FVec Ideal S2x8192x1024 .f32) (k : FVec Ideal S2x8192x256 .f32) (p : FVec Ideal S2x8192x1536 .f32) (b : Fin 2) (i : Fin 8192) (d : Fin 1536) :
    joinR q k p (ix3 b i d) = if h : d.val < 1024 then q (ix3 b i ⟨d.val, h⟩) else if h' : d.val - 1024 < 256 then k (ix3 b i ⟨d.val - 1024, h'⟩) else p (ix3 b i d) := by
  pointwise [joinR]
  by_cases h : d.val < 1024
  · refine (dif_pos h).trans ?_
    rw [dif_pos h]
  · refine (dif_neg h).trans ?_
    rw [dif_neg h]
    by_cases h' : d.val - 1024 < 256
    · refine (dif_pos h').trans ?_
      rw [dif_pos h']
    · refine (dif_neg h').trans ?_
      rw [dif_neg h']
      exact congrArg (fun d => p (ix3 b i d)) (Fin.ext (show 1280 + (d.val - 1024 - 256) = d.val by omega))

/-- The result, an element at a time. -/
theorem result_apply (x : FVec Ideal S16384x1024 .f32) (g : FVec Ideal S2x1x6144 .f32) (pos : IVec S2x8192 32) (w : FVec Ideal S1024x1536 .f32) (bias : FVec Ideal S1536 .f32)
    (b : Fin 2) (i : Fin 8192) (d : Fin 1536) :
    result x g pos w bias (ix2 (tok b i) d)
      = Rotary.out (Rotary.projected (fun e => x (ix2 (tok b i) e)) (fun e => g (ix3 b 0 ⟨e.val, by omega⟩))
          (fun e => g (ix3 b 0 ⟨1024 + e.val, by omega⟩)) (fun e d => w (ix2 e d)) (fun d => bias (ix1 d)))
        (fun k => freqs (ix1 k) * (((pos (ix2 b i)).toInt : ℝ) : EReal)) (Scalar.ofBits (F := Ideal) .f32 0x3E000000#32) d := by
  have hp : (fun d => projR x g w bias (ix3 b i d)) = Rotary.projected (fun e => x (ix2 (tok b i) e)) (fun e => g (ix3 b 0 ⟨e.val, by omega⟩))
      (fun e => g (ix3 b 0 ⟨1024 + e.val, by omega⟩)) (fun e d => w (ix2 e d)) (fun d => bias (ix1 d)) := funext fun d => projR_apply x g w bias b i d
  have ha : (fun k => angleR pos freqs (ix3 b i k)) = fun k => freqs (ix1 k) * (((pos (ix2 b i)).toInt : ℝ) : EReal) := funext fun k => angleR_apply pos freqs b i k
  refine (shapeCast_apply (joinR (queriesR (projR x g w bias) (angleR pos freqs)) (keysR (projR x g w bias) (angleR pos freqs)) (projR x g w bias))
    shapeCasts_S2x8192x1536_S16384x1536 (ix2 (tok b i) d) (ix3 b i d) (by
      refine (Shape.rowMajor_val_three _).trans (Eq.trans ?_ (Shape.rowMajor_val_two _).symm)
      show (b.val * 8192 + i.val) * 1536 + d.val = (8192 * b.val + i.val) * 1536 + d.val
      omega)).trans ?_
  rw [joinR_apply, ← hp, ← ha]
  unfold Rotary.out
  by_cases h : d.val < 1024
  · rw [dif_pos h, if_pos h, queriesR_apply]
  · rw [dif_neg h, if_neg h]
    by_cases h' : d.val - 1024 < 256
    · rw [dif_pos h', if_pos (by omega), keysR_apply]
      exact congrArg (Rotary.turn _ _) (Fin.ext (show 1024 + (d.val - 1024) = d.val by omega))
    · rw [dif_neg h', if_neg (by omega)]

end Cert.Reference4Ideal.Proj

end
-- ==== Proof.Modulation.lean ====
/-
  A ROW OF THE MODULATION, over the extended reals: the conditioning through silu, times a layer's weights, plus its bias.
-/
module

public import Idealize.ShloMosaic.PureOps.Ideal.Laws

@[expose] public section

noncomputable section

namespace Cert.Modulation

open Idealize.ShloMosaic

/-- Column `d` of the row that the conditioning `c` makes. -/
def out (c : Fin 1024 → EReal) (w : Fin 1024 → Fin 6144 → EReal) (b : Fin 6144 → EReal) (d : Fin 6144) : EReal :=
  (∑ e, c e * Ideal.logistic (c e) * w e d) + b d

end Cert.Modulation

end
-- ==== Proof.ModArray.lean ====
/-
  THE MODULATION ROWS, as a function of the arguments: what a grid point makes of its blocks, what the windows hold of the arguments,
  and that the four blocks of columns make up the result.
-/
module

public import proofs.«01_k».proof.Proof.Gen.Kernel5Ideal.Value
public import proofs.«01_k».proof.Proof.Modulation
public import Idealize.ShloMosaic.Lib.KernelVsHost
public import Idealize.ShloMosaic.Lib.Pointwise
public import Idealize.ShloMosaic.Lib.Pointwise.Tactic
public import Idealize.ShloMosaic.Lib.Pipeline.Value
public import Idealize.ShloMosaic.Lib.Pipeline.ValueKit.Tiles

@[expose] public section

set_option maxRecDepth 16384

noncomputable section

namespace Cert.Kernel5Ideal.Mod

open Cert.Kernel5Ideal Cert.Kernel5Ideal.Gen
open Idealize.ShloMosaic Idealize.ShloMosaic.TcCoe Idealize.ShloMosaic.Tactic Idealize.SL.Sem

/-! ## A point's block -/

section block

variable (x0 : Vec Ideal S8x1024 .f32) (x1 : Vec Ideal S1x1024x1536 .f32) (x2 : Vec Ideal S1x1x1536 .f32)

/-- Row `r` of the product, at column `d` of the block. -/
def elem (r : Fin 8) (d : Fin 1536) : EReal :=
  (∑ e : Fin 1024, x0 (ix2 r e) * Ideal.logistic (x0 (ix2 r e)) * x1 (ix3 0 e d)) + x2 (ix3 0 0 d)

/-- The two rows that are kept. -/
def block : Vec Ideal S2x1x1536 .f32 := fun y => elem x0 x1 x2 ⟨(y 0).val, lt_of_lt_of_le (y 0).isLt (by decide)⟩ (y 2)

theorem product_apply (r : Fin 8) (d : Fin 1536) : k0_pay1 x0 x1 x2 (ix2 r d) = elem x0 x1 x2 r d := by
  pointwise [k0_pay1]
  rfl

theorem first_apply (d : Fin 1536) : k0_pay2 x0 x1 x2 (ix3 0 0 d) = elem x0 x1 x2 0 d := by
  refine Eq.trans ?_ (product_apply x0 x1 x2 0 d)
  generalize hp : k0_pay1 x0 x1 x2 = p
  pointwise [k0_pay2]
  rw [hp]

theorem second_apply (d : Fin 1536) : k0_pay3 x0 x1 x2 (ix3 0 0 d) = elem x0 x1 x2 1 d := by
  refine Eq.trans ?_ (product_apply x0 x1 x2 1 d)
  generalize hp : k0_pay1 x0 x1 x2 = p
  pointwise [k0_pay3]
  rw [hp]

theorem load0 : View.ld x0 r0_0 = x0 := funext fun j => congrArg x0 (funext fun a => Fin.ext (by
  match a with
  | ⟨0, _⟩ => show 0 + 1 * (j 0).val = (j 0).val; omega
  | ⟨1, _⟩ => show 0 + 1 * (j 1).val = (j 1).val; omega))
theorem load1 : View.ld x1 r0_1 = x1 := funext fun j => congrArg x1 (funext fun a => Fin.ext (by
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega))
theorem load2 : View.ld x2 r0_2 = x2 := funext fun j => congrArg x2 (funext fun a => Fin.ext (by
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega))

theorem line (x : S1x1x1536.Idx) : x = (ix3 0 0 (x 2) : S1x1x1536.Idx) := by
  have h0 : (x 0).val < 1 := (x 0).isLt
  have h1 : (x 1).val < 1 := (x 1).isLt
  refine funext fun a => Fin.ext ?_
  match a with
  | ⟨0, _⟩ => show (x 0).val = 0; omega
  | ⟨1, _⟩ => show (x 1).val = 0; omega
  | ⟨2, _⟩ => rfl

/-- The body's two stores leave the block. -/
theorem out_eq : out0_3 x0 x1 x2 = block x0 x1 x2 := by
  unfold out0_3
  rw [load0, load1, load2]
  refine funext fun y => View.canon_eq_of_allAt _ y _ (cover0_3 _ _ y) (View.allAt_cons _ _ _ ?_ (View.allAt_cons _ _ _ ?_ (View.allAt_nil _ _)))
  · intro x hx
    subst hx
    have h0 : (x 0).val < 1 := (x 0).isLt
    refine (congrArg (k0_pay3 x0 x1 x2) (line x)).trans ((second_apply x0 x1 x2 (x 2)).trans ?_)
    exact congrArg₂ (elem x0 x1 x2) (Fin.ext (show 1 = 1 + 1 * (x 0).val by omega)) (Fin.ext (show (x 2).val = 0 + 1 * (x 2).val by omega))
  · intro x hx
    subst hx
    have h0 : (x 0).val < 1 := (x 0).isLt
    refine (congrArg (k0_pay2 x0 x1 x2) (line x)).trans ((first_apply x0 x1 x2 (x 2)).trans ?_)
    exact congrArg₂ (elem x0 x1 x2) (Fin.ext (show 0 = 0 + 1 * (x 0).val by omega)) (Fin.ext (show (x 2).val = 0 + 1 * (x 2).val by omega))

end block

variable (m : (ℓ : Loc nD τ sig) → Buf (Elt Ideal) ℓ) (ρ : Dev nD → PrngReg)

/-- The arguments: the conditioning, and every layer's weights and bias. -/
abbrev cA (c : Dev nD) : Vec Ideal S2x1024 .f32 := m ((c : Thread nD τ).loc main_arg0)
abbrev wA (c : Dev nD) : Vec Ideal S2x1024x6144 .f32 := m ((c : Thread nD τ).loc main_arg1)
abbrev bA (c : Dev nD) : Vec Ideal S2x6144 .f32 := m ((c : Thread nD τ).loc main_arg2)

/-- The result, an element at a time. -/
def elemA (x : Vec Ideal S2x1024 .f32) (w : Vec Ideal S2x1024x6144 .f32) (b : Vec Ideal S2x6144 .f32) (r : Fin 2) (d : Fin 6144) : EReal :=
  Modulation.out (fun e => x (ix2 r e)) (fun e d => w (ix3 0 e d)) (fun d => b (ix2 0 d)) d

def resultA (c : Dev nD) : Vec Ideal S2x1x6144 .f32 := fun j => elemA (cA m c) (wA m c) (bA m c) (j 0) (j 2)

/-! ## The windows -/

theorem pt_lt (t : Fin cfg0.N) : t.val < 4 := lt_of_lt_of_eq t.isLt N_0

/-- Column `d` of grid point `t`. -/
def colAt (t : Fin cfg0.N) (d : Fin 1536) : Fin 6144 := ⟨1536 * t.val + d.val, by have := pt_lt t; omega⟩

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = t.val :=
  (by decide +kernel : ∀ t : Fin grid0.N, _)
theorem index2 : ∀ t : Fin cfg0.N, win0_2.index t (0 : Fin 3) = 0 ∧ win0_2.index t (1 : Fin 3) = 0 ∧ win0_2.index t (2 : Fin 3) = t.val :=
  (by decide +kernel : ∀ t : Fin grid0.N, _)
theorem index3 : ∀ t : Fin cfg0.N, win0_3.index t (0 : Fin 3) = 0 ∧ win0_3.index t (1 : Fin 3) = 0 ∧ win0_3.index t (2 : Fin 3) = t.val :=
  (by decide +kernel : ∀ t : Fin grid0.N, _)

/-- The three windows' blocks at a point. -/
abbrev b0 (c : Dev nD) (t : Fin cfg0.N) : Vec Ideal S8x1024 .f32 := iblk m c 0 t
abbrev b1 (c : Dev nD) (t : Fin cfg0.N) : Vec Ideal S1x1024x1536 .f32 := iblk m c 1 t
abbrev b2 (c : Dev nD) (t : Fin cfg0.N) : Vec Ideal S1x1x1536 .f32 := iblk m c 2 t

/-- The conditioning reaches its window with six rows of zeros below it, -/
theorem V_main_v0 (c : Dev nD) : V m c main_v0
    = pad S8x1024 ![0, 0] ![6, 0] ![0, 0] (cA m c) (sitofp (F := Ideal) .f32 (constantI S_ 32 0#32)) pads_S2x1024_S8x1024_060_000 h_S_ := by
  show StableHlo.after (List.flatten [hostOps0, hostOps0_1, hostOps0_2]) (fun b => m (c, b)) main_v0 = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- and the biases one row to a layer. -/
theorem V_main_v1 (c : Dev nD) : V m c main_v1 = shapeCast S2x1x6144 (bA m c) shapeCasts_S2x6144_S2x1x6144 := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem window0 (c : Dev nD) (t : Fin cfg0.N) (r : Fin 2) (r' : Fin 8) (hr : r'.val = r.val) (e : Fin 1024) :
    b0 m c t (ix2 r' e) = cA m c (ix2 r e) := by
  obtain ⟨h0, h1⟩ := index0 t
  have hp : V m c main_v0 (ix2 r' e : S8x1024.Idx) = cA m c (ix2 r e) := by
    rw [V_main_v0]
    refine pad_apply_of_inside _ _ _ (cA m c) _ pads_S2x1024_S8x1024_060_000 h_S_ _ (ix2 r e) fun a => ?_
    match a with
    | ⟨0, _⟩ => show r'.val = 0 + r.val * (0 + 1); omega
    | ⟨1, _⟩ => show e.val = 0 + e.val * (0 + 1); omega
  refine Eq.trans ?_ hp
  unfold b0 iblk
  refine congrArg (V m c main_v0) (funext fun a => Fin.ext ?_)
  match a with
  | ⟨0, _⟩ => show win0_0.index t (0 : Fin 2) * 8 + 1 * r'.val = r'.val; rw [h0]; omega
  | ⟨1, _⟩ => show win0_0.index t (1 : Fin 2) * 1024 + 1 * e.val = e.val; rw [h1]; omega

theorem window1 (c : Dev nD) (t : Fin cfg0.N) (e : Fin 1024) (d : Fin 1536) : b1 m c t (ix3 0 e d) = wA m c (ix3 0 e (colAt t d)) := by
  obtain ⟨h0, h1, h2⟩ := index1 t
  unfold b1 iblk
  refine (congrFun (V_main_arg1 m c) _).trans (congrArg (m (c.tc.loc main_arg1)) (funext fun a => Fin.ext ?_))
  match a with
  | ⟨0, _⟩ => show win0_1.index t (0 : Fin 3) * 1 + 1 * 0 = 0; rw [h0]
  | ⟨1, _⟩ => show win0_1.index t (1 : Fin 3) * 1024 + 1 * e.val = e.val; rw [h1]; omega
  | ⟨2, _⟩ => show win0_1.index t (2 : Fin 3) * 1536 + 1 * d.val = 1536 * t.val + d.val; rw [h2]; omega

theorem window2 (c : Dev nD) (t : Fin cfg0.N) (d : Fin 1536) : b2 m c t (ix3 0 0 d) = bA m c (ix2 0 (colAt t d)) := by
  obtain ⟨h0, h1, h2⟩ := index2 t
  have hs : V m c main_v1 (ix3 0 0 (colAt t d) : S2x1x6144.Idx) = bA m c (ix2 0 (colAt t d)) := by
    rw [V_main_v1]
    exact shapeCast_apply (bA m c) shapeCasts_S2x6144_S2x1x6144 (ix3 0 0 (colAt t d)) (ix2 0 (colAt t d)) (by
      refine (Shape.rowMajor_val_two _).trans (Eq.trans ?_ (Shape.rowMajor_val_three _).symm)
      show 0 * 6144 + (colAt t d).val = (0 * 1 + 0) * 6144 + (colAt t d).val
      omega)
  refine Eq.trans ?_ hs
  unfold b2 iblk
  refine congrArg (V m c main_v1) (funext fun a => Fin.ext ?_)
  match a with
  | ⟨0, _⟩ => show win0_2.index t (0 : Fin 3) * 1 + 1 * 0 = 0; rw [h0]
  | ⟨1, _⟩ => show win0_2.index t (1 : Fin 3) * 1 + 1 * 0 = 0; rw [h1]
  | ⟨2, _⟩ => show win0_2.index t (2 : Fin 3) * 1536 + 1 * d.val = 1536 * t.val + d.val; rw [h2]; omega

/-- An element of a point's block is the result's at its column. -/
theorem elem_eq (c : Dev nD) (t : Fin cfg0.N) (r : Fin 2) (r' : Fin 8) (hr : r'.val = r.val) (d : Fin 1536) :
    elem (b0 m c t) (b1 m c t) (b2 m c t) r' d = elemA (cA m c) (wA m c) (bA m c) r (colAt t d) := by
  unfold elem elemA Modulation.out
  rw [window2]
  refine congrArg (fun z : EReal => z + _) (Finset.sum_congr rfl fun e _ => ?_)
  rw [window0 m c t r r' hr e, window1]

/-! ## From the blocks to the array -/

/-- The point that writes column `d`, -/
def pointOf (d : Fin 6144) : Fin cfg0.N := ⟨d.val / 1536, lt_of_lt_of_eq (by omega) N_0.symm⟩

/-- and where element `y` of a point's block lies in the result. -/
def at3 (t : Fin cfg0.N) (y : S2x1x1536.Idx) : S2x1x6144.Idx := ((cfg0.win 3).blk t).view.emb y

/-- What a point writes back is its block of the result. -/
theorem flushed3_eq (c : Dev nD) (t : Fin cfg0.N) (_ : (cfg0.win 3).flush t = true) :
    (dats m 0 c).flushed 3 t = ((cfg0.win 3).blk t).view.read (Elt Ideal) (resultA m c) := by
  refine (Value.flushed3 m c t).trans ?_
  refine (congrArg ((cfg0.win 3).cut (grid0.coords t)) (out_eq (b0 m c t) (b1 m c t) (b2 m c t))).trans ?_
  refine funext fun (y : S2x1x1536.Idx) => ?_
  obtain ⟨h0, h1, h2⟩ := index3 t
  show elem (b0 m c t) (b1 m c t) (b2 m c t) _ (y 2) = elemA (cA m c) (wA m c) (bA m c) (at3 t y 0) (at3 t y 2)
  refine (elem_eq m c t (y 0) _ rfl (y 2)).trans ?_
  refine congrArg₂ (elemA (cA m c) (wA m c) (bA m c)) (Fin.ext ?_) (Fin.ext ?_)
  · show (y 0).val = win0_3.index t (0 : Fin 3) * 2 + 1 * (y 0).val; rw [h0]; omega
  · show 1536 * t.val + (y 2).val = win0_3.index t (2 : Fin 3) * 1536 + 1 * (y 2).val; rw [h2]; omega

theorem mem_slice (r : Rect main_v2.ty.shape) (i : main_v2.ty.Idx) (h : i ∈ r.set) : i ∈ ((View.whole main_v2).slice r).set := by
  rw [View.set_slice_whole]
  exact h

/-- Every element of the result is in some point's block. -/
theorem covered3 (i : S2x1x6144.Idx) : ∃ t : Fin cfg0.N, (cfg0.win 3).flush t = true ∧ i ∈ ((cfg0.win 3).blk t).view.set := by
  refine ⟨pointOf (i 2), flush0_3 _, ?_⟩
  refine mem_slice ((cfg0.win 3).rect (pointOf (i 2))) i (Rect.mem_set_unit.mpr fun a => ?_)
  have hi0 : (i 0).val < 2 := (i 0).isLt
  have hi1 : (i 1).val < 1 := (i 1).isLt
  have hi2 : (i 2).val < 6144 := (i 2).isLt
  obtain ⟨h0, h1, h2⟩ := index3 (pointOf (i 2))
  match a with
  | ⟨0, _⟩ =>
    show win0_3.index (pointOf (i 2)) (0 : Fin 3) * 2 ≤ (i 0).val ∧ (i 0).val < win0_3.index (pointOf (i 2)) (0 : Fin 3) * 2 + 2
    rw [h0]
    omega
  | ⟨1, _⟩ =>
    show win0_3.index (pointOf (i 2)) (1 : Fin 3) * 1 ≤ (i 1).val ∧ (i 1).val < win0_3.index (pointOf (i 2)) (1 : Fin 3) * 1 + 1
    rw [h1]
    omega
  | ⟨2, _⟩ =>
    show win0_3.index (pointOf (i 2)) (2 : Fin 3) * 1536 ≤ (i 2).val ∧ (i 2).val < win0_3.index (pointOf (i 2)) (2 : Fin 3) * 1536 + 1536
    rw [h2]
    show (i 2).val / 1536 * 1536 ≤ (i 2).val ∧ (i 2).val < (i 2).val / 1536 * 1536 + 1536
    omega

/-- The points' blocks make up the result. -/
theorem final3 (c : Dev nD) : (dats m 0 c).arrAt 3 cfg0.N = resultA m c :=
  (dats m 0 c).arrAt_eq_of_cover 3 _ (fun t hf => flushed3_eq m c t hf) covered3

/-- Every run ends with the result there and the arguments as they began. -/
theorem run : θ_run defs (onTc (τ := τ) (main (F := Ideal))) ⟨m, fun _ => 0, ρ⟩ (fun r => ∀ c : Dev nD,
      r.2.mem ((c : Thread nD τ).loc main_v2) = resultA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (final3 m c), (h c).2⟩) (Value.run_blocks (F := Ideal) m ρ)

end Cert.Kernel5Ideal.Mod

end
-- ==== Proof.ModRef.lean ====
/-
  THE MODULATION'S REFERENCE, its own terms named and read over the extended reals.
-/
module

public import proofs.«01_k».proof.Proof.Gen.Reference5Ideal.Run
public import proofs.«01_k».proof.Proof.Modulation
public import Idealize.ShloMosaic.Lib.Pointwise
public import Idealize.ShloMosaic.PureOps.Ideal.Laws

@[expose] public section

set_option maxRecDepth 16384

noncomputable section

namespace Cert.Reference5Ideal.Mod

open Cert.Reference5Ideal Cert.Reference5Ideal.Gen
open Idealize.ShloMosaic Idealize.ShloMosaic.TcCoe

/-- The conditioning through silu; -/
def actR (c : FVec Ideal S2x1024 .f32) : FVec Ideal S2x1024 .f32 :=
  mulf c (Host.divf (broadcastInDim S2x1024 ![] bcast_S_S2x1024 (constant S_ .f32 0x3F800000#32))
    (addf (broadcastInDim S2x1024 ![] bcast_S_S2x1024 (constant S_ .f32 0x3F800000#32)) (Host.exp (Host.negf c))))

/-- the first layer's rows. -/
def result (c : FVec Ideal S2x1024 .f32) (w : FVec Ideal S2x1024x6144 .f32) (b : FVec Ideal S2x6144 .f32) : FVec Ideal S2x1x6144 .f32 :=
  broadcastInDim S2x1x6144 ![0, 2] bcast_S2x6144_S2x1x6144_0_2
    (addf (Host.dotGeneral dot_S2x1024_S1024x6144_S2x6144_1_0_0_1_n_n none (actR c)
        (shapeCast S1024x6144 (extractStridedSlice S1x1024x6144 ![0, 0, 0] w slices_S2x1024x6144_S1x1024x6144_0_0_0) shapeCasts_S1x1024x6144_S1024x6144))
      (broadcastInDim S2x6144 ![0, 1] bcast_S1x6144_S2x6144_0_1 (broadcastInDim S1x6144 ![1] bcast_S6144_S1x6144_1
        (shapeCast S6144 (extractStridedSlice S1x6144 ![0, 0] b slices_S2x6144_S1x6144_0_0) shapeCasts_S1x6144_S6144))))

/-- Every run ends with this result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = result (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2⟩) (Cert.Reference5Ideal.Value.run (F := Ideal) m ρ)

theorem actR_apply (c : FVec Ideal S2x1024 .f32) (b : Fin 2) (e : Fin 1024) : actR c (ix2 b e) = c (ix2 b e) * Ideal.logistic (c (ix2 b e)) := by
  pointwise [actR]
  rfl

/-- The result at an element. -/
theorem result_apply (c : FVec Ideal S2x1024 .f32) (w : FVec Ideal S2x1024x6144 .f32) (bias : FVec Ideal S2x6144 .f32) (b : Fin 2) (d : Fin 6144) :
    result c w bias (ix3 b 0 d) = Modulation.out (fun e => c (ix2 b e)) (fun e d => w (ix3 0 e d)) (fun d => bias (ix2 0 d)) d := by
  generalize ha : actR c = a
  pointwise [result]
  rw [ha]
  unfold Modulation.out
  simp only [← actR_apply, ha]

end Cert.Reference5Ideal.Mod

end
-- ==== Proof.lean ====
/-
  THE CLAIMS. The kernel's result, element by element (BlockValue.lean), and the reference's (RefValue.lean) are the two sides
  of one equation about a softmax with a sink (SinkSoftmax.lean), which the precondition (Finite.lean) lets be used. For the experts
  (ExpValue.lean, ExpRef.lean) both sides are what the tile's expert makes of the row (ExpSpec.lean), and the precondition
  (ExpPlan.lean) is what keeps the kernel's blocks inside their arrays. For the combination (CombArray.lean, CombRef.lean) the two sides
  are two ways to scale a residual sum before its layer norm (Residual.lean). For the projection (ProjArray.lean, ProjRef.lean) both sides
  are the projected token, turned pair by pair by its position (Rotary.lean). For the modulation rows (ModArray.lean, ModRef.lean) both
  are the row of Modulation.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_scores_finite
public import proofs.«01_k».proof.Proof.BlockValue
public import proofs.«01_k».proof.Proof.RefValue
public import proofs.«01_k».proof.Proof.Finite
public import proofs.«01_k».proof.Proof.ExpBits
public import proofs.«01_k».proof.Proof.ExpPlan
public import proofs.«01_k».proof.Proof.ExpValue
public import proofs.«01_k».proof.Proof.ExpRef
public import proofs.«01_k».proof.Proof.Gen.Kernel2
public import proofs.«01_k».proof.Proof.Gen.Kernel2Ideal
public import proofs.«01_k».proof.Proof.Gen.Reference2Ideal
public import proofs.«01_k».proof.Proof.Gen.Pre_plan_valid
public import proofs.«01_k».proof.Proof.CombArray
public import proofs.«01_k».proof.Proof.CombRef
public import proofs.«01_k».proof.Proof.Gen.Kernel3.Frame
public import proofs.«01_k».proof.Proof.Gen.Kernel3Ideal.Value
public import proofs.«01_k».proof.Proof.Gen.Reference3Ideal.Run
public import proofs.«01_k».proof.Proof.ProjArray
public import proofs.«01_k».proof.Proof.ProjRef
public import proofs.«01_k».proof.Proof.Gen.Kernel4.Frame
public import proofs.«01_k».proof.Proof.Gen.Kernel4Ideal.Value
public import proofs.«01_k».proof.Proof.Gen.Reference4Ideal.Run
public import proofs.«01_k».proof.Proof.ModArray
public import proofs.«01_k».proof.Proof.ModRef
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results agree at an element. -/
theorem results_agree (x : Vec Ideal Cert.KernelIdeal.S16384x1536 .bf16) (k : Vec Ideal Cert.KernelIdeal.S16 .f32)
    (h : Cert.Pre_scores_finite.fn (F := Ideal) x k = fun _ => 1#1) (B r : Fin 128) (c : Fin 1024) :
    Cert.KernelIdeal.Attn.gblk x (fun e => k (ix1 e)) B (ix2 r c)
      = Cert.ReferenceIdeal.Attn.means x k (ix2 ⟨128 * B.val + r.val, by omega⟩ c) := by
  obtain ⟨hx, hk⟩ := SinkSoftmax.pre_read x k h
  rw [Cert.KernelIdeal.Attn.gblk_apply, Cert.ReferenceIdeal.Attn.means_apply]
  refine SinkSoftmax.equation (n := 255) (SinkSoftmax.Sees B r) _ _ _ ?_ ⟨r.val + 128, by omega⟩ ?_ (fun j _ => ?_) (hk _)
  · intro h0
    exact absurd h0.2.1 (Nat.not_lt_zero _)
  · exact ⟨le_refl (r.val + 128), (show r.val < r.val + 128 by omega), Or.inr (show 128 ≤ r.val + 128 by omega)⟩
  · exact SinkSoftmax.score_real _ B r _ j fun i c hc => hx i c hc

theorem algebraic_KernelIdeal_ReferenceIdeal_pre_scores_finite : algebraic_KernelIdeal_ReferenceIdeal_pre_scores_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Attn.res_eq m' c).trans ?_
  rw [(hagree c).1, (hagree c).2]
  funext i
  refine Eq.trans ?_ (Cert.KernelIdeal.Attn.result_eq m c i).symm
  refine Eq.trans ?_ (results_agree _ _ (hpre c) _ _ _).symm
  refine congrArg (Cert.ReferenceIdeal.Attn.means _ _) (funext fun a => Fin.ext ?_)
  match a with
  | ⟨0, _⟩ =>
    show (i 0).val = 128 * ((i 0).val / 128) + (i 0).val % 128
    omega
  | ⟨1, _⟩ => rfl

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Exp.run m ρ)

theorem quiescent_Kernel2Ideal : quiescent_Kernel2Ideal := fun m ρ h =>
  Cert.Kernel2Ideal.Exp.frame (F := Ideal) m ρ (Cert.Kernel2Ideal.Exp.ok_of_pre (F := Ideal) m h)

theorem quiescent_Kernel2 : quiescent_Kernel2 := fun m ρ h =>
  Cert.Kernel2Ideal.Exp.run_same _ _ (Cert.Kernel2Ideal.Exp.frame (F := Bits) m ρ (Cert.Kernel2Ideal.Exp.ok_of_pre (F := Bits) m h))

section Experts

open Cert.Kernel2Ideal Cert.Kernel2Ideal.Exp

variable (m : (ℓ : Loc nD τ sig) → Buf (Elt Ideal) ℓ) (hO : Ok m)

/-- What the reference makes of the kernel's arguments. -/
abbrev asked (c : Dev nD) : Vec Ideal S327680x128 .f32 :=
  Cert.Reference2Ideal.Exp.result (m ((c.tc : Thread nD τ).loc main_arg0)) (m ((c.tc : Thread nD τ).loc main_arg1)) (m ((c.tc : Thread nD τ).loc main_arg2))
    (shapeCast S32x1024x512 (m ((c.tc : Thread nD τ).loc main_arg3)) Cert.Kernel2Ideal.Facts₀.shapeCasts_S4x8x1024x512_S32x1024x512)
    (shapeCast S32x256x1024 (m ((c.tc : Thread nD τ).loc main_arg4)) Cert.Kernel2Ideal.Facts₀.shapeCasts_S4x8x256x1024_S32x256x1024)

/-- The experts' two results agree at an element. -/
theorem experts_agree (c : Dev nD) (i : Fin 40960) (q : Fin 8) (l : Fin 128) :
    asked m c (ix2 ⟨8 * i.val + q.val, by omega⟩ l) = result m hO c (ix2 ⟨8 * i.val + q.val, by omega⟩ l : S327680x128.Idx) := by
  obtain rfl : c = 0 := Subsingleton.elim _ _
  have he := expert_arg m ⟨i.val / 256, by omega⟩
  have hu := used_arg m
  have hlt := expert_lt m hO ⟨i.val / 256, by omega⟩
  by_cases h : ((i.val / 256 : ℕ) : ℤ) < (used m).toInt
  · refine Eq.trans ?_ (Cert.Kernel2Ideal.Exp.result_used m hO 0 i q l h).symm
    refine (Cert.Reference2Ideal.Exp.result_used _ _ _ _ _ i q l (lt_of_eq_of_lt (congrArg BitVec.toNat he.symm) hlt) (lt_of_lt_of_eq h (congrArg BitVec.toInt hu))).trans ?_
    have hi : i.val / 256 < 160 := by omega
    have ee : ∀ h' : (m (((0 : Dev nD).tc : Thread nD τ).loc main_arg0) (ix1 ⟨i.val / 256, hi⟩ : S160.Idx)).toNat < 32,
        (⟨(m (((0 : Dev nD).tc : Thread nD τ).loc main_arg0) (ix1 ⟨i.val / 256, hi⟩ : S160.Idx)).toNat, h'⟩ : Fin 32)
          = ⟨(expert m ⟨i.val / 256, hi⟩).toNat, hlt⟩ := fun h' => Fin.ext (congrArg BitVec.toNat he.symm)
    refine congr (congr (congrArg Expert.out ?_) ?_) ?_
    · rw [V_main_arg2]
    · rw [V_main_v0]
      exact congrArg (fun (e : Fin 32) (k : Fin 1024) (f : Fin 512) => shapeCast S32x1024x512 (m (((0 : Dev nD).tc : Thread nD τ).loc main_arg3))
        Cert.Kernel2Ideal.Facts₀.shapeCasts_S4x8x1024x512_S32x1024x512 (ix3 e k f)) (ee _)
    · rw [V_main_v1]
      exact congrArg (fun (e : Fin 32) (f : Fin 256) => shapeCast S32x256x1024 (m (((0 : Dev nD).tc : Thread nD τ).loc main_arg4))
        Cert.Kernel2Ideal.Facts₀.shapeCasts_S4x8x256x1024_S32x256x1024 (ix3 e f ⟨q.val * 128 + l.val, by omega⟩)) (ee _)
  · refine Eq.trans ?_ (Cert.Kernel2Ideal.Exp.result_unused m hO 0 i q l h).symm
    exact Cert.Reference2Ideal.Exp.result_unused _ _ _ _ _ i q l (fun hc => h (lt_of_lt_of_eq hc (congrArg BitVec.toInt hu.symm)))

theorem experts_eq (c : Dev nD) : asked m c = result m hO c := by
  funext j
  have hj0 : (j 0).val < 327680 := (j 0).isLt
  have e : j = (ix2 ⟨8 * ((j 0).val / 8) + (j 0).val % 8, by omega⟩ (j 1) : S327680x128.Idx) := by
    refine funext fun a => Fin.ext ?_
    match a with
    | ⟨0, _⟩ => show (j 0).val = 8 * ((j 0).val / 8) + (j 0).val % 8; omega
    | ⟨1, _⟩ => rfl
  have h := experts_agree m hO c ⟨(j 0).val / 8, by omega⟩ ⟨(j 0).val % 8, by omega⟩ (j 1)
  exact (congrArg (asked m c) e).trans (h.trans (congrArg (result m hO c) e.symm))

end Experts

theorem algebraic_Kernel2Ideal_Reference2Ideal : algebraic_Kernel2Ideal_Reference2Ideal := by
  intro m ρ m' ρ' hpre hagree
  have hO := Cert.Kernel2Ideal.Exp.ok_of_pre (F := Ideal) m hpre
  refine ⟨_, Cert.Kernel2Ideal.Exp.run (F := Ideal) m ρ hO, ?_⟩
  refine (θ_run Cert.Reference2Ideal.defs _ _).mono (fun _ h c => ⟨?_, (h c).2⟩) (Cert.Reference2Ideal.Exp.run m' ρ')
  rw [(h c).1, (hagree c).1, (hagree c).2.1, (hagree c).2.2.1, (hagree c).2.2.2.1, (hagree c).2.2.2.2]
  exact experts_eq m hO c

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Comb.run m ρ)

/-- The combination's two results agree at an element. -/
theorem combined_agree (wts : Vec Ideal Cert.Kernel3Ideal.S2x16384 .f32) (x : Vec Ideal Cert.Kernel3Ideal.S16384x1024 .f32)
    (g : Vec Ideal Cert.Kernel3Ideal.S2x1x6144 .f32) (lg lb : Vec Ideal Cert.Kernel3Ideal.S1024 .f32) (w : IVec Cert.Kernel3Ideal.S131072x128 32)
    (i : Fin 16384) (d : Fin 1024) :
    Cert.Reference3Ideal.Comb.result wts x g lg lb w (ix2 i d) = Cert.Kernel3Ideal.Comb.elemA wts x g lg lb w i d := by
  have e : Cert.Reference3Ideal.Comb.tok ⟨i.val / 8192, by omega⟩ ⟨i.val % 8192, Nat.mod_lt _ (by decide)⟩ = i := Fin.ext (by
    show 8192 * (i.val / 8192) + i.val % 8192 = i.val
    omega)
  have h := Cert.Reference3Ideal.Comb.result_apply wts x g lg lb w ⟨i.val / 8192, by omega⟩ ⟨i.val % 8192, Nat.mod_lt _ (by decide)⟩ d
  rw [e] at h
  exact h.trans (Residual.out_eq _ _ _ _ _ d)

theorem algebraic_Kernel3Ideal_Reference3Ideal : algebraic_Kernel3Ideal_Reference3Ideal := by
  intro m ρ m' ρ' _ hagree
  refine ⟨_, Cert.Kernel3Ideal.Comb.run m ρ, ?_⟩
  refine (θ_run Cert.Reference3Ideal.defs _ _).mono (fun _ h c => ⟨?_, (h c).2⟩) (Cert.Reference3Ideal.Comb.run m' ρ')
  rw [(h c).1, (hagree c).1, (hagree c).2.1, (hagree c).2.2.1, (hagree c).2.2.2.1, (hagree c).2.2.2.2.1, (hagree c).2.2.2.2.2]
  refine funext fun (j : Cert.Kernel3Ideal.S16384x1024.Idx) => ?_
  have e : j = (ix2 (j 0) (j 1) : Cert.Kernel3Ideal.S16384x1024.Idx) := funext fun a => Fin.ext (by
    match a with
    | ⟨0, _⟩ => rfl
    | ⟨1, _⟩ => rfl)
  exact (congrArg (Cert.Reference3Ideal.Comb.result _ _ _ _ _ _) e).trans (combined_agree _ _ _ _ _ _ (j 0) (j 1))

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Proj.run m ρ)

/-- The projection's two results agree at an element. -/
theorem projected_agree (x : Vec Ideal Cert.Kernel4Ideal.S16384x1024 .f32) (g : Vec Ideal Cert.Kernel4Ideal.S2x1x6144 .f32) (p : IVec Cert.Kernel4Ideal.S2x8192 32)
    (w : Vec Ideal Cert.Kernel4Ideal.S1024x1536 .f32) (b : Vec Ideal Cert.Kernel4Ideal.S1536 .f32) (i : Fin 16384) (d : Fin 1536) :
    Cert.Reference4Ideal.Proj.result x g p w b (ix2 i d) = Cert.Kernel4Ideal.Proj.elemA x g p w b i d := by
  have e : Cert.Reference4Ideal.Proj.tok ⟨i.val / 8192, by omega⟩ ⟨i.val % 8192, Nat.mod_lt _ (by decide)⟩ = i := Fin.ext (by
    show 8192 * (i.val / 8192) + i.val % 8192 = i.val
    omega)
  have h := Cert.Reference4Ideal.Proj.result_apply x g p w b ⟨i.val / 8192, by omega⟩ ⟨i.val % 8192, Nat.mod_lt _ (by decide)⟩ d
  rw [e] at h
  exact h

theorem algebraic_Kernel4Ideal_Reference4Ideal : algebraic_Kernel4Ideal_Reference4Ideal := by
  intro m ρ m' ρ' _ hagree
  refine ⟨_, Cert.Kernel4Ideal.Proj.run m ρ, ?_⟩
  refine (θ_run Cert.Reference4Ideal.defs _ _).mono (fun _ h c => ⟨?_, (h c).2⟩) (Cert.Reference4Ideal.Proj.run m' ρ')
  rw [(h c).1, (hagree c).1, (hagree c).2.1, (hagree c).2.2.1, (hagree c).2.2.2.1, (hagree c).2.2.2.2]
  refine funext fun (j : Cert.Kernel4Ideal.S16384x1536.Idx) => ?_
  have e : j = (ix2 (j 0) (j 1) : Cert.Kernel4Ideal.S16384x1536.Idx) := funext fun a => Fin.ext (by
    match a with
    | ⟨0, _⟩ => rfl
    | ⟨1, _⟩ => rfl)
  exact (congrArg (Cert.Reference4Ideal.Proj.result _ _ _ _ _) e).trans (projected_agree _ _ _ _ _ (j 0) (j 1))

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Mod.run m ρ)

theorem algebraic_Kernel5Ideal_Reference5Ideal : algebraic_Kernel5Ideal_Reference5Ideal := by
  intro m ρ m' ρ' _ hagree
  refine ⟨_, Cert.Kernel5Ideal.Mod.run m ρ, ?_⟩
  refine (θ_run Cert.Reference5Ideal.defs _ _).mono (fun _ h c => ⟨?_, (h c).2⟩) (Cert.Reference5Ideal.Mod.run m' ρ')
  rw [(h c).1, (hagree c).1, (hagree c).2.1, (hagree c).2.2]
  refine funext fun (j : Cert.Kernel5Ideal.S2x1x6144.Idx) => ?_
  have e : j = (ix3 (j 0) 0 (j 2) : Cert.Kernel5Ideal.S2x1x6144.Idx) := funext fun a => Fin.ext (by
    have h1 : (j 1).val < 1 := (j 1).isLt
    match a with
    | ⟨0, _⟩ => rfl
    | ⟨1, _⟩ => show (j 1).val = 0; omega
    | ⟨2, _⟩ => rfl)
  exact (congrArg (Cert.Reference5Ideal.Mod.result _ _ _) e).trans (Cert.Reference5Ideal.Mod.result_apply _ _ _ (j 0) (j 2))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_scores_finite.Gen.facts, Cert.Pre_plan_valid.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  quiescent_Kernel2, quiescent_Kernel2Ideal, quiescent_Reference2Ideal, fun m ρ _ => quiescent_Reference2Ideal m ρ trivial,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), algebraic_KernelIdeal_ReferenceIdeal_pre_scores_finite,
  (trivial : preserves_Kernel2_Kernel2Ideal), algebraic_Kernel2Ideal_Reference2Ideal,
  IdealRules.named_const.statement Cert.Kernel3Ideal.κ "inv_alpha" .f32 0x3F3504F3#32 (((Real.sqrt 2)⁻¹ : ℝ) : EReal) rfl,
  algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal⟩

end Cert.Proof

end
